-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkvg [hPre_finite_qkvg : Cert.Pre_finite_qkvg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkvg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_qkvg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_qkvg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_qkvg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkvg [hPre_finite_qkvg : Cert.Pre_finite_qkvg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkvg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_qkvg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_qkvg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_qkvg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gate [hPre_finite_gate : Cert.Pre_finite_gate.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gate [hPre_finite_gate : Cert.Pre_finite_gate.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gw [hPre_finite_gw : Cert.Pre_finite_gw.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gw.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite_gw.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gw [hPre_finite_gw : Cert.Pre_finite_gw.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gw.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite_gw.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_qkvg [hKernelIdeal : Cert.KernelIdeal.Facts] [hPre_finite_qkvg : Cert.Pre_finite_qkvg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkvg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_qkvg [hReferenceIdeal : Cert.ReferenceIdeal.Facts] [hPre_finite_qkvg : Cert.Pre_finite_qkvg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkvg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_gate [hKernel4Ideal : Cert.Kernel4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gate m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_gate [hReference4Ideal : Cert.Reference4Ideal.Facts] [hPre_finite_gate : Cert.Pre_finite_gate.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gate m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite_gw [hKernel5Ideal : Cert.Kernel5Ideal.Facts] [hPre_finite_gw : Cert.Pre_finite_gw.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gw m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite_gw [hReference5Ideal : Cert.Reference5Ideal.Facts] [hPre_finite_gw : Cert.Pre_finite_gw.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gw m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite_qkvg [hKernelIdeal : Cert.KernelIdeal.Facts] [hReferenceIdeal : Cert.ReferenceIdeal.Facts] [hPre_finite_qkvg : Cert.Pre_finite_qkvg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkvg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v18_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_gate [hKernel4Ideal : Cert.Kernel4Ideal.Facts] [hReference4Ideal : Cert.Reference4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gate m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)) (v4 : (c : Dev Cert.Kernel4Ideal.nD) → Buf (Elt Ideal) ((c.tc : Thread Cert.Kernel4Ideal.nD Cert.Kernel4Ideal.τ).loc Cert.Kernel4Ideal.main_v42_4)) (v5 : (c : Dev Cert.Kernel4Ideal.nD) → Buf (Elt Ideal) ((c.tc : Thread Cert.Kernel4Ideal.nD Cert.Kernel4Ideal.τ).loc Cert.Kernel4Ideal.main_v42_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_v42_4) = v4 c
          ∧ r.2.mem ((c.tc : Thread Cert.Kernel4Ideal.nD Cert.Kernel4Ideal.τ).loc Cert.Kernel4Ideal.main_v42_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v161) = v0 c
          ∧ r.2.mem ((c.tc : Thread Cert.Reference4Ideal.nD Cert.Reference4Ideal.τ).loc Cert.Reference4Ideal.main_v163) = v1 c
          ∧ r.2.mem ((c.tc : Thread Cert.Reference4Ideal.nD Cert.Reference4Ideal.τ).loc Cert.Reference4Ideal.main_v165) = v2 c
          ∧ r.2.mem ((c.tc : Thread Cert.Reference4Ideal.nD Cert.Reference4Ideal.τ).loc Cert.Reference4Ideal.main_v167) = v3 c
          ∧ r.2.mem ((c.tc : Thread Cert.Reference4Ideal.nD Cert.Reference4Ideal.τ).loc Cert.Reference4Ideal.main_v168) = v4 c
          ∧ r.2.mem ((c.tc : Thread Cert.Reference4Ideal.nD Cert.Reference4Ideal.τ).loc Cert.Reference4Ideal.main_v138) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_gw [hKernel5Ideal : Cert.Kernel5Ideal.Facts] [hReference5Ideal : Cert.Reference5Ideal.Facts] [hPre_finite_gw : Cert.Pre_finite_gw.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gw m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)) (v4 : (c : Dev Cert.Kernel5Ideal.nD) → Buf (Elt Ideal) ((c.tc : Thread Cert.Kernel5Ideal.nD Cert.Kernel5Ideal.τ).loc Cert.Kernel5Ideal.main_v11_5)) (v5 : (c : Dev Cert.Kernel5Ideal.nD) → Buf (Elt Ideal) ((c.tc : Thread Cert.Kernel5Ideal.nD Cert.Kernel5Ideal.τ).loc Cert.Kernel5Ideal.main_v11_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_v11_5) = v4 c
          ∧ r.2.mem ((c.tc : Thread Cert.Kernel5Ideal.nD Cert.Kernel5Ideal.τ).loc Cert.Kernel5Ideal.main_v11_6) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v37) = v3 c
          ∧ r.2.mem ((c.tc : Thread Cert.Reference5Ideal.nD Cert.Reference5Ideal.τ).loc Cert.Reference5Ideal.main_v40) = v4 c
          ∧ r.2.mem ((c.tc : Thread Cert.Reference5Ideal.nD Cert.Reference5Ideal.τ).loc Cert.Reference5Ideal.main_v43) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qkvg : Cert.Pre_finite_qkvg.Facts) (hPre_finite_gate : Cert.Pre_finite_gate.Facts) (hPre_finite_gw : Cert.Pre_finite_gw.Facts),
    quiescent_Kernel (hKernel := hKernel)
    ∧ quiescent_KernelIdeal (hKernelIdeal := hKernelIdeal)
    ∧ quiescent_KernelIdeal_pre_finite_qkvg (hKernelIdeal := hKernelIdeal) (hPre_finite_qkvg := hPre_finite_qkvg)
    ∧ quiescent_ReferenceIdeal (hReferenceIdeal := hReferenceIdeal)
    ∧ quiescent_ReferenceIdeal_pre_finite_qkvg (hReferenceIdeal := hReferenceIdeal) (hPre_finite_qkvg := hPre_finite_qkvg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_gate (hKernel4Ideal := hKernel4Ideal) (hPre_finite_gate := hPre_finite_gate)
    ∧ quiescent_Reference4Ideal (hReference4Ideal := hReference4Ideal)
    ∧ quiescent_Reference4Ideal_pre_finite_gate (hReference4Ideal := hReference4Ideal) (hPre_finite_gate := hPre_finite_gate)
    ∧ quiescent_Kernel5 (hKernel5 := hKernel5)
    ∧ quiescent_Kernel5Ideal (hKernel5Ideal := hKernel5Ideal)
    ∧ quiescent_Kernel5Ideal_pre_finite_gw (hKernel5Ideal := hKernel5Ideal) (hPre_finite_gw := hPre_finite_gw)
    ∧ quiescent_Reference5Ideal (hReference5Ideal := hReference5Ideal)
    ∧ quiescent_Reference5Ideal_pre_finite_gw (hReference5Ideal := hReference5Ideal) (hPre_finite_gw := hPre_finite_gw)
    ∧ preserves_Kernel_KernelIdeal
    ∧ algebraic_KernelIdeal_ReferenceIdeal_pre_finite_qkvg (hKernelIdeal := hKernelIdeal) (hReferenceIdeal := hReferenceIdeal) (hPre_finite_qkvg := hPre_finite_qkvg)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_gate (hKernel4Ideal := hKernel4Ideal) (hReference4Ideal := hReference4Ideal) (hPre_finite_gate := hPre_finite_gate)
    ∧ preserves_Kernel5_Kernel5Ideal
    ∧ algebraic_Kernel5Ideal_Reference5Ideal_pre_finite_gw (hKernel5Ideal := hKernel5Ideal) (hReference5Ideal := hReference5Ideal) (hPre_finite_gw := hPre_finite_gw)
-- ==== Pre_finite_gate.lean ====
abbrev S16x2048x1024 : Shape := ⟨3, ![16, 2048, 1024]⟩
abbrev S1024 : Shape := ⟨1, ![1024]⟩
abbrev S1024x6144 : Shape := ⟨2, ![1024, 6144]⟩
abbrev S128x1x4x256 : Shape := ⟨4, ![128, 1, 4, 256]⟩
abbrev S128x1x4x512 : Shape := ⟨4, ![128, 1, 4, 512]⟩
abbrev S128x1x2048 : Shape := ⟨3, ![128, 1, 2048]⟩
abbrev S128x4x256x512 : Shape := ⟨4, ![128, 4, 256, 512]⟩
abbrev S_ : Shape := ⟨0, ![]⟩

class Facts : Prop where
  bcast_S_S128x1x2048 : S_.BroadcastsInDim S128x1x2048 (![] : Fin 0 → Fin S128x1x2048.rank)

variable [Facts]

def fn {F : FTy → Type} [FloatOps F] (main_arg0 : FVec F S16x2048x1024 .f32) (main_arg1 : FVec F S1024 .f32) (main_arg2 : FVec F S1024x6144 .f32) (main_arg3 : FVec F S128x1x4x256 .f32) (main_arg4 : FVec F S128x1x4x256 .f32) (main_arg5 : FVec F S128x1x4x512 .f32) (main_arg6 : FVec F S128x1x2048 .f32) (main_arg7 : FVec F S128x4x256x512 .f32) : IVec S128x1x2048 1 :=
  let main_v0 : FVec F S128x1x2048 .f32 := Host.absf main_arg6
  let main_cst : FVec F S_ .f32 := constant S_ .f32 0x7F800000#32
  let main_v1 : FVec F S128x1x2048 .f32 := broadcastInDim S128x1x2048 ![] bcast_S_S128x1x2048 main_cst
  let main_v2 : IVec S128x1x2048 1 := cmpf .olt main_v0 main_v1
  main_v2
-- ==== Pre_finite_gw.lean ====
abbrev S16x2048x1024 : Shape := ⟨3, ![16, 2048, 1024]⟩
abbrev S1024 : Shape := ⟨1, ![1024]⟩
abbrev S1024x4608 : Shape := ⟨2, ![1024, 4608]⟩
abbrev S128x2048 : Shape := ⟨2, ![128, 2048]⟩
abbrev S128x512 : Shape := ⟨2, ![128, 512]⟩
abbrev S128x128x4x64 : Shape := ⟨4, ![128, 128, 4, 64]⟩
abbrev S32x128 : Shape := ⟨2, ![32, 128]⟩
abbrev S32 : Shape := ⟨1, ![32]⟩
abbrev S_ : Shape := ⟨0, ![]⟩

class Facts : Prop where
  bcast_S_S1024 : S_.BroadcastsInDim S1024 (![] : Fin 0 → Fin S1024.rank)
  bcast_S_S1024x4608 : S_.BroadcastsInDim S1024x4608 (![] : Fin 0 → Fin S1024x4608.rank)

variable [Facts]

def fn {F : FTy → Type} [FloatOps F] (main_arg0 : FVec F S16x2048x1024 .f32) (main_arg1 : FVec F S1024 .f32) (main_arg2 : FVec F S1024x4608 .f32) (main_arg3 : FVec F S128x2048 .f32) (main_arg4 : FVec F S128x512 .f32) (main_arg5 : FVec F S128x128x4x64 .f32) (main_arg6 : FVec F S128x128x4x64 .f32) (main_arg7 : FVec F S128x2048 .f32) (main_arg8 : FVec F S32x128 .f32) (main_arg9 : FVec F S32 .f32) : IVec S1024 1 × IVec S1024x4608 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4608 .f32 := Host.absf main_arg2
  let main_cst_0 : FVec F S_ .f32 := constant S_ .f32 0x7F800000#32
  let main_v4 : FVec F S1024x4608 .f32 := broadcastInDim S1024x4608 ![] bcast_S_S1024x4608 main_cst_0
  let main_v5 : IVec S1024x4608 1 := cmpf .olt main_v3 main_v4
  (main_v2, main_v5)
-- ==== Pre_finite_qkvg.lean ====
abbrev S16x2048x4x256 : Shape := ⟨4, ![16, 2048, 4, 256]⟩
abbrev S16x2048x4x512 : Shape := ⟨4, ![16, 2048, 4, 512]⟩
abbrev S16x2048x2048 : Shape := ⟨3, ![16, 2048, 2048]⟩
abbrev S16x2048x1024 : Shape := ⟨3, ![16, 2048, 1024]⟩
abbrev S2048x1024 : Shape := ⟨2, ![2048, 1024]⟩
abbrev S1024 : Shape := ⟨1, ![1024]⟩
abbrev S_ : Shape := ⟨0, ![]⟩

class Facts : Prop where
  bcast_S_S16x2048x4x256 : S_.BroadcastsInDim S16x2048x4x256 (![] : Fin 0 → Fin S16x2048x4x256.rank)
  bcast_S_S16x2048x4x512 : S_.BroadcastsInDim S16x2048x4x512 (![] : Fin 0 → Fin S16x2048x4x512.rank)
  bcast_S_S16x2048x2048 : S_.BroadcastsInDim S16x2048x2048 (![] : Fin 0 → Fin S16x2048x2048.rank)

variable [Facts]

def fn {F : FTy → Type} [FloatOps F] (main_arg0 : FVec F S16x2048x4x256 .f32) (main_arg1 : FVec F S16x2048x4x256 .f32) (main_arg2 : FVec F S16x2048x4x512 .f32) (main_arg3 : FVec F S16x2048x2048 .f32) (main_arg4 : FVec F S16x2048x1024 .f32) (main_arg5 : FVec F S2048x1024 .f32) (main_arg6 : FVec F S1024 .f32) : IVec S16x2048x4x256 1 × IVec S16x2048x4x256 1 × IVec S16x2048x4x512 1 × IVec S16x2048x2048 1 :=
  let main_v0 : FVec F S16x2048x4x256 .f32 := Host.absf main_arg0
  let main_cst : FVec F S_ .f32 := constant S_ .f32 0x7F800000#32
  let main_v1 : FVec F S16x2048x4x256 .f32 := broadcastInDim S16x2048x4x256 ![] bcast_S_S16x2048x4x256 main_cst
  let main_v2 : IVec S16x2048x4x256 1 := cmpf .olt main_v0 main_v1
  let main_v3 : FVec F S16x2048x4x256 .f32 := Host.absf main_arg1
  let main_cst_0 : FVec F S_ .f32 := constant S_ .f32 0x7F800000#32
  let main_v4 : FVec F S16x2048x4x256 .f32 := broadcastInDim S16x2048x4x256 ![] bcast_S_S16x2048x4x256 main_cst_0
  let main_v5 : IVec S16x2048x4x256 1 := cmpf .olt main_v3 main_v4
  let main_v6 : FVec F S16x2048x4x512 .f32 := Host.absf main_arg2
  let main_cst_1 : FVec F S_ .f32 := constant S_ .f32 0x7F800000#32
  let main_v7 : FVec F S16x2048x4x512 .f32 := broadcastInDim S16x2048x4x512 ![] bcast_S_S16x2048x4x512 main_cst_1
  let main_v8 : IVec S16x2048x4x512 1 := cmpf .olt main_v6 main_v7
  let main_v9 : FVec F S16x2048x2048 .f32 := Host.absf main_arg3
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  (main_v2, main_v5, main_v8, main_v11)
-- ==== Kernel.lean ====
abbrev S16x2048x4x256 : Shape := ⟨4, ![16, 2048, 4, 256]⟩
abbrev S16x2048x4x512 : Shape := ⟨4, ![16, 2048, 4, 512]⟩
abbrev S16x2048x2048 : Shape := ⟨3, ![16, 2048, 2048]⟩
abbrev S16x2048x1024 : Shape := ⟨3, ![16, 2048, 1024]⟩
abbrev S2048x1024 : Shape := ⟨2, ![2048, 1024]⟩
abbrev S1024 : Shape := ⟨1, ![1024]⟩
abbrev S4 : Shape := ⟨1, ![4]⟩
abbrev S_ : Shape := ⟨0, ![]⟩
abbrev S2048x4 : Shape := ⟨2, ![2048, 4]⟩
abbrev S1x4 : Shape := ⟨2, ![1, 4]⟩
abbrev S1x2048x4x1 : Shape := ⟨4, ![1, 2048, 4, 1]⟩
abbrev S32768x1024 : Shape := ⟨2, ![32768, 1024]⟩
abbrev S32768x2048 : Shape := ⟨2, ![32768, 2048]⟩
abbrev S1x1024 : Shape := ⟨2, ![1, 1024]⟩
abbrev S16x4x256x512 : Shape := ⟨4, ![16, 4, 256, 512]⟩
abbrev S1024x1024 : Shape := ⟨2, ![1024, 1024]⟩
abbrev S1024x2048 : Shape := ⟨2, ![1024, 2048]⟩
abbrev S1x4x256x512 : Shape := ⟨4, ![1, 4, 256, 512]⟩
abbrev S4x1024x512 : Shape := ⟨3, ![4, 1024, 512]⟩
abbrev S256x256 : Shape := ⟨2, ![256, 256]⟩
abbrev S256x512 : Shape := ⟨2, ![256, 512]⟩
abbrev S1x1x256x512 : Shape := ⟨4, ![1, 1, 256, 512]⟩
abbrev S1 : Shape := ⟨1, ![1]⟩
abbrev S256 : Shape := ⟨1, ![256]⟩
abbrev S256x1 : Shape := ⟨2, ![256, 1]⟩
abbrev S1x256x512 : Shape := ⟨3, ![1, 256, 512]⟩
abbrev S1x1024x512 : Shape := ⟨3, ![1, 1024, 512]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 75
  | .vmem => 17
  | .smem => 1
  | _ => 0

abbrev bufTy : (tb : Table) → Fin (tcTables nBuf tb) → BufTy
  | .hbm, ⟨0, _⟩ => ⟨S16x2048x4x256, .f32⟩
  | .hbm, ⟨1, _⟩ => ⟨S16x2048x4x256, .f32⟩
  | .hbm, ⟨2, _⟩ => ⟨S16x2048x4x512, .f32⟩
  | .hbm, ⟨3, _⟩ => ⟨S16x2048x2048, .f32⟩
  | .hbm, ⟨4, _⟩ => ⟨S16x2048x1024, .f32⟩
  | .hbm, ⟨5, _⟩ => ⟨S2048x1024, .f32⟩
  | .hbm, ⟨6, _⟩ => ⟨S1024, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S2048x4, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S2048x4, .i32⟩
  | .hbm, ⟨25, _⟩ => ⟨S2048x4, .i32⟩
  | .hbm, ⟨26, _⟩ => ⟨S_, .i32⟩
  | .hbm, ⟨27, _⟩ => ⟨S2048x4, .i32⟩
  | .hbm, ⟨28, _⟩ => ⟨S2048x4, .i1⟩
  | .hbm, ⟨29, _⟩ => ⟨S_, .i32⟩
  | .hbm, ⟨30, _⟩ => ⟨S2048x4, .i32⟩
  | .hbm, ⟨31, _⟩ => ⟨S2048x4, .i1⟩
  | .hbm, ⟨32, _⟩ => ⟨S_, .i32⟩
  | .hbm, ⟨33, _⟩ => ⟨S_, .i1⟩
  | .hbm, ⟨34, _⟩ => ⟨S2048x4, .i1⟩
  | .hbm, ⟨35, _⟩ => ⟨S2048x4, .i1⟩
  | .hbm, ⟨36, _⟩ => ⟨S2048x4, .i1⟩
  | .hbm, ⟨37, _⟩ => ⟨S2048x4, .i32⟩
  | .hbm, ⟨38, _⟩ => ⟨S2048x4, .i32⟩
  | .hbm, ⟨39, _⟩ => ⟨S2048x4, .i32⟩
  | .hbm, ⟨40, _⟩ => ⟨S2048x4, .f32⟩
  | .hbm, ⟨41, _⟩ => ⟨S_, .f32⟩
  | .hbm, ⟨42, _⟩ => ⟨S2048x4, .f32⟩
  | .hbm, ⟨43, _⟩ => ⟨S2048x4, .f32⟩
  | .hbm, ⟨44, _⟩ => ⟨S1x4, .f32⟩
  | .hbm, ⟨45, _⟩ => ⟨S2048x4, .f32⟩
  | .hbm, ⟨46, _⟩ => ⟨S2048x4, .f32⟩
  | .hbm, ⟨47, _⟩ => ⟨S2048x4, .f32⟩
  | .hbm, ⟨48, _⟩ => ⟨S1x2048x4x1, .f32⟩
  | .hbm, ⟨49, _⟩ => ⟨S2048x4, .f32⟩
  | .hbm, ⟨50, _⟩ => ⟨S2048x4, .f32⟩
  | .hbm, ⟨51, _⟩ => ⟨S_, .f32⟩
  | .hbm, ⟨52, _⟩ => ⟨S2048x4, .f32⟩
  | .hbm, ⟨53, _⟩ => ⟨S2048x4, .f32⟩
  | .hbm, ⟨54, _⟩ => ⟨S1x2048x4x1, .f32⟩
  | .hbm, ⟨55, _⟩ => ⟨S16x2048x4x256, .f32⟩
  | .hbm, ⟨56, _⟩ => ⟨S16x2048x4x256, .f32⟩
  | .hbm, ⟨57, _⟩ => ⟨S32768x1024, .f32⟩
  | .hbm, ⟨58, _⟩ => ⟨S32768x1024, .bf16⟩
  | .hbm, ⟨59, _⟩ => ⟨S16x2048x4x256, .f32⟩
  | .hbm, ⟨60, _⟩ => ⟨S16x2048x4x256, .f32⟩
  | .hbm, ⟨61, _⟩ => ⟨S32768x1024, .f32⟩
  | .hbm, ⟨62, _⟩ => ⟨S32768x1024, .bf16⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S32768x2048, .f32⟩
  | .hbm, ⟨68, _⟩ => ⟨S32768x2048, .bf16⟩
  | .hbm, ⟨69, _⟩ => ⟨S32768x2048, .f32⟩
  | .hbm, ⟨70, _⟩ => ⟨S32768x2048, .bf16⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S16x4x256x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | .local _ .vmem, ⟨10, _⟩ => ⟨S2048x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x4x256x512, .f32⟩
  | .local _ .vmem, ⟨15, _⟩ => ⟨S1x4x256x512, .f32⟩
  | .local _ .vmem, ⟨16, _⟩ => ⟨S4x1024x512, .bf16⟩
  | .local _ .smem, ⟨0, _⟩ => ⟨S4, .f32⟩
  | _, _ => ⟨S16x2048x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40_0 : Ref sig .tc := ⟨.hbm, 73, rfl⟩
abbrev main_v40_1 : Ref sig .tc := ⟨.hbm, 74, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16x2048x4x256 : Shape := ⟨4, ![16, 2048, 4, 256]⟩
abbrev S16x2048x4x512 : Shape := ⟨4, ![16, 2048, 4, 512]⟩
abbrev S16x2048x2048 : Shape := ⟨3, ![16, 2048, 2048]⟩
abbrev S16x2048x1024 : Shape := ⟨3, ![16, 2048, 1024]⟩
abbrev S2048x1024 : Shape := ⟨2, ![2048, 1024]⟩
abbrev S1024 : Shape := ⟨1, ![1024]⟩
abbrev S4 : Shape := ⟨1, ![4]⟩
abbrev S_ : Shape := ⟨0, ![]⟩
abbrev S16x4x256x512 : Shape := ⟨4, ![16, 4, 256, 512]⟩
abbrev S16x16x128x4x256 : Shape := ⟨5, ![16, 16, 128, 4, 256]⟩
abbrev S16x16x128x4x512 : Shape := ⟨5, ![16, 16, 128, 4, 512]⟩
abbrev S1x16x128x4x256 : Shape := ⟨5, ![1, 16, 128, 4, 256]⟩
abbrev S16x128x4x256 : Shape := ⟨4, ![16, 128, 4, 256]⟩
abbrev S1x16x128x4x512 : Shape := ⟨5, ![1, 16, 128, 4, 512]⟩
abbrev S16x128x4x512 : Shape := ⟨4, ![16, 128, 4, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S16x4x128x128 : Shape := ⟨4, ![16, 4, 128, 128]⟩
abbrev S1x4x128x128 : Shape := ⟨4, ![1, 4, 128, 128]⟩
abbrev S16x4x512x128 : Shape := ⟨4, ![16, 4, 512, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S16x2048x4 : Shape := ⟨3, ![16, 2048, 4]⟩
abbrev S16x2048x4x1 : Shape := ⟨4, ![16, 2048, 4, 1]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 186
  | .vmem => 0
  | .smem => 0
  | _ => 0

abbrev hbmTy0_0 (i : Nat) : BufTy := match i % 128 with
  | 0 => ⟨S16x2048x4x256, .f32⟩
  | 1 => ⟨S16x2048x4x256, .f32⟩
  | 2 => ⟨S16x2048x4x512, .f32⟩
  | 3 => ⟨S16x2048x2048, .f32⟩
  | 4 => ⟨S16x2048x1024, .f32⟩
  | 5 => ⟨S2048x1024, .f32⟩
  | 6 => ⟨S1024, .f32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S4, .f32⟩
  | 15 => ⟨S4, .f32⟩
  | 16 => ⟨S4, .f32⟩
  | 17 => ⟨S_, .f32⟩
  | 18 => ⟨S16x2048x4x256, .f32⟩
  | 19 => ⟨S16x2048x4x256, .f32⟩
  | 20 => ⟨S_, .f32⟩
  | 21 => ⟨S16x4x256x512, .f32⟩
  | 22 => ⟨S16x16x128x4x256, .f32⟩
  | 23 => ⟨S16x16x128x4x256, .f32⟩
  | 24 => ⟨S16x16x128x4x256, .f32⟩
  | 25 => ⟨S16x16x128x4x256, .f32⟩
  | 26 => ⟨S16x16x128x4x512, .f32⟩
  | 27 => ⟨S16x16x128x4x512, .f32⟩
  | 28 => ⟨S_, .f32⟩
  | 29 => ⟨S16x16x128x4x512, .f32⟩
  | 30 => ⟨S_, .i32⟩
  | 31 => ⟨S16x16x128x4x256, .f32⟩
  | 32 => ⟨S16x16x128x4x256, .f32⟩
  | 33 => ⟨S16x16x128x4x512, .f32⟩
  | 34 => ⟨S4, .f32⟩
  | 35 => ⟨S_, .i32⟩
  | 36 => ⟨S16x4x256x512, .f32⟩
  | 37 => ⟨S16x16x128x4x512, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x16x128x4x256, .f32⟩
  | 45 => ⟨S16x128x4x256, .f32⟩
  | 46 => ⟨S_, .i32⟩
  | 47 => ⟨S_, .i32⟩
  | 48 => ⟨S_, .i32⟩
  | 49 => ⟨S_, .i32⟩
  | 50 => ⟨S1x16x128x4x256, .f32⟩
  | 51 => ⟨S16x128x4x256, .f32⟩
  | 52 => ⟨S_, .i32⟩
  | 53 => ⟨S_, .i32⟩
  | 54 => ⟨S_, .i32⟩
  | 55 => ⟨S_, .i32⟩
  | 56 => ⟨S1x16x128x4x512, .f32⟩
  | 57 => ⟨S16x128x4x512, .f32⟩
  | 58 => ⟨S128, .f32⟩
  | 59 => ⟨S128x1, .f32⟩
  | 60 => ⟨S1x128, .f32⟩
  | 61 => ⟨S128x128, .f32⟩
  | 62 => ⟨S128x128, .f32⟩
  | 63 => ⟨S128x128, .f32⟩
  | 64 => ⟨S_, .f32⟩
  | 65 => ⟨S128x128, .f32⟩
  | 66 => ⟨S128x128, .i1⟩
  | 67 => ⟨S_, .f32⟩
  | 68 => ⟨S128x128, .f32⟩
  | 69 => ⟨S128x128, .f32⟩
  | 70 => ⟨S1x128x128, .f32⟩
  | 71 => ⟨S4x1x1, .f32⟩
  | 72 => ⟨S4x128x128, .f32⟩
  | 73 => ⟨S4x128x128, .f32⟩
  | 74 => ⟨S4x128x128, .f32⟩
  | 75 => ⟨S4x128x128, .f32⟩
  | 76 => ⟨S_, .f32⟩
  | 77 => ⟨S_, .f32⟩
  | 78 => ⟨S4x128x128, .i1⟩
  | 79 => ⟨S4x128x128, .f32⟩
  | 80 => ⟨S4x128x128, .f32⟩
  | 81 => ⟨S16x4x128x128, .f32⟩
  | 82 => ⟨S1x4x128x128, .f32⟩
  | 83 => ⟨S16x4x128x128, .f32⟩
  | 84 => ⟨S16x4x128x128, .f32⟩
  | 85 => ⟨S16x4x512x128, .f32⟩
  | 86 => ⟨S16x128x4x512, .f32⟩
  | 87 => ⟨S128x1, .f32⟩
  | 88 => ⟨S_, .f32⟩
  | 89 => ⟨S128x1, .f32⟩
  | 90 => ⟨S128x1, .f32⟩
  | 91 => ⟨S1x4, .f32⟩
  | 92 => ⟨S128x4, .f32⟩
  | 93 => ⟨S128x4, .f32⟩
  | 94 => ⟨S128x4, .f32⟩
  | 95 => ⟨S128x4, .f32⟩
  | 96 => ⟨S16x4x512x128, .f32⟩
  | 97 => ⟨S16x128x4x512, .f32⟩
  | 98 => ⟨S1x128x4x1, .f32⟩
  | 99 => ⟨S16x128x4x512, .f32⟩
  | 100 => ⟨S16x128x4x512, .f32⟩
  | 101 => ⟨S16x128x4x512, .f32⟩
  | 102 => ⟨S_, .f32⟩
  | 103 => ⟨S128, .f32⟩
  | 104 => ⟨S128, .f32⟩
  | 105 => ⟨S128x1, .f32⟩
  | 106 => ⟨S1x4, .f32⟩
  | 107 => ⟨S128x4, .f32⟩
  | 108 => ⟨S128x4, .f32⟩
  | 109 => ⟨S128x4, .f32⟩
  | 110 => ⟨S128x4, .f32⟩
  | 111 => ⟨S1x128x4x1, .f32⟩
  | 112 => ⟨S16x128x4x256, .f32⟩
  | 113 => ⟨S16x128x4x256, .f32⟩
  | 114 => ⟨S_, .f32⟩
  | 115 => ⟨S4, .f32⟩
  | 116 => ⟨S4, .f32⟩
  | 117 => ⟨S4, .f32⟩
  | 118 => ⟨S1x4x1x1, .f32⟩
  | 119 => ⟨S16x4x256x512, .f32⟩
  | 120 => ⟨S16x4x256x512, .f32⟩
  | 121 => ⟨S16x4x256x512, .f32⟩
  | 122 => ⟨S16x4x256x512, .f32⟩
  | 123 => ⟨S1x16x128x4x512, .f32⟩
  | 124 => ⟨S_, .i32⟩
  | 125 => ⟨S_, .i32⟩
  | 126 => ⟨S_, .i32⟩
  | 127 => ⟨S_, .i32⟩
  | _ => ⟨S16x2048x4x256, .f32⟩

abbrev hbmTy0_1 (i : Nat) : BufTy := match i % 128 with
  | 0 => ⟨S16x16x128x4x512, .f32⟩
  | 1 => ⟨S_, .i32⟩
  | 2 => ⟨S_, .i32⟩
  | 3 => ⟨S16x16x128x4x512, .f32⟩
  | 4 => ⟨S16x2048x4x512, .f32⟩
  | 5 => ⟨S_, .f32⟩
  | 6 => ⟨S16x2048x4, .f32⟩
  | 7 => ⟨S16x2048x4x1, .f32⟩
  | 8 => ⟨S_, .f32⟩
  | 9 => ⟨S16x2048x4x1, .f32⟩
  | 10 => ⟨S16x2048x4x1, .f32⟩
  | 11 => ⟨S16x2048x4x512, .f32⟩
  | 12 => ⟨S16x2048x4x512, .f32⟩
  | 13 => ⟨S16x2048x4x512, .f32⟩
  | 14 => ⟨S_, .f32⟩
  | 15 => ⟨S16x2048x4, .f32⟩
  | 16 => ⟨S16x2048x4x1, .f32⟩
  | 17 => ⟨S_, .f32⟩
  | 18 => ⟨S16x2048x4x1, .f32⟩
  | 19 => ⟨S16x2048x4x1, .f32⟩
  | 20 => ⟨S16x2048x4x512, .f32⟩
  | 21 => ⟨S16x2048x4x512, .f32⟩
  | 22 => ⟨S_, .f32⟩
  | 23 => ⟨S16x2048x4x1, .f32⟩
  | 24 => ⟨S16x2048x4x1, .f32⟩
  | 25 => ⟨S16x2048x4x1, .f32⟩
  | 26 => ⟨S16x2048x4x512, .f32⟩
  | 27 => ⟨S16x2048x4x512, .f32⟩
  | 28 => ⟨S16x2048x2048, .f32⟩
  | 29 => ⟨S16x2048x2048, .f32⟩
  | 30 => ⟨S16x2048x2048, .f32⟩
  | 31 => ⟨S_, .f32⟩
  | 32 => ⟨S16x2048x2048, .f32⟩
  | 33 => ⟨S16x2048x2048, .f32⟩
  | 34 => ⟨S_, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x1024, .f32⟩
  | 40 => ⟨S16x2048x1024, .f32⟩
  | 41 => ⟨S16x2048x1024, .f32⟩
  | 42 => ⟨S_, .f32⟩
  | 43 => ⟨S16x2048, .f32⟩
  | 44 => ⟨S16x2048x1, .f32⟩
  | 45 => ⟨S_, .f32⟩
  | 46 => ⟨S16x2048x1, .f32⟩
  | 47 => ⟨S16x2048x1, .f32⟩
  | 48 => ⟨S_, .f32⟩
  | 49 => ⟨S16x2048x1, .f32⟩
  | 50 => ⟨S16x2048x1, .f32⟩
  | 51 => ⟨S16x2048x1, .f32⟩
  | 52 => ⟨S16x2048x1024, .f32⟩
  | 53 => ⟨S16x2048x1024, .f32⟩
  | 54 => ⟨S1x1x1024, .f32⟩
  | 55 => ⟨S16x2048x1024, .f32⟩
  | 56 => ⟨S16x2048x1024, .f32⟩
  | 57 => ⟨S32768x1024, .f32⟩
  | _ => ⟨S16x2048x4x256, .f32⟩

abbrev hbmTy (i : Nat) : BufTy := match i / 128 with
  | 0 => hbmTy0_0 i
  | 1 => hbmTy0_1 i
  | _ => ⟨S16x2048x4x256, .f32⟩

abbrev bufTy : (tb : Table) → Fin (tcTables nBuf tb) → BufTy
  | .hbm, ⟨i, _⟩ => hbmTy i
  | _, _ => ⟨S16x2048x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_c : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev main_while0c_c_18 : Ref sig .tc := ⟨.hbm, 38, rfl⟩
abbrev main_while0c_v58 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_c_2 : Ref sig .tc := ⟨.hbm, 43, rfl⟩
abbrev main_while0b_call0_v0 : Ref sig .tc := ⟨.hbm, 44, rfl⟩
abbrev main_while0b_v58 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_c_2 : Ref sig .tc := ⟨.hbm, 49, rfl⟩
abbrev main_while0b_call1_v0 : Ref sig .tc := ⟨.hbm, 50, rfl⟩
abbrev main_while0b_v59 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_call2_v0 : Ref sig .tc := ⟨.hbm, 56, rfl⟩
abbrev main_while0b_v60 : Ref sig .tc := ⟨.hbm, 57, rfl⟩
abbrev main_while0b_v61 : Ref sig .tc := ⟨.hbm, 58, rfl⟩
abbrev main_while0b_v62 : Ref sig .tc := ⟨.hbm, 59, rfl⟩
abbrev main_while0b_v63 : Ref sig .tc := ⟨.hbm, 60, rfl⟩
abbrev main_while0b_v64 : Ref sig .tc := ⟨.hbm, 61, rfl⟩
abbrev main_while0b_v65 : Ref sig .tc := ⟨.hbm, 62, rfl⟩
abbrev main_while0b_v66 : Ref sig .tc := ⟨.hbm, 63, rfl⟩
abbrev main_while0b_cst_18 : Ref sig .tc := ⟨.hbm, 64, rfl⟩
abbrev main_while0b_v67 : Ref sig .tc := ⟨.hbm, 65, rfl⟩
abbrev main_while0b_v68 : Ref sig .tc := ⟨.hbm, 66, rfl⟩
abbrev main_while0b_cst_19 : Ref sig .tc := ⟨.hbm, 67, rfl⟩
abbrev main_while0b_v69 : Ref sig .tc := ⟨.hbm, 68, rfl⟩
abbrev main_while0b_v70 : Ref sig .tc := ⟨.hbm, 69, rfl⟩
abbrev main_while0b_v71 : Ref sig .tc := ⟨.hbm, 70, rfl⟩
abbrev main_while0b_v72 : Ref sig .tc := ⟨.hbm, 71, rfl⟩
abbrev main_while0b_v73 : Ref sig .tc := ⟨.hbm, 72, rfl⟩
abbrev main_while0b_v74 : Ref sig .tc := ⟨.hbm, 73, rfl⟩
abbrev main_while0b_v75 : Ref sig .tc := ⟨.hbm, 74, rfl⟩
abbrev main_while0b_v76 : Ref sig .tc := ⟨.hbm, 75, rfl⟩
abbrev main_while0b_cst_20 : Ref sig .tc := ⟨.hbm, 76, rfl⟩
abbrev main_while0b_call3_v0 : Ref sig .tc := ⟨.hbm, 77, rfl⟩
abbrev main_while0b_call3_v1 : Ref sig .tc := ⟨.hbm, 78, rfl⟩
abbrev main_while0b_call3_v2 : Ref sig .tc := ⟨.hbm, 79, rfl⟩
abbrev main_while0b_v77 : Ref sig .tc := ⟨.hbm, 80, rfl⟩
abbrev main_while0b_v78 : Ref sig .tc := ⟨.hbm, 81, rfl⟩
abbrev main_while0b_v79 : Ref sig .tc := ⟨.hbm, 82, rfl⟩
abbrev main_while0b_v80 : Ref sig .tc := ⟨.hbm, 83, rfl⟩
abbrev main_while0b_v81 : Ref sig .tc := ⟨.hbm, 84, rfl⟩
abbrev main_while0b_v82 : Ref sig .tc := ⟨.hbm, 85, rfl⟩
abbrev main_while0b_v83 : Ref sig .tc := ⟨.hbm, 86, rfl⟩
abbrev main_while0b_v84 : Ref sig .tc := ⟨.hbm, 87, rfl⟩
abbrev main_while0b_cst_21 : Ref sig .tc := ⟨.hbm, 88, rfl⟩
abbrev main_while0b_v85 : Ref sig .tc := ⟨.hbm, 89, rfl⟩
abbrev main_while0b_v86 : Ref sig .tc := ⟨.hbm, 90, rfl⟩
abbrev main_while0b_v87 : Ref sig .tc := ⟨.hbm, 91, rfl⟩
abbrev main_while0b_v88 : Ref sig .tc := ⟨.hbm, 92, rfl⟩
abbrev main_while0b_v89 : Ref sig .tc := ⟨.hbm, 93, rfl⟩
abbrev main_while0b_v90 : Ref sig .tc := ⟨.hbm, 94, rfl⟩
abbrev main_while0b_v91 : Ref sig .tc := ⟨.hbm, 95, rfl⟩
abbrev main_while0b_v92 : Ref sig .tc := ⟨.hbm, 96, rfl⟩
abbrev main_while0b_v93 : Ref sig .tc := ⟨.hbm, 97, rfl⟩
abbrev main_while0b_v94 : Ref sig .tc := ⟨.hbm, 98, rfl⟩
abbrev main_while0b_v95 : Ref sig .tc := ⟨.hbm, 99, rfl⟩
abbrev main_while0b_v96 : Ref sig .tc := ⟨.hbm, 100, rfl⟩
abbrev main_while0b_v97 : Ref sig .tc := ⟨.hbm, 101, rfl⟩
abbrev main_while0b_cst_22 : Ref sig .tc := ⟨.hbm, 102, rfl⟩
abbrev main_while0b_v98 : Ref sig .tc := ⟨.hbm, 103, rfl⟩
abbrev main_while0b_v99 : Ref sig .tc := ⟨.hbm, 104, rfl⟩
abbrev main_while0b_v100 : Ref sig .tc := ⟨.hbm, 105, rfl⟩
abbrev main_while0b_v101 : Ref sig .tc := ⟨.hbm, 106, rfl⟩
abbrev main_while0b_v102 : Ref sig .tc := ⟨.hbm, 107, rfl⟩
abbrev main_while0b_v103 : Ref sig .tc := ⟨.hbm, 108, rfl⟩
abbrev main_while0b_v104 : Ref sig .tc := ⟨.hbm, 109, rfl⟩
abbrev main_while0b_v105 : Ref sig .tc := ⟨.hbm, 110, rfl⟩
abbrev main_while0b_v106 : Ref sig .tc := ⟨.hbm, 111, rfl⟩
abbrev main_while0b_v107 : Ref sig .tc := ⟨.hbm, 112, rfl⟩
abbrev main_while0b_v108 : Ref sig .tc := ⟨.hbm, 113, rfl⟩
abbrev main_while0b_cst_23 : Ref sig .tc := ⟨.hbm, 114, rfl⟩
abbrev main_while0b_v109 : Ref sig .tc := ⟨.hbm, 115, rfl⟩
abbrev main_while0b_v110 : Ref sig .tc := ⟨.hbm, 116, rfl⟩
abbrev main_while0b_v111 : Ref sig .tc := ⟨.hbm, 117, rfl⟩
abbrev main_while0b_v112 : Ref sig .tc := ⟨.hbm, 118, rfl⟩
abbrev main_while0b_v113 : Ref sig .tc := ⟨.hbm, 119, rfl⟩
abbrev main_while0b_v114 : Ref sig .tc := ⟨.hbm, 120, rfl⟩
abbrev main_while0b_v115 : Ref sig .tc := ⟨.hbm, 121, rfl⟩
abbrev main_while0b_v116 : Ref sig .tc := ⟨.hbm, 122, rfl⟩
abbrev main_while0b_call4_v0 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_v117 : Ref sig .tc := ⟨.hbm, 128, rfl⟩
abbrev main_while0b_c_24 : Ref sig .tc := ⟨.hbm, 129, rfl⟩
abbrev main_while0b_v118 : Ref sig .tc := ⟨.hbm, 130, rfl⟩
abbrev main_v19 : Ref sig .tc := ⟨.hbm, 131, rfl⟩
abbrev main_v20 : Ref sig .tc := ⟨.hbm, 132, rfl⟩
abbrev main_cst_4 : Ref sig .tc := ⟨.hbm, 133, rfl⟩
abbrev main_v21 : Ref sig .tc := ⟨.hbm, 134, rfl⟩
abbrev main_v22 : Ref sig .tc := ⟨.hbm, 135, rfl⟩
abbrev main_cst_5 : Ref sig .tc := ⟨.hbm, 136, rfl⟩
abbrev main_v23 : Ref sig .tc := ⟨.hbm, 137, rfl⟩
abbrev main_v24 : Ref sig .tc := ⟨.hbm, 138, rfl⟩
abbrev main_v25 : Ref sig .tc := ⟨.hbm, 139, rfl⟩
abbrev main_v26 : Ref sig .tc := ⟨.hbm, 140, rfl⟩
abbrev main_v27 : Ref sig .tc := ⟨.hbm, 141, rfl⟩
abbrev main_cst_6 : Ref sig .tc := ⟨.hbm, 142, rfl⟩
abbrev main_v28 : Ref sig .tc := ⟨.hbm, 143, rfl⟩
abbrev main_v29 : Ref sig .tc := ⟨.hbm, 144, rfl⟩
abbrev main_cst_7 : Ref sig .tc := ⟨.hbm, 145, rfl⟩
abbrev main_v30 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_cst_8 : Ref sig .tc := ⟨.hbm, 150, rfl⟩
abbrev main_v34 : Ref sig .tc := ⟨.hbm, 151, rfl⟩
abbrev main_v35 : Ref sig .tc := ⟨.hbm, 152, rfl⟩
abbrev main_v36 : Ref sig .tc := ⟨.hbm, 153, rfl⟩
abbrev main_v37 : Ref sig .tc := ⟨.hbm, 154, rfl⟩
abbrev main_v38 : Ref sig .tc := ⟨.hbm, 155, rfl⟩
abbrev main_v39 : Ref sig .tc := ⟨.hbm, 156, rfl⟩
abbrev main_call5_v0 : Ref sig .tc := ⟨.hbm, 157, rfl⟩
abbrev main_call5_v1 : Ref sig .tc := ⟨.hbm, 158, rfl⟩
abbrev main_call5_cst : Ref sig .tc := ⟨.hbm, 159, rfl⟩
abbrev main_call5_v2 : Ref sig .tc := ⟨.hbm, 160, rfl⟩
abbrev main_call5_v3 : Ref sig .tc := ⟨.hbm, 161, rfl⟩
abbrev main_call5_cst_0 : Ref sig .tc := ⟨.hbm, 162, rfl⟩
abbrev main_call5_v4 : Ref sig .tc := ⟨.hbm, 163, rfl⟩
abbrev main_call5_v5 : Ref sig .tc := ⟨.hbm, 164, rfl⟩
abbrev main_v40 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_v44 : Ref sig .tc := ⟨.hbm, 169, rfl⟩
abbrev main_cst_9 : Ref sig .tc := ⟨.hbm, 170, rfl⟩
abbrev main_v45 : Ref sig .tc := ⟨.hbm, 171, rfl⟩
abbrev main_v46 : Ref sig .tc := ⟨.hbm, 172, rfl⟩
abbrev main_cst_10 : Ref sig .tc := ⟨.hbm, 173, rfl⟩
abbrev main_v47 : Ref sig .tc := ⟨.hbm, 174, rfl⟩
abbrev main_v48 : Ref sig .tc := ⟨.hbm, 175, rfl⟩
abbrev main_cst_11 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_v57 : Ref sig .tc := ⟨.hbm, 185, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S32768x2048 : Shape := ⟨2, ![32768, 2048]⟩
abbrev S2048x1024 : Shape := ⟨2, ![2048, 1024]⟩
abbrev S16x2048x1024 : Shape := ⟨3, ![16, 2048, 1024]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S16x2048x1024, .f32⟩
  | .hbm, ⟨3, _⟩ => ⟨S32768x1024, .f32⟩
  | .hbm, ⟨4, _⟩ => ⟨S32768x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x2048 : Shape := ⟨2, ![32768, 2048]⟩
abbrev S2048x1024 : Shape := ⟨2, ![2048, 1024]⟩
abbrev S16x2048x1024 : Shape := ⟨3, ![16, 2048, 1024]⟩
abbrev S16x2048x2048 : Shape := ⟨3, ![16, 2048, 2048]⟩
abbrev S32768x1024 : Shape := ⟨2, ![32768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S16x2048x1024, .f32⟩
  | .hbm, ⟨3, _⟩ => ⟨S32768x2048, .f32⟩
  | .hbm, ⟨4, _⟩ => ⟨S16x2048x2048, .f32⟩
  | .hbm, ⟨5, _⟩ => ⟨S16x2048x1024, .f32⟩
  | .hbm, ⟨6, _⟩ => ⟨S16x2048x1024, .f32⟩
  | .hbm, ⟨7, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S128x2048 : Shape := ⟨2, ![128, 2048]⟩
abbrev S2048x1024 : Shape := ⟨2, ![2048, 1024]⟩
abbrev S128x1x1024 : Shape := ⟨3, ![128, 1, 1024]⟩
abbrev S1024 : Shape := ⟨1, ![1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 7
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048x1024, .f32⟩
  | .hbm, ⟨2, _⟩ => ⟨S128x1x1024, .f32⟩
  | .hbm, ⟨3, _⟩ => ⟨S1024, .f32⟩
  | .hbm, ⟨4, _⟩ => ⟨S128x1024, .f32⟩
  | .hbm, ⟨5, _⟩ => ⟨S1x1024, .f32⟩
  | .hbm, ⟨6, _⟩ => ⟨S128x1024, .f32⟩
  | .local _ .vmem, ⟨0, _⟩ => ⟨S128x2048, .f32⟩
  | .local _ .vmem, ⟨1, _⟩ => ⟨S2048x1024, .f32⟩
  | .local _ .vmem, ⟨2, _⟩ => ⟨S128x1024, .f32⟩
  | .local _ .vmem, ⟨3, _⟩ => ⟨S1x1024, .f32⟩
  | .local _ .vmem, ⟨4, _⟩ => ⟨S128x1024, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference3Ideal.lean ====
abbrev S128x2048 : Shape := ⟨2, ![128, 2048]⟩
abbrev S2048x1024 : Shape := ⟨2, ![2048, 1024]⟩
abbrev S128x1x1024 : Shape := ⟨3, ![128, 1, 1024]⟩
abbrev S1024 : Shape := ⟨1, ![1024]⟩
abbrev S128x1x2048 : Shape := ⟨3, ![128, 1, 2048]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩

abbrev nBuf : Space → Nat
  | .hbm => 24
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x1024, .f32⟩
  | .hbm, ⟨2, _⟩ => ⟨S128x1x1024, .f32⟩
  | .hbm, ⟨3, _⟩ => ⟨S1024, .f32⟩
  | .hbm, ⟨4, _⟩ => ⟨S128x1x2048, .f32⟩
  | .hbm, ⟨5, _⟩ => ⟨S128x1x1024, .f32⟩
  | .hbm, ⟨6, _⟩ => ⟨S128x1x1024, .f32⟩
  | .hbm, ⟨7, _⟩ => ⟨S128x1x1024, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x1024, .f32⟩
  | .hbm, ⟨19, _⟩ => ⟨S128x1x1024, .f32⟩
  | .hbm, ⟨20, _⟩ => ⟨S1x1x1024, .f32⟩
  | .hbm, ⟨21, _⟩ => ⟨S128x1x1024, .f32⟩
  | .hbm, ⟨22, _⟩ => ⟨S128x1x1024, .f32⟩
  | .hbm, ⟨23, _⟩ => ⟨S128x1024, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x6144 : Shape := ⟨2, ![1024, 6144]⟩
abbrev S128x1x4x256 : Shape := ⟨4, ![128, 1, 4, 256]⟩
abbrev S128x1x4x512 : Shape := ⟨4, ![128, 1, 4, 512]⟩
abbrev S128x1x2048 : Shape := ⟨3, ![128, 1, 2048]⟩
abbrev S128x4x256x512 : Shape := ⟨4, ![128, 4, 256, 512]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S4 : Shape := ⟨1, ![4]⟩
abbrev S1x4x1 : Shape := ⟨3, ![1, 4, 1]⟩
abbrev S128x4x256 : Shape := ⟨3, ![128, 4, 256]⟩
abbrev S128x1024 : Shape := ⟨2, ![128, 1024]⟩
abbrev S128x2048 : Shape := ⟨2, ![128, 2048]⟩
abbrev S32768x1024 : Shape := ⟨2, ![32768, 1024]⟩
abbrev S1x1024 : Shape := ⟨2, ![1, 1024]⟩
abbrev S32768x2048 : Shape := ⟨2, ![32768, 2048]⟩
abbrev S512x1024 : Shape := ⟨2, ![512, 1024]⟩
abbrev S512x128 : Shape := ⟨2, ![512, 128]⟩
abbrev S2x4x256x512 : Shape := ⟨4, ![2, 4, 256, 512]⟩
abbrev S512x2048 : Shape := ⟨2, ![512, 2048]⟩
abbrev S1024x128 : Shape := ⟨2, ![1024, 128]⟩
abbrev S256x128 : Shape := ⟨2, ![256, 128]⟩
abbrev S512 : Shape := ⟨1, ![512]⟩
abbrev S512x1 : Shape := ⟨2, ![512, 1]⟩
abbrev S256 : Shape := ⟨1, ![256]⟩
abbrev S256x1 : Shape := ⟨2, ![256, 1]⟩
abbrev S1x512 : Shape := ⟨2, ![1, 512]⟩
abbrev S1x1x256x512 : Shape := ⟨4, ![1, 1, 256, 512]⟩
abbrev S256x512 : Shape := ⟨2, ![256, 512]⟩
abbrev S1 : Shape := ⟨1, ![1]⟩
abbrev S1x1 : Shape := ⟨2, ![1, 1]⟩
abbrev S1024x512 : Shape := ⟨2, ![1024, 512]⟩
abbrev S512x512 : Shape := ⟨2, ![512, 512]⟩

abbrev nBuf : Space → Nat
  | .hbm => 61
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x6144, .f32⟩
  | .hbm, ⟨3, _⟩ => ⟨S128x1x4x256, .f32⟩
  | .hbm, ⟨4, _⟩ => ⟨S128x1x4x256, .f32⟩
  | .hbm, ⟨5, _⟩ => ⟨S128x1x4x512, .f32⟩
  | .hbm, ⟨6, _⟩ => ⟨S128x1x2048, .f32⟩
  | .hbm, ⟨7, _⟩ => ⟨S128x4x256x512, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2048, .i32⟩
  | .hbm, ⟨17, _⟩ => ⟨S2048, .f32⟩
  | .hbm, ⟨18, _⟩ => ⟨S2048x1, .f32⟩
  | .hbm, ⟨19, _⟩ => ⟨S1x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S1x4x1, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S1x4x1, .f32⟩
  | .hbm, ⟨40, _⟩ => ⟨S128x4x256, .f32⟩
  | .hbm, ⟨41, _⟩ => ⟨S128x4x256, .f32⟩
  | .hbm, ⟨42, _⟩ => ⟨S128x4x256, .f32⟩
  | .hbm, ⟨43, _⟩ => ⟨S128x1024, .f32⟩
  | .hbm, ⟨44, _⟩ => ⟨S128x4x256, .f32⟩
  | .hbm, ⟨45, _⟩ => ⟨S128x4x256, .f32⟩
  | .hbm, ⟨46, _⟩ => ⟨S128x4x256, .f32⟩
  | .hbm, ⟨47, _⟩ => ⟨S128x1024, .f32⟩
  | .hbm, ⟨48, _⟩ => ⟨S128x2048, .f32⟩
  | .hbm, ⟨49, _⟩ => ⟨S128x2048, .f32⟩
  | .hbm, ⟨50, _⟩ => ⟨S32768x1024, .f32⟩
  | .hbm, ⟨51, _⟩ => ⟨S1x1024, .f32⟩
  | .hbm, ⟨52, _⟩ => ⟨S1024x6144, .bf16⟩
  | .hbm, ⟨53, _⟩ => ⟨S2048x128, .f32⟩
  | .hbm, ⟨54, _⟩ => ⟨S2048x128, .f32⟩
  | .hbm, ⟨55, _⟩ => ⟨S32768x1024, .bf16⟩
  | .hbm, ⟨56, _⟩ => ⟨S32768x1024, .bf16⟩
  | .hbm, ⟨57, _⟩ => ⟨S32768x2048, .bf16⟩
  | .hbm, ⟨58, _⟩ => ⟨S32768x2048, .bf16⟩
  | .hbm, ⟨59, _⟩ => ⟨S128x2048, .f32⟩
  | .hbm, ⟨60, _⟩ => ⟨S128x4x256x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S128x1024, .f32⟩
  | .local _ .vmem, ⟨9, _⟩ => ⟨S128x1024, .f32⟩
  | .local _ .vmem, ⟨10, _⟩ => ⟨S128x2048, .f32⟩
  | .local _ .vmem, ⟨11, _⟩ => ⟨S128x2048, .f32⟩
  | .local _ .vmem, ⟨12, _⟩ => ⟨S2x4x256x512, .f32⟩
  | .local _ .vmem, ⟨13, _⟩ => ⟨S2x4x256x512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S128x2048, .f32⟩
  | .local _ .vmem, ⟨23, _⟩ => ⟨S2x4x256x512, .f32⟩
  | .local _ .vmem, ⟨24, _⟩ => ⟨S2x4x256x512, .f32⟩
  | .local _ .vmem, ⟨25, _⟩ => ⟨S1024x128, .f32⟩
  | .local _ .vmem, ⟨26, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42_0 : Ref sig .tc := ⟨.hbm, 55, rfl⟩
abbrev main_v42_1 : Ref sig .tc := ⟨.hbm, 56, rfl⟩
abbrev main_v42_2 : Ref sig .tc := ⟨.hbm, 57, rfl⟩
abbrev main_v42_3 : Ref sig .tc := ⟨.hbm, 58, rfl⟩
abbrev main_v42_4 : Ref sig .tc := ⟨.hbm, 59, rfl⟩
abbrev main_v42_5 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def k0_off1 (i : grid0.Coords) (c0_i32_10 : BitVec 32) : Fin 2 → Nat :=
  let arg0 : BitVec 32 := BitVec.ofNat 32 (i 0).val
  let c2_i32 : BitVec 32 := 2#32
  let v25 : BitVec 32 := Scalar.muli arg0 c2_i32
  let v26 : BitVec 32 := Scalar.addi v25 c0_i32_10
  let v39 : Index := Scalar.indexCast v26
  let c0_19 : Index := 0#32
  ![v39.toNat, 0]
def k0_off2 (i : grid0.Coords) (c0_i32_48 : BitVec 32) : Fin 2 → Nat :=
  let arg0 : BitVec 32 := BitVec.ofNat 32 (i 0).val
  let c2_i32_47 : BitVec 32 := 2#32
  let v117 : BitVec 32 := Scalar.muli arg0 c2_i32_47
  let v118 : BitVec 32 := Scalar.addi v117 c0_i32_48
  let v131 : Index := Scalar.indexCast v118
  let c512 : Index := 512#32
  ![v131.toNat, 512]
def k0_off3 (i : grid0.Coords) (c0_i32_84 : BitVec 32) : Fin 2 → Nat :=
  let arg0 : BitVec 32 := BitVec.ofNat 32 (i 0).val
  let c2_i32_83 : BitVec 32 := 2#32
  let v209 : BitVec 32 := Scalar.muli arg0 c2_i32_83
  let v210 : BitVec 32 := Scalar.addi v209 c0_i32_84
  let v223 : Index := Scalar.indexCast v210
  let c1024 : Index := 1024#32
  ![v223.toNat, 1024]
def k0_off4 (i : grid0.Coords) (c0_i32_123 : BitVec 32) : Fin 2 → Nat :=
  let arg0 : BitVec 32 := BitVec.ofNat 32 (i 0).val
  let c2_i32_122 : BitVec 32 := 2#32
  let v301 : BitVec 32 := Scalar.muli arg0 c2_i32_122
  let v302 : BitVec 32 := Scalar.addi v301 c0_i32_123
  let v315 : Index := Scalar.indexCast v302
  let c1536 : Index := 1536#32
  ![v315.toNat, 1536]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x4x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x4x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16x2048x1024 : Shape := ⟨3, ![16, 2048, 1024]⟩
abbrev S1024 : Shape := ⟨1, ![1024]⟩
abbrev S1024x6144 : Shape := ⟨2, ![1024, 6144]⟩
abbrev S128x1x4x256 : Shape := ⟨4, ![128, 1, 4, 256]⟩
abbrev S128x1x4x512 : Shape := ⟨4, ![128, 1, 4, 512]⟩
abbrev S128x1x2048 : Shape := ⟨3, ![128, 1, 2048]⟩
abbrev S128x4x256x512 : Shape := ⟨4, ![128, 4, 256, 512]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6144 : Shape := ⟨3, ![16, 2048, 6144]⟩
abbrev S16x2048x2048 : Shape := ⟨3, ![16, 2048, 2048]⟩
abbrev S2048 : Shape := ⟨1, ![2048]⟩
abbrev S16x2048x4x256 : Shape := ⟨4, ![16, 2048, 4, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S16x2048x4x128 : Shape := ⟨4, ![16, 2048, 4, 128]⟩
abbrev S4 : Shape := ⟨1, ![4]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S128x4x1x1 : Shape := ⟨4, ![128, 4, 1, 1]⟩
abbrev S1x4x1x1 : Shape := ⟨4, ![1, 4, 1, 1]⟩
abbrev S128x4x512x1 : Shape := ⟨4, ![128, 4, 512, 1]⟩
abbrev S1x4 : Shape := ⟨2, ![1, 4]⟩
abbrev S1x1x4x1 : Shape := ⟨4, ![1, 1, 4, 1]⟩
abbrev S128x1x4 : Shape := ⟨3, ![128, 1, 4]⟩
abbrev S128x1x4x1 : Shape := ⟨4, ![128, 1, 4, 1]⟩
abbrev S32768x1024 : Shape := ⟨2, ![32768, 1024]⟩
abbrev S32768x2048 : Shape := ⟨2, ![32768, 2048]⟩
abbrev S128x2048 : Shape := ⟨2, ![128, 2048]⟩

abbrev nBuf : Space → Nat
  | .hbm => 209
  | .vmem => 0
  | .smem => 0
  | _ => 0

abbrev hbmTy0_0 (i : Nat) : BufTy := match i % 128 with
  | 0 => ⟨S16x2048x1024, .f32⟩
  | 1 => ⟨S1024, .f32⟩
  | 2 => ⟨S1024x6144, .f32⟩
  | 3 => ⟨S128x1x4x256, .f32⟩
  | 4 => ⟨S128x1x4x256, .f32⟩
  | 5 => ⟨S128x1x4x512, .f32⟩
  | 6 => ⟨S128x1x2048, .f32⟩
  | 7 => ⟨S128x4x256x512, .f32⟩
  | 8 => ⟨S16x2048x1024, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x1024, .f32⟩
  | 20 => ⟨S16x2048x1024, .f32⟩
  | 21 => ⟨S1x1x1024, .f32⟩
  | 22 => ⟨S16x2048x1024, .f32⟩
  | 23 => ⟨S16x2048x1024, .f32⟩
  | 24 => ⟨S16x2048x6144, .f32⟩
  | 25 => ⟨S16x2048x1024, .f32⟩
  | 26 => ⟨S16x2048x1024, .f32⟩
  | 27 => ⟨S16x2048x2048, .f32⟩
  | 28 => ⟨S16x2048x2048, .f32⟩
  | 29 => ⟨S2048, .i32⟩
  | 30 => ⟨S16x2048x4x256, .f32⟩
  | 31 => ⟨S128, .f32⟩
  | 32 => ⟨S128, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S2048, .f32⟩
  | 40 => ⟨S2048x1, .f32⟩
  | 41 => ⟨S1x128, .f32⟩
  | 42 => ⟨S2048x128, .f32⟩
  | 43 => ⟨S2048x128, .f32⟩
  | 44 => ⟨S2048x128, .f32⟩
  | 45 => ⟨S2048x128, .f32⟩
  | 46 => ⟨S1x2048x1x128, .f32⟩
  | 47 => ⟨S2048x128, .f32⟩
  | 48 => ⟨S1x2048x1x128, .f32⟩
  | 49 => ⟨S16x2048x4x128, .f32⟩
  | 50 => ⟨S16x2048x4x128, .f32⟩
  | 51 => ⟨S16x2048x4x128, .f32⟩
  | 52 => ⟨S16x2048x4x128, .f32⟩
  | 53 => ⟨S16x2048x4x128, .f32⟩
  | 54 => ⟨S16x2048x4x128, .f32⟩
  | 55 => ⟨S16x2048x4x128, .f32⟩
  | 56 => ⟨S16x2048x4x128, .f32⟩
  | 57 => ⟨S16x2048x4x128, .f32⟩
  | 58 => ⟨S16x2048x4x128, .f32⟩
  | 59 => ⟨S16x2048x4x128, .f32⟩
  | 60 => ⟨S16x2048x4x128, .f32⟩
  | 61 => ⟨S16x2048x4x256, .f32⟩
  | 62 => ⟨S16x2048x4x256, .f32⟩
  | 63 => ⟨S128, .f32⟩
  | 64 => ⟨S128, .f32⟩
  | 65 => ⟨S_, .f32⟩
  | 66 => ⟨S128, .f32⟩
  | 67 => ⟨S128, .f32⟩
  | 68 => ⟨S_, .f32⟩
  | 69 => ⟨S128, .f32⟩
  | 70 => ⟨S128, .f32⟩
  | 71 => ⟨S2048, .f32⟩
  | 72 => ⟨S2048x1, .f32⟩
  | 73 => ⟨S1x128, .f32⟩
  | 74 => ⟨S2048x128, .f32⟩
  | 75 => ⟨S2048x128, .f32⟩
  | 76 => ⟨S2048x128, .f32⟩
  | 77 => ⟨S2048x128, .f32⟩
  | 78 => ⟨S1x2048x1x128, .f32⟩
  | 79 => ⟨S2048x128, .f32⟩
  | 80 => ⟨S1x2048x1x128, .f32⟩
  | 81 => ⟨S16x2048x4x128, .f32⟩
  | 82 => ⟨S16x2048x4x128, .f32⟩
  | 83 => ⟨S16x2048x4x128, .f32⟩
  | 84 => ⟨S16x2048x4x128, .f32⟩
  | 85 => ⟨S16x2048x4x128, .f32⟩
  | 86 => ⟨S16x2048x4x128, .f32⟩
  | 87 => ⟨S16x2048x4x128, .f32⟩
  | 88 => ⟨S16x2048x4x128, .f32⟩
  | 89 => ⟨S16x2048x4x128, .f32⟩
  | 90 => ⟨S16x2048x4x128, .f32⟩
  | 91 => ⟨S16x2048x4x128, .f32⟩
  | 92 => ⟨S16x2048x4x128, .f32⟩
  | 93 => ⟨S16x2048x4x256, .f32⟩
  | 94 => ⟨S_, .f32⟩
  | 95 => ⟨S128x1x4x256, .f32⟩
  | 96 => ⟨S128x1x4x256, .f32⟩
  | 97 => ⟨S_, .f32⟩
  | 98 => ⟨S4, .f32⟩
  | 99 => ⟨S4, .f32⟩
  | 100 => ⟨S_, .f32⟩
  | 101 => ⟨S4, .f32⟩
  | 102 => ⟨S4, .f32⟩
  | 103 => ⟨S4, .f32⟩
  | 104 => ⟨S4, .f32⟩
  | 105 => ⟨S4, .f32⟩
  | 106 => ⟨S1, .f32⟩
  | 107 => ⟨S1x1, .f32⟩
  | 108 => ⟨S1x1, .f32⟩
  | 109 => ⟨S1x1, .f32⟩
  | 110 => ⟨S_, .f32⟩
  | 111 => ⟨S1x1, .f32⟩
  | 112 => ⟨S1x1, .i1⟩
  | 113 => ⟨S_, .f32⟩
  | 114 => ⟨S1x1, .f32⟩
  | 115 => ⟨S1x1, .f32⟩
  | 116 => ⟨S1x1x1, .f32⟩
  | 117 => ⟨S4x1x1, .f32⟩
  | 118 => ⟨S4x1x1, .f32⟩
  | 119 => ⟨S4x1x1, .f32⟩
  | 120 => ⟨S4x1x1, .f32⟩
  | 121 => ⟨S_, .f32⟩
  | 122 => ⟨S_, .f32⟩
  | 123 => ⟨S4x1x1, .i1⟩
  | 124 => ⟨S4x1x1, .f32⟩
  | 125 => ⟨S4x1x1, .f32⟩
  | 126 => ⟨S128x4x1x1, .f32⟩
  | 127 => ⟨S1x4x1x1, .f32⟩
  | _ => ⟨S16x2048x1024, .f32⟩

abbrev hbmTy0_1 (i : Nat) : BufTy := match i % 128 with
  | 0 => ⟨S128x4x1x1, .f32⟩
  | 1 => ⟨S128x4x1x1, .f32⟩
  | 2 => ⟨S128x4x512x1, .f32⟩
  | 3 => ⟨S128x1x4x512, .f32⟩
  | 4 => ⟨S1x1, .f32⟩
  | 5 => ⟨S_, .f32⟩
  | 6 => ⟨S1x1, .f32⟩
  | 7 => ⟨S1x1, .f32⟩
  | 8 => ⟨S1x4, .f32⟩
  | 9 => ⟨S1x4, .f32⟩
  | 10 => ⟨S1x4, .f32⟩
  | 11 => ⟨S1x4, .f32⟩
  | 12 => ⟨S128x4x512x1, .f32⟩
  | 13 => ⟨S128x1x4x512, .f32⟩
  | 14 => ⟨S1x1x4x1, .f32⟩
  | 15 => ⟨S128x1x4x512, .f32⟩
  | 16 => ⟨S128x1x4x512, .f32⟩
  | 17 => ⟨S128x1x4x512, .f32⟩
  | 18 => ⟨S_, .f32⟩
  | 19 => ⟨S1, .f32⟩
  | 20 => ⟨S1, .f32⟩
  | 21 => ⟨S1x1, .f32⟩
  | 22 => ⟨S1x4, .f32⟩
  | 23 => ⟨S1x4, .f32⟩
  | 24 => ⟨S1x4, .f32⟩
  | 25 => ⟨S1x4, .f32⟩
  | 26 => ⟨S1x1x4x1, .f32⟩
  | 27 => ⟨S128x1x4x256, .f32⟩
  | 28 => ⟨S128x1x4x256, .f32⟩
  | 29 => ⟨S_, .f32⟩
  | 30 => ⟨S4, .f32⟩
  | 31 => ⟨S4, .f32⟩
  | 32 => ⟨S4, .f32⟩
  | 33 => ⟨S1x4x1x1, .f32⟩
  | 34 => ⟨S128x4x256x512, .f32⟩
  | 35 => ⟨S128x4x256x512, .f32⟩
  | 36 => ⟨S128x4x256x512, .f32⟩
  | 37 => ⟨S128x4x256x512, .f32⟩
  | 38 => ⟨S_, .f32⟩
  | 39 => ⟨S128x1x4, .f32⟩
  | 40 => ⟨S128x1x4x1, .f32⟩
  | 41 => ⟨S_, .f32⟩
  | 42 => ⟨S128x1x4x1, .f32⟩
  | 43 => ⟨S128x1x4x1, .f32⟩
  | 44 => ⟨S128x1x4x512, .f32⟩
  | 45 => ⟨S128x1x4x512, .f32⟩
  | 46 => ⟨S128x1x4x512, .f32⟩
  | 47 => ⟨S_, .f32⟩
  | 48 => ⟨S128x1x4, .f32⟩
  | 49 => ⟨S128x1x4x1, .f32⟩
  | 50 => ⟨S_, .f32⟩
  | 51 => ⟨S128x1x4x1, .f32⟩
  | 52 => ⟨S128x1x4x1, .f32⟩
  | 53 => ⟨S128x1x4x512, .f32⟩
  | 54 => ⟨S128x1x4x512, .f32⟩
  | 55 => ⟨S_, .f32⟩
  | 56 => ⟨S128x1x4x1, .f32⟩
  | 57 => ⟨S128x1x4x1, .f32⟩
  | 58 => ⟨S128x1x4x1, .f32⟩
  | 59 => ⟨S128x1x4x512, .f32⟩
  | 60 => ⟨S128x1x4x512, .f32⟩
  | 61 => ⟨S128x1x2048, .f32⟩
  | 62 => ⟨S128x1x2048, .f32⟩
  | 63 => ⟨S128x1x2048, .f32⟩
  | 64 => ⟨S_, .f32⟩
  | 65 => ⟨S128x1x2048, .f32⟩
  | 66 => ⟨S128x1x2048, .f32⟩
  | 67 => ⟨S_, .f32⟩
  | 68 => ⟨S128x1x2048, .f32⟩
  | 69 => ⟨S128x1x2048, .f32⟩
  | 70 => ⟨S128x1x2048, .f32⟩
  | 71 => ⟨S128x1x2048, .f32⟩
  | 72 => ⟨S32768x1024, .f32⟩
  | 73 => ⟨S32768x1024, .bf16⟩
  | 74 => ⟨S32768x1024, .f32⟩
  | 75 => ⟨S32768x1024, .bf16⟩
  | 76 => ⟨S32768x2048, .f32⟩
  | 77 => ⟨S32768x2048, .bf16⟩
  | 78 => ⟨S32768x2048, .f32⟩
  | 79 => ⟨S32768x2048, .bf16⟩
  | 80 => ⟨S128x2048, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_6 : Ref sig .tc := ⟨.hbm, 94, rfl⟩
abbrev main_v79 : Ref sig .tc := ⟨.hbm, 95, rfl⟩
abbrev main_v80 : Ref sig .tc := ⟨.hbm, 96, rfl⟩
abbrev main_cst_7 : Ref sig .tc := ⟨.hbm, 97, rfl⟩
abbrev main_v81 : Ref sig .tc := ⟨.hbm, 98, rfl⟩
abbrev main_v82 : Ref sig .tc := ⟨.hbm, 99, rfl⟩
abbrev main_cst_8 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_9 : Ref sig .tc := ⟨.hbm, 110, rfl⟩
abbrev main_v92 : Ref sig .tc := ⟨.hbm, 111, rfl⟩
abbrev main_v93 : Ref sig .tc := ⟨.hbm, 112, rfl⟩
abbrev main_cst_10 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_11 : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_12 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_13 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_cst_14 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_15 : Ref sig .tc := ⟨.hbm, 166, rfl⟩
abbrev main_v139 : Ref sig .tc := ⟨.hbm, 167, rfl⟩
abbrev main_v140 : Ref sig .tc := ⟨.hbm, 168, rfl⟩
abbrev main_cst_16 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_17 : Ref sig .tc := ⟨.hbm, 175, rfl⟩
abbrev main_v146 : Ref sig .tc := ⟨.hbm, 176, rfl⟩
abbrev main_v147 : Ref sig .tc := ⟨.hbm, 177, rfl⟩
abbrev main_cst_18 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_19 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_call1_v0 : Ref sig .tc := ⟨.hbm, 190, rfl⟩
abbrev main_call1_v1 : Ref sig .tc := ⟨.hbm, 191, rfl⟩
abbrev main_call1_cst : Ref sig .tc := ⟨.hbm, 192, rfl⟩
abbrev main_call1_v2 : Ref sig .tc := ⟨.hbm, 193, rfl⟩
abbrev main_call1_v3 : Ref sig .tc := ⟨.hbm, 194, rfl⟩
abbrev main_call1_cst_0 : Ref sig .tc := ⟨.hbm, 195, rfl⟩
abbrev main_call1_v4 : Ref sig .tc := ⟨.hbm, 196, rfl⟩
abbrev main_call1_v5 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024 : Shape := ⟨1, ![1024]⟩
abbrev S1024x4608 : Shape := ⟨2, ![1024, 4608]⟩
abbrev S128x2048 : Shape := ⟨2, ![128, 2048]⟩
abbrev S128x512 : Shape := ⟨2, ![128, 512]⟩
abbrev S128x128x4x64 : Shape := ⟨4, ![128, 128, 4, 64]⟩
abbrev S32x128 : Shape := ⟨2, ![32, 128]⟩
abbrev S32 : Shape := ⟨1, ![32]⟩
abbrev S32768x1024 : Shape := ⟨2, ![32768, 1024]⟩
abbrev S1x1024 : Shape := ⟨2, ![1, 1024]⟩
abbrev S128x16x128 : Shape := ⟨3, ![128, 16, 128]⟩
abbrev S128x4x64x128 : Shape := ⟨4, ![128, 4, 64, 128]⟩
abbrev S128x256x128 : Shape := ⟨3, ![128, 256, 128]⟩
abbrev S32x1 : Shape := ⟨2, ![32, 1]⟩
abbrev S32768x2048 : Shape := ⟨2, ![32768, 2048]⟩
abbrev S32768x512 : Shape := ⟨2, ![32768, 512]⟩
abbrev S1024x1024 : Shape := ⟨2, ![1024, 1024]⟩
abbrev S4x256x128 : Shape := ⟨3, ![4, 256, 128]⟩
abbrev S1024x2048 : Shape := ⟨2, ![1024, 2048]⟩
abbrev S1024x512 : Shape := ⟨2, ![1024, 512]⟩
abbrev S512x128 : Shape := ⟨2, ![512, 128]⟩
abbrev S256x128 : Shape := ⟨2, ![256, 128]⟩
abbrev S4x128 : Shape := ⟨2, ![4, 128]⟩
abbrev S1024x1 : Shape := ⟨2, ![1024, 1]⟩
abbrev S512 : Shape := ⟨1, ![512]⟩
abbrev S512x1 : Shape := ⟨2, ![512, 1]⟩
abbrev S256x1 : Shape := ⟨2, ![256, 1]⟩
abbrev S1x256x128 : Shape := ⟨3, ![1, 256, 128]⟩
abbrev S1x8x128 : Shape := ⟨3, ![1, 8, 128]⟩
abbrev S8x128 : Shape := ⟨2, ![8, 128]⟩
abbrev S16x128 : Shape := ⟨2, ![16, 128]⟩
abbrev S128x128 : Shape := ⟨2, ![128, 128]⟩
abbrev S16x1 : Shape := ⟨2, ![16, 1]⟩
abbrev S16 : Shape := ⟨1, ![16]⟩
abbrev S1024x128 : Shape := ⟨2, ![1024, 128]⟩

abbrev nBuf : Space → Nat
  | .hbm => 28
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4608, .f32⟩
  | .hbm, ⟨3, _⟩ => ⟨S128x2048, .f32⟩
  | .hbm, ⟨4, _⟩ => ⟨S128x512, .f32⟩
  | .hbm, ⟨5, _⟩ => ⟨S128x128x4x64, .f32⟩
  | .hbm, ⟨6, _⟩ => ⟨S128x128x4x64, .f32⟩
  | .hbm, ⟨7, _⟩ => ⟨S128x2048, .f32⟩
  | .hbm, ⟨8, _⟩ => ⟨S32x128, .f32⟩
  | .hbm, ⟨9, _⟩ => ⟨S32, .f32⟩
  | .hbm, ⟨10, _⟩ => ⟨S32768x1024, .f32⟩
  | .hbm, ⟨11, _⟩ => ⟨S1x1024, .f32⟩
  | .hbm, ⟨12, _⟩ => ⟨S1024x4608, .bf16⟩
  | .hbm, ⟨13, _⟩ => ⟨S128x16x128, .f32⟩
  | .hbm, ⟨14, _⟩ => ⟨S128x4x64x128, .f32⟩
  | .hbm, ⟨15, _⟩ => ⟨S128x256x128, .f32⟩
  | .hbm, ⟨16, _⟩ => ⟨S128x4x64x128, .f32⟩
  | .hbm, ⟨17, _⟩ => ⟨S128x256x128, .f32⟩
  | .hbm, ⟨18, _⟩ => ⟨S128x16x128, .f32⟩
  | .hbm, ⟨19, _⟩ => ⟨S32x1, .f32⟩
  | .hbm, ⟨20, _⟩ => ⟨S32x128, .f32⟩
  | .hbm, ⟨21, _⟩ => ⟨S32768x2048, .bf16⟩
  | .hbm, ⟨22, _⟩ => ⟨S32768x512, .f32⟩
  | .hbm, ⟨23, _⟩ => ⟨S32768x2048, .bf16⟩
  | .hbm, ⟨24, _⟩ => ⟨S32768x2048, .bf16⟩
  | .hbm, ⟨25, _⟩ => ⟨S128x16x128, .f32⟩
  | .hbm, ⟨26, _⟩ => ⟨S128x256x128, .f32⟩
  | .hbm, ⟨27, _⟩ => ⟨S128x256x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4608, .bf16⟩
  | .local _ .vmem, ⟨4, _⟩ => ⟨S128x16x128, .f32⟩
  | .local _ .vmem, ⟨5, _⟩ => ⟨S128x512, .f32⟩
  | .local _ .vmem, ⟨6, _⟩ => ⟨S4x256x128, .f32⟩
  | .local _ .vmem, ⟨7, _⟩ => ⟨S4x256x128, .f32⟩
  | .local _ .vmem, ⟨8, _⟩ => ⟨S4x256x128, .f32⟩
  | .local _ .vmem, ⟨9, _⟩ => ⟨S4x256x128, .f32⟩
  | .local _ .vmem, ⟨10, _⟩ => ⟨S128x16x128, .f32⟩
  | .local _ .vmem, ⟨11, _⟩ => ⟨S32x128, .f32⟩
  | .local _ .vmem, ⟨12, _⟩ => ⟨S32x128, .f32⟩
  | .local _ .vmem, ⟨13, _⟩ => ⟨S1024x2048, .bf16⟩
  | .local _ .vmem, ⟨14, _⟩ => ⟨S1024x2048, .bf16⟩
  | .local _ .vmem, ⟨15, _⟩ => ⟨S1024x512, .f32⟩
  | .local _ .vmem, ⟨16, _⟩ => ⟨S1024x512, .f32⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S128x16x128, .f32⟩
  | .local _ .vmem, ⟨22, _⟩ => ⟨S4x256x128, .f32⟩
  | .local _ .vmem, ⟨23, _⟩ => ⟨S4x256x128, .f32⟩
  | .local _ .vmem, ⟨24, _⟩ => ⟨S4x256x128, .f32⟩
  | .local _ .vmem, ⟨25, _⟩ => ⟨S4x256x128, .f32⟩
  | .local _ .vmem, ⟨26, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def k0_off1 (i : grid0.Coords) (c0_i32_31 : BitVec 32) : Fin 3 → Nat :=
  let arg0 : BitVec 32 := BitVec.ofNat 32 (i 0).val
  let c4_i32_30 : BitVec 32 := 4#32
  let v61 : BitVec 32 := Scalar.muli arg0 c4_i32_30
  let v62 : BitVec 32 := Scalar.addi v61 c0_i32_31
  let v63 : Index := Scalar.indexCast v62
  let c0_32 : Index := 0#32
  let c0_33 : Index := 0#32
  ![v63.toNat, 0, 0]
def k0_off2 (i : grid0.Coords) (c0_i32_57 : BitVec 32) : Fin 3 → Nat :=
  let arg0 : BitVec 32 := BitVec.ofNat 32 (i 0).val
  let c4_i32_56 : BitVec 32 := 4#32
  let v122 : BitVec 32 := Scalar.muli arg0 c4_i32_56
  let v123 : BitVec 32 := Scalar.addi v122 c0_i32_57
  let v124 : Index := Scalar.indexCast v123
  let c8 : Index := 8#32
  let c0_58 : Index := 0#32
  ![v124.toNat, 8, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S128x16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S16x2048x1024 : Shape := ⟨3, ![16, 2048, 1024]⟩
abbrev S1024 : Shape := ⟨1, ![1024]⟩
abbrev S1024x4608 : Shape := ⟨2, ![1024, 4608]⟩
abbrev S128x2048 : Shape := ⟨2, ![128, 2048]⟩
abbrev S128x512 : Shape := ⟨2, ![128, 512]⟩
abbrev S128x128x4x64 : Shape := ⟨4, ![128, 128, 4, 64]⟩
abbrev S32x128 : Shape := ⟨2, ![32, 128]⟩
abbrev S32 : Shape := ⟨1, ![32]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4608 : Shape := ⟨3, ![16, 2048, 4608]⟩
abbrev S16x2048x2048 : Shape := ⟨3, ![16, 2048, 2048]⟩
abbrev S16x2048x256 : Shape := ⟨3, ![16, 2048, 256]⟩
abbrev S128x256 : Shape := ⟨2, ![128, 256]⟩
abbrev S128x1x4x64 : Shape := ⟨4, ![128, 1, 4, 64]⟩
abbrev S128x129x4x64 : Shape := ⟨4, ![128, 129, 4, 64]⟩
abbrev S32768x4x64 : Shape := ⟨3, ![32768, 4, 64]⟩
abbrev S32768x4x512 : Shape := ⟨3, ![32768, 4, 512]⟩
abbrev S32768x2048 : Shape := ⟨2, ![32768, 2048]⟩
abbrev S32768x256 : Shape := ⟨2, ![32768, 256]⟩
abbrev S32768x512 : Shape := ⟨2, ![32768, 512]⟩
abbrev S128x4x64x128 : Shape := ⟨4, ![128, 4, 64, 128]⟩
abbrev S128x256x128 : Shape := ⟨3, ![128, 256, 128]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4608, .f32⟩
  | .hbm, ⟨3, _⟩ => ⟨S128x2048, .f32⟩
  | .hbm, ⟨4, _⟩ => ⟨S128x512, .f32⟩
  | .hbm, ⟨5, _⟩ => ⟨S128x128x4x64, .f32⟩
  | .hbm, ⟨6, _⟩ => ⟨S128x128x4x64, .f32⟩
  | .hbm, ⟨7, _⟩ => ⟨S128x2048, .f32⟩
  | .hbm, ⟨8, _⟩ => ⟨S32x128, .f32⟩
  | .hbm, ⟨9, _⟩ => ⟨S32, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S16x2048x4608, .f32⟩
  | .hbm, ⟨27, _⟩ => ⟨S16x2048x2048, .f32⟩
  | .hbm, ⟨28, _⟩ => ⟨S16x2048x256, .f32⟩
  | .hbm, ⟨29, _⟩ => ⟨S16x2048x256, .f32⟩
  | .hbm, ⟨30, _⟩ => ⟨S16x2048x2048, .f32⟩
  | .hbm, ⟨31, _⟩ => ⟨S128x256, .f32⟩
  | .hbm, ⟨32, _⟩ => ⟨S128x1x4x64, .f32⟩
  | .hbm, ⟨33, _⟩ => ⟨S128x256, .f32⟩
  | .hbm, ⟨34, _⟩ => ⟨S128x1x4x64, .f32⟩
  | .hbm, ⟨35, _⟩ => ⟨S128x129x4x64, .f32⟩
  | .hbm, ⟨36, _⟩ => ⟨S128x129x4x64, .f32⟩
  | .hbm, ⟨37, _⟩ => ⟨S32768x4x64, .f32⟩
  | .hbm, ⟨38, _⟩ => ⟨S32768x4x64, .f32⟩
  | .hbm, ⟨39, _⟩ => ⟨S_, .f32⟩
  | .hbm, ⟨40, _⟩ => ⟨S32768x4x64, .f32⟩
  | .hbm, ⟨41, _⟩ => ⟨S32768x4x512, .f32⟩
  | .hbm, ⟨42, _⟩ => ⟨S32768x2048, .f32⟩
  | .hbm, ⟨43, _⟩ => ⟨S32768x2048, .f32⟩
  | .hbm, ⟨44, _⟩ => ⟨S32768x2048, .bf16⟩
  | .hbm, ⟨45, _⟩ => ⟨S32768x256, .f32⟩
  | .hbm, ⟨46, _⟩ => ⟨S32768x256, .f32⟩
  | .hbm, ⟨47, _⟩ => ⟨S32768x512, .f32⟩
  | .hbm, ⟨48, _⟩ => ⟨S16x2048x2048, .f32⟩
  | .hbm, ⟨49, _⟩ => ⟨S16x2048x2048, .f32⟩
  | .hbm, ⟨50, _⟩ => ⟨S_, .f32⟩
  | .hbm, ⟨51, _⟩ => ⟨S16x2048x2048, .f32⟩
  | .hbm, ⟨52, _⟩ => ⟨S16x2048x2048, .f32⟩
  | .hbm, ⟨53, _⟩ => ⟨S_, .f32⟩
  | .hbm, ⟨54, _⟩ => ⟨S16x2048x2048, .f32⟩
  | .hbm, ⟨55, _⟩ => ⟨S16x2048x2048, .f32⟩
  | .hbm, ⟨56, _⟩ => ⟨S16x2048x2048, .f32⟩
  | .hbm, ⟨57, _⟩ => ⟨S32768x2048, .f32⟩
  | .hbm, ⟨58, _⟩ => ⟨S32768x2048, .bf16⟩
  | .hbm, ⟨59, _⟩ => ⟨S32768x2048, .bf16⟩
  | .hbm, ⟨60, _⟩ => ⟨S128x128x4x64, .f32⟩
  | .hbm, ⟨61, _⟩ => ⟨S128x4x64x128, .f32⟩
  | .hbm, ⟨62, _⟩ => ⟨S128x256x128, .f32⟩
  | .hbm, ⟨63, _⟩ => ⟨S128x128x4x64, .f32⟩
  | .hbm, ⟨64, _⟩ => ⟨S128x4x64x128, .f32⟩
  | .hbm, ⟨65, _⟩ => ⟨S128x256x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proof.Point.lean ====
module

public import proofs.«01_k».proof.Proof.Gen.KernelIdeal.Value
public import Idealize.ShloMosaic.Lib.Pipeline.ValueKit
public import Idealize.ShloMosaic.Lib.Pipeline.ReadBack

/-! What one grid point leaves in its two output blocks, in the words of one block of 256 rows and one head.

A point runs four blocks of 256 rows, each over four heads. One block of one head reads its rows of q, k, v and of the
gate and the head's state; it stores the gated, normalised output rows into the scratch and the new state. -/

@[expose] public section

set_option maxRecDepth 16384

noncomputable section

namespace Cert.KernelIdeal.Point

open Cert.KernelIdeal Cert.KernelIdeal.Gen Idealize.ShloMosaic Idealize.ShloMosaic.TcCoe Idealize.SL.Sem

/-- The 256 by 256 block of a point's q or k at row block `b` and head `h`. -/
def qkB (x : Vec Ideal S1024x1024 .bf16) (b h : Fin 4) : Vec Ideal S256x256 .bf16 :=
  View.ld x (Rect.unit (s := S1024x1024) ![b.val * 256, h.val * 256] ![256, 256] (Rect.inb₂ (by simp; omega) (by simp; omega)))

/-- The 256 by 512 block of a point's v or gate at row block `b` and head `h`. -/
def vB (x : Vec Ideal S1024x2048 .bf16) (b h : Fin 4) : Vec Ideal S256x512 .bf16 :=
  View.ld x (Rect.unit (s := S1024x2048) ![b.val * 256, h.val * 512] ![256, 512] (Rect.inb₂ (by simp; omega) (by simp; omega)))

/-- Head `h` of a four-head state. -/
def hd (S : Vec Ideal S1x4x256x512 .f32) (h : Fin 4) : Vec Ideal S1x1x256x512 .f32 :=
  View.ld S (Rect.unit (s := S1x4x256x512) ![0, h.val, 0, 0] ![1, 1, 256, 512]
    (by intro a; fin_cases a <;> simp <;> omega))

/-- The decay of head `h` over one block. -/
def dec (g : Vec Ideal S4 .f32) (h : Fin 4) : Elt Ideal .f32 :=
  View.ld g (Rect.unit (s := S4) ![h.val] ![1] (by intro a; fin_cases a; exact h.isLt)) (fun a => ⟨0, by fin_cases a; exact Nat.one_pos⟩)

/-- The state after a block: the state and the block's `kᵀ v`, decayed. -/
def newState (k : Vec Ideal S256x256 .bf16) (v : Vec Ideal S256x512 .bf16) (S : Vec Ideal S1x1x256x512 .f32) (g : Elt Ideal .f32) :
    Vec Ideal S1x1x256x512 .f32 := k0_pay7 k v S g

/-- The output of a block: its causal scores times v, and q times the state. -/
def outBlk (q k : Vec Ideal S256x256 .bf16) (v : Vec Ideal S256x512 .bf16) (S : Vec Ideal S1x1x256x512 .f32) :
    FVec Ideal S256x512 .f32 := k0_pay6 q k v S

/-- The rows of a block that go to the scratch: its output normalised over the head and gated. -/
def gated (o : FVec Ideal S256x512 .f32) (g : Vec Ideal S256x512 .bf16) : FVec Ideal S1x256x512 .bf16 := k0_pay8 o g

variable (x0 : Vec Ideal S4 .f32) (x1 x2 : Vec Ideal S1024x1024 .bf16) (x3 x4 : Vec Ideal S1024x2048 .bf16)
variable (x5 : Vec Ideal S1024x1024 .f32) (x6 : Vec Ideal S2048x1024 .f32) (x7 : Vec Ideal S1x1024 .f32)
variable (S : Vec Ideal S1x4x256x512 .f32)

/-- The state of head `h` before block `n` of a point that starts at `S`. -/
def stAt (h : Fin 4) : ℕ → Vec Ideal S1x1x256x512 .f32
  | 0 => hd S h
  | n + 1 => if hn : n < 4 then newState (qkB x2 ⟨n, hn⟩ h) (vB x3 ⟨n, hn⟩ h) (stAt h n) (dec x0 h) else stAt h n

/-- The gated rows of block `b` and head `h`. -/
def rowsAt (b h : Fin 4) : FVec Ideal S1x256x512 .bf16 :=
  gated (outBlk (qkB x1 b h) (qkB x2 b h) (vB x3 b h) (stAt x0 x2 x3 S h b.val)) (vB x4 b h)

/-- The four-head state that the point leaves. -/
def stEnd : Vec Ideal S1x4x256x512 .f32 := fun z =>
  stAt x0 x2 x3 S ⟨(z 1).val, (z 1).isLt⟩ 4 (ix4 (0 : Fin 1) (0 : Fin 1) (⟨(z 2).val, (z 2).isLt⟩ : Fin 256) (⟨(z 3).val, (z 3).isLt⟩ : Fin 512))

/-- The scratch that the point leaves: head by head, the gated rows. -/
def scr : Vec Ideal S4x1024x512 .bf16 := fun z =>
  rowsAt x0 x1 x2 x3 x4 S ⟨(z 1).val / 256, by have := (z 1).isLt; simp at this; omega⟩ ⟨(z 0).val, (z 0).isLt⟩
    (ix3 (0 : Fin 1) (⟨(z 1).val % 256, Nat.mod_lt _ (by omega)⟩ : Fin 256) (⟨(z 2).val, (z 2).isLt⟩ : Fin 512))

/-- Head `h` of the scratch. -/
def scrHead (h : Fin 4) : Vec Ideal S1x1024x512 .bf16 := View.ld (scr x0 x1 x2 x3 x4 S)
  (Rect.unit (s := S4x1024x512) ![h.val, 0, 0] ![1, 1024, 512] (by intro a; fin_cases a <;> simp <;> omega))

/-- The rows of the output projection for head `h`. -/
def woB (h : Fin 4) : Vec Ideal S512x1024 .f32 :=
  View.ld x6 (Rect.unit (s := S2048x1024) ![h.val * 512, 0] ![512, 1024] (Rect.inb₂ (by simp; omega) (by simp)))

/-- The rows of y that the point leaves: the residual and the four heads' projections, normalised. -/
def yEnd : Vec Ideal S1024x1024 .f32 :=
  k0_pay128 (scrHead x0 x1 x2 x3 x4 S 3) (woB x6 3)
    (k0_pay118 (scrHead x0 x1 x2 x3 x4 S 2) (woB x6 2)
      (k0_pay110 (k0_pay109 (scrHead x0 x1 x2 x3 x4 S 1) (woB x6 1))
        (k0_pay101 (scrHead x0 x1 x2 x3 x4 S 0) (woB x6 0) x5))) x7

theorem stEnd_at (h : Fin 4) (x : S1x1x256x512.Idx) (z : S1x4x256x512.Idx) (h1 : (z 1 : ℕ) = h) (h2 : (z 2 : ℕ) = x 2)
    (h3 : (z 3 : ℕ) = x 3) : stEnd x0 x2 x3 S z = stAt x0 x2 x3 S h 4 x := by
  unfold stEnd
  have e1 : (⟨(z 1).val, (z 1).isLt⟩ : Fin 4) = h := Fin.ext h1
  have e2 : (ix4 (0 : Fin 1) (0 : Fin 1) (⟨(z 2).val, (z 2).isLt⟩ : Fin 256) (⟨(z 3).val, (z 3).isLt⟩ : Fin 512)) = x := by
    have := (x 0).isLt
    have := (x 1).isLt
    funext a; apply Fin.ext; fin_cases a <;> simp_all
  rw [e1, e2]

theorem scr_at (b h : Fin 4) (x : S1x256x512.Idx) (z : S4x1024x512.Idx) (h0 : (z 0 : ℕ) = h) (h1 : (z 1 : ℕ) = b * 256 + x 1)
    (h2 : (z 2 : ℕ) = x 2) : scr x0 x1 x2 x3 x4 S z = rowsAt x0 x1 x2 x3 x4 S b h x := by
  have hx : (x 1 : ℕ) < 256 := (x 1).isLt
  unfold scr
  have e1 : (⟨(z 1).val / 256, by have := (z 1).isLt; simp at this; omega⟩ : Fin 4) = b := Fin.ext (by simp; omega)
  have e2 : (⟨(z 0).val, (z 0).isLt⟩ : Fin 4) = h := Fin.ext h0
  have e3 : (ix3 (0 : Fin 1) (⟨(z 1).val % 256, Nat.mod_lt _ (by omega)⟩ : Fin 256) (⟨(z 2).val, (z 2).isLt⟩ : Fin 512)) = x := by
    funext a; apply Fin.ext
    have := (x 0).isLt
    fin_cases a <;> simp_all <;> omega
  rw [e1, e2, e3]

variable (m : (ℓ : Loc nD τ sig) → Buf (Elt Ideal) ℓ)

theorem stAt_succ (h b : Fin 4) : stAt x0 x2 x3 S h (b.val + 1)
    = newState (qkB x2 b h) (vB x3 b h) (stAt x0 x2 x3 S h b.val) (dec x0 h) := by
  rw [stAt, dif_pos b.isLt]

/-- The state of a head after four blocks, block by block. -/
def st4 (h : Fin 4) : Vec Ideal S1x1x256x512 .f32 :=
  newState (qkB x2 3 h) (vB x3 3 h) (newState (qkB x2 2 h) (vB x3 2 h) (newState (qkB x2 1 h) (vB x3 1 h)
    (newState (qkB x2 0 h) (vB x3 0 h) (hd S h) (dec x0 h)) (dec x0 h)) (dec x0 h)) (dec x0 h)

theorem stAt_four (h : Fin 4) : stAt x0 x2 x3 S h 4 = st4 x0 x2 x3 S h := rfl

/-- The store of head `h`'s last state. -/
def stPiece (h : Fin 4) : View.Piece (Elt Ideal) S1x4x256x512 .f32 :=
  ⟨Rect.unit (s := S1x4x256x512) ![0, h.val, 0, 0] ![1, 1, 256, 512] (by intro a; fin_cases a <;> simp <;> omega), st4 x0 x2 x3 S h⟩

/-- That store is a block of the state that the point leaves. -/
theorem stPiece_block (h : Fin 4) (x : (stPiece x0 x2 x3 S h).1.shape.Idx) :
    (stPiece x0 x2 x3 S h).2 x = stEnd x0 x2 x3 S ((stPiece x0 x2 x3 S h).1.emb x) := by
  refine (congrFun (stAt_four x0 x2 x3 S h) x).symm.trans (stEnd_at x0 x2 x3 S h x _ ?_ ?_ ?_).symm
  · have : (x 1 : ℕ) < 1 := (x 1).isLt
    show h.val + 1 * (x 1 : ℕ) = _
    omega
  · show 0 + 1 * (x 2 : ℕ) = _
    omega
  · show 0 + 1 * (x 3 : ℕ) = _
    omega

/-- An index of head `h` lies in that head's store. -/
theorem mem_stPiece (h : Fin 4) (y : S1x4x256x512.Idx) (hy : (y 1 : ℕ) = h) : y ∈ (stPiece x0 x2 x3 S h).1.set := by
  have b0 : (y 0 : ℕ) < 1 := (y 0).isLt
  have b2 : (y 2 : ℕ) < 256 := (y 2).isLt
  have b3 : (y 3 : ℕ) < 512 := (y 3).isLt
  unfold stPiece
  rw [Rect.mem_set_unit]
  intro a
  fin_cases a <;> simp <;> omega

/-- The four last stores of the state, whatever came before, leave `stEnd`. -/
theorem canon_state (L : List (View.Piece (Elt Ideal) S1x4x256x512 .f32)) :
    View.canon (stPiece x0 x2 x3 S 3 :: stPiece x0 x2 x3 S 2 :: stPiece x0 x2 x3 S 1 :: stPiece x0 x2 x3 S 0 :: L)
      = stEnd x0 x2 x3 S := by
  funext y
  have hy : (y 1 : ℕ) < 4 := (y 1).isLt
  refine View.canon_append_of_pieces (stEnd x0 x2 x3 S) L ([3, 2, 1, 0].map (stPiece x0 x2 x3 S)) ?_ y ?_
  · intro p hp x
    obtain ⟨h, -, rfl⟩ := List.mem_map.mp hp
    exact stPiece_block x0 x2 x3 S h x
  · refine ⟨_, List.mem_map.mpr ⟨⟨(y 1 : ℕ), hy⟩, ?_, rfl⟩, mem_stPiece x0 x2 x3 S _ y rfl⟩
    rcases (by omega : (y 1 : ℕ) = 0 ∨ (y 1 : ℕ) = 1 ∨ (y 1 : ℕ) = 2 ∨ (y 1 : ℕ) = 3) with e | e | e | e <;> simp [e]

set_option maxHeartbeats 1000000 in
/-- The first point of a sequence starts from the zero state. -/
theorem state_A (c : Dev nD) (t : Fin cfg0.N) (h0 : t.val % 2 = 0) :
    (outsAt0 m c t.val t.isLt).2 = stEnd (iblk m c 0 t) (iblk m c 2 t) (iblk m c 3 t) (k0_pay1 (F := Ideal)) := by
  rw [outsAt0_A m c t h0]; dsimp only
  frame_open
  simp (disch := decide) only [↓ View.readCov_skip, ↓ View.readCov_cons_toLoadRect, ↓ View.readCov_fill]
  frame_out
  generalize iblk m c 0 t = x0
  generalize iblk m c 2 t = x2
  generalize iblk m c 3 t = x3
  exact canon_state x0 x2 x3 _ _

set_option maxHeartbeats 1000000 in
/-- The second point starts from the state that the first one left. -/
theorem state_B (c : Dev nD) (t : Fin cfg0.N) (h0 : ¬ t.val % 2 = 0) :
    (outsAt0 m c t.val t.isLt).2 = stEnd (iblk m c 0 t) (iblk m c 2 t) (iblk m c 3 t)
      (outsAt0 m c (t.val - 1) (Nat.lt_of_le_of_lt (Nat.sub_le _ _) t.isLt)).2 := by
  rw [outsAt0_B m c t h0]; dsimp only
  generalize (outsAt0 m c (t.val - 1) (Nat.lt_of_le_of_lt (Nat.sub_le _ _) t.isLt)).2 = x9
  frame_open
  simp (disch := decide) only [↓ View.readCov_skip, ↓ View.readCov_cons_toLoadRect, ↓ View.readCov_fill]
  frame_out
  generalize iblk m c 0 t = x0
  generalize iblk m c 2 t = x2
  generalize iblk m c 3 t = x3
  exact canon_state x0 x2 x3 _ _

/-! ## The scratch read back, and the rows of y -/

/-- The store of the gated rows of block `b` and head `h`. -/
def pieceAt (bh : Fin 4 × Fin 4) : View.Piece (Elt Ideal) S4x1024x512 .bf16 :=
  ⟨Rect.unit (s := S4x1024x512) ![bh.2.val, bh.1.val * 256, 0] ![1, 256, 512] (by intro a; fin_cases a <;> simp <;> omega),
    rowsAt x0 x1 x2 x3 x4 S bh.1 bh.2⟩

theorem pieceAt_block (bh : Fin 4 × Fin 4) (x : (pieceAt x0 x1 x2 x3 x4 S bh).1.shape.Idx) :
    (pieceAt x0 x1 x2 x3 x4 S bh).2 x = scr x0 x1 x2 x3 x4 S ((pieceAt x0 x1 x2 x3 x4 S bh).1.emb x) := by
  refine (scr_at x0 x1 x2 x3 x4 S bh.1 bh.2 x _ ?_ ?_ ?_).symm
  · have : (x 0 : ℕ) < 1 := (x 0).isLt
    show bh.2.val + 1 * (x 0 : ℕ) = _
    omega
  · show bh.1.val * 256 + 1 * (x 1 : ℕ) = _
    omega
  · show 0 + 1 * (x 2 : ℕ) = _
    omega

theorem mem_pieceAt (bh : Fin 4 × Fin 4) (y : S4x1024x512.Idx) (h0 : (y 0 : ℕ) = bh.2) (h1 : (y 1 : ℕ) / 256 = bh.1) :
    y ∈ (pieceAt x0 x1 x2 x3 x4 S bh).1.set := by
  have b2 : (y 2 : ℕ) < 512 := (y 2).isLt
  unfold pieceAt
  rw [Rect.mem_set_unit]
  intro a
  fin_cases a <;> simp <;> omega

/-- Head `h` of the scratch, loaded after stores that hold all its rows. -/
theorem scr_read (ps : List (Fin 4 × Fin 4)) (h : Fin 4) (hps : ∀ b, (b, h) ∈ ps) (v : View sig .tc .vmem S4x1024x512 .bf16)
    (inb : ∀ a, ![h.val, 0, 0] a + ![1, 1024, 512] a ≤ S4x1024x512.size a) :
    v.readCov (ps.map (pieceAt x0 x1 x2 x3 x4 S)) (Rect.unit (s := S4x1024x512) ![h.val, 0, 0] ![1, 1024, 512] inb).toLoadRect
      = scrHead x0 x1 x2 x3 x4 S h := by
  rw [View.readCov_eq_canon']
  funext j
  have hj0 : (j 0 : ℕ) < 1 := (j 0).isLt
  have hj1 : (j 1 : ℕ) < 1024 := (j 1).isLt
  have key := View.canon_append_of_pieces (scr x0 x1 x2 x3 x4 S) [] (ps.map (pieceAt x0 x1 x2 x3 x4 S)) (by
    intro p hp x
    obtain ⟨bh, -, rfl⟩ := List.mem_map.mp hp
    exact pieceAt_block x0 x1 x2 x3 x4 S bh x)
    ((Rect.unit (s := S4x1024x512) ![h.val, 0, 0] ![1, 1024, 512] inb).toLoadRect.idx j) (by
    refine ⟨_, List.mem_map.mpr ⟨(⟨(j 1 : ℕ) / 256, by omega⟩, h), hps _, rfl⟩, mem_pieceAt x0 x1 x2 x3 x4 S _ _ ?_ ?_⟩
    · simp [LoadRect.idx_apply]
    · simp [LoadRect.idx_apply])
  rw [List.append_nil] at key
  exact key

/-- The stores of a point, the last one first. -/
def order : List (Fin 4 × Fin 4) :=
  [(3, 3), (3, 2), (3, 1), (3, 0), (2, 3), (2, 2), (2, 1), (2, 0), (1, 3), (1, 2), (1, 1), (1, 0), (0, 3), (0, 2), (0, 1), (0, 0)]

theorem inbH (h : Fin 4) : ∀ a, ![h.val, 0, 0] a + ![1, 1024, 512] a ≤ S4x1024x512.size a := by
  intro a; fin_cases a <;> simp <;> omega

/-- The head of the scratch as the body loads it: after the stores up to that head's last. -/
def headRead (h : Fin 4) (n : ℕ) : Vec Ideal S1x1024x512 .bf16 :=
  (View.whole cc0_scratch0).readCov ((order.drop n).map (pieceAt x0 x1 x2 x3 x4 S))
    (Rect.unit (s := S4x1024x512) ![h.val, 0, 0] ![1, 1024, 512] (inbH h)).toLoadRect

theorem headRead_eq (h : Fin 4) (n : ℕ) (hps : ∀ b, (b, h) ∈ order.drop n) :
    headRead x0 x1 x2 x3 x4 S h n = scrHead x0 x1 x2 x3 x4 S h :=
  scr_read x0 x1 x2 x3 x4 S _ h hps _ _

theorem yEnd_eq : k0_pay128 (headRead x0 x1 x2 x3 x4 S 3 0) (woB x6 3)
    (k0_pay118 (headRead x0 x1 x2 x3 x4 S 2 1) (woB x6 2)
      (k0_pay110 (k0_pay109 (headRead x0 x1 x2 x3 x4 S 1 2) (woB x6 1))
        (k0_pay101 (headRead x0 x1 x2 x3 x4 S 0 3) (woB x6 0) x5))) x7 = yEnd x0 x1 x2 x3 x4 x5 x6 x7 S := by
  rw [headRead_eq _ _ _ _ _ _ 3 0 (by decide), headRead_eq _ _ _ _ _ _ 2 1 (by decide), headRead_eq _ _ _ _ _ _ 1 2 (by decide),
    headRead_eq _ _ _ _ _ _ 0 3 (by decide)]
  rfl

set_option maxHeartbeats 2000000 in
theorem rows_A (c : Dev nD) (t : Fin cfg0.N) (h0 : t.val % 2 = 0) :
    (outsAt0 m c t.val t.isLt).1 = yEnd (iblk m c 0 t) (iblk m c 1 t) (iblk m c 2 t) (iblk m c 3 t) (iblk m c 4 t) (iblk m c 5 t)
      (iblk m c 6 t) (iblk m c 7 t) (k0_pay1 (F := Ideal)) := by
  rw [outsAt0_A m c t h0]; dsimp only
  frame_open
  simp (disch := decide) only [↓ View.readCov_skip, ↓ View.readCov_cons_toLoadRect, ↓ View.readCov_fill]
  frame_out
  rw [← yEnd_eq]
  rfl

set_option maxHeartbeats 2000000 in
theorem rows_B (c : Dev nD) (t : Fin cfg0.N) (h0 : ¬ t.val % 2 = 0) :
    (outsAt0 m c t.val t.isLt).1 = yEnd (iblk m c 0 t) (iblk m c 1 t) (iblk m c 2 t) (iblk m c 3 t) (iblk m c 4 t) (iblk m c 5 t)
      (iblk m c 6 t) (iblk m c 7 t) (outsAt0 m c (t.val - 1) (Nat.lt_of_le_of_lt (Nat.sub_le _ _) t.isLt)).2 := by
  rw [outsAt0_B m c t h0]; dsimp only
  generalize (outsAt0 m c (t.val - 1) (Nat.lt_of_le_of_lt (Nat.sub_le _ _) t.isLt)).2 = x9
  frame_open
  simp (disch := decide) only [↓ View.readCov_skip, ↓ View.readCov_cons_toLoadRect, ↓ View.readCov_fill]
  frame_out
  rw [← yEnd_eq]
  rfl

end Cert.KernelIdeal.Point
end
-- ==== Proof.Model.lean ====
module

public import Idealize.ShloMosaic.PureOps.Ideal
public import Idealize.ShloMosaic.Lib.Pointwise

/-! Retention over the reals, for one batch row and one head.

The state is a decayed sum of products of a key entry and a value entry; an output entry is the query against the state
that the row itself has entered. Both the blocks of the kernel and the chunks of the reference are shown to compute it. -/

@[expose] public section

noncomputable section

namespace Cert.Model

open Idealize.ShloMosaic

/-- One entry of the state before row `t`: the products of the earlier rows, each decayed once per row since. -/
def St (lg : ℝ) (a v : ℕ → ℝ) : ℕ → ℝ
  | 0 => 0
  | t + 1 => Real.exp lg * St lg a v t + a t * v t

/-- One entry of the output of row `t`. -/
def Out (lg : ℝ) (q : Fin 256 → ℝ) (a : Fin 256 → ℕ → ℝ) (v : ℕ → ℝ) (t : ℕ) : ℝ :=
  ∑ d, q d * St lg (a d) v (t + 1)

variable (lg : ℝ) (v : ℕ → ℝ) (T : ℕ)

/-- The state `n` rows later. -/
theorem St_add (a : ℕ → ℝ) (n : ℕ) : St lg a v (T + n) = Real.exp (n * lg) * St lg a v T
    + ∑ j ∈ Finset.range n, Real.exp ((n - 1 - j) * lg) * (a (T + j) * v (T + j)) := by
  induction n with
  | zero => simp
  | succ n ih =>
    rw [← Nat.add_assoc, St, ih, Finset.sum_range_succ, mul_add, Finset.mul_sum, ← mul_assoc, ← Real.exp_add, add_assoc]
    congr 1
    · congr 2; push_cast; ring
    · congr 1
      · refine Finset.sum_congr rfl fun j _ => ?_
        rw [← mul_assoc, ← Real.exp_add]
        congr 2; push_cast; ring
      · push_cast
        rw [show ((n : ℝ) + 1 - 1 - n) * lg = 0 by ring, Real.exp_zero, one_mul]

/-- The kernel's block: products of keys decayed from the block's start backwards, then the whole decayed. -/
theorem St_block (a : ℕ → ℝ) (n : ℕ) : Real.exp (n * lg) * (St lg a v T
    + ∑ j ∈ Finset.range n, a (T + j) * Real.exp (-((j + 1) * lg)) * v (T + j)) = St lg a v (T + n) := by
  rw [St_add, mul_add, Finset.mul_sum]
  congr 1
  refine Finset.sum_congr rfl fun j _ => ?_
  rw [show ((n : ℝ) - 1 - j) * lg = n * lg + -((j + 1) * lg) by ring, Real.exp_add]
  ring

/-- The reference's chunk: keys decayed to the chunk's end. -/
theorem St_chunk (a : ℕ → ℝ) (n : ℕ) : Real.exp (n * lg) * St lg a v T
    + ∑ j ∈ Finset.range n, a (T + j) * Real.exp ((n - 1 - j) * lg) * v (T + j) = St lg a v (T + n) := by
  rw [St_add]
  congr 1
  refine Finset.sum_congr rfl fun j _ => ?_
  ring

theorem sum_upto (n i : ℕ) (hi : i < n) (f : ℕ → ℝ) :
    ∑ j ∈ Finset.range n, (if j ≤ i then f j else 0) = ∑ j ∈ Finset.range (i + 1), f j := by
  rw [← Finset.sum_filter]
  congr 1
  ext j
  simp only [Finset.mem_filter, Finset.mem_range]
  omega

/-- An output entry, as a sum over the rows since `T` and a term from the state at `T`. -/
theorem Out_add (q : Fin 256 → ℝ) (a : Fin 256 → ℕ → ℝ) (n i : ℕ) (hi : i < n) : Out lg q a v (T + i)
    = ∑ j ∈ Finset.range n, (if j ≤ i then Real.exp ((i - j) * lg) * (∑ d, q d * a d (T + j)) else 0) * v (T + j)
      + Real.exp ((i + 1) * lg) * ∑ d, q d * St lg (a d) v T := by
  have e1 : ∀ j, (if j ≤ i then Real.exp (((i : ℝ) - j) * lg) * (∑ d, q d * a d (T + j)) else 0) * v (T + j)
      = if j ≤ i then Real.exp (((i : ℝ) - j) * lg) * (∑ d, q d * a d (T + j)) * v (T + j) else 0 := by
    intro j; split_ifs <;> simp
  simp only [e1]
  rw [sum_upto n i hi]
  unfold Out
  simp only [Nat.add_assoc, St_add, mul_add, Finset.sum_add_distrib, Finset.mul_sum, Finset.sum_mul]
  rw [add_comm, Finset.sum_comm]
  congr 1
  · refine Finset.sum_congr rfl fun j _ => Finset.sum_congr rfl fun d _ => ?_
    rw [show ((i + 1 : ℕ) : ℝ) - 1 - j = i - j by push_cast; ring]
    ring
  · refine Finset.sum_congr rfl fun d _ => ?_
    push_cast
    ring

/-- The kernel's block computes the output. -/
theorem Out_block (q : Fin 256 → ℝ) (a : Fin 256 → ℕ → ℝ) (n i : ℕ) (hi : i < n) :
    ∑ j ∈ Finset.range n, (if j ≤ i then ∑ d, (q d * Real.exp ((i + 1) * lg)) * (a d (T + j) * Real.exp (-((j + 1) * lg))) else 0)
        * v (T + j)
      + ∑ d, (q d * Real.exp ((i + 1) * lg)) * St lg (a d) v T = Out lg q a v (T + i) := by
  rw [Out_add lg v T q a n i hi, Finset.mul_sum]
  congr 1
  · refine Finset.sum_congr rfl fun j _ => ?_
    congr 1
    split_ifs with h
    · rw [Finset.mul_sum]
      refine Finset.sum_congr rfl fun d _ => ?_
      rw [show ((i : ℝ) - j) * lg = (i + 1) * lg + -((j + 1) * lg) by ring, Real.exp_add]
      ring
    · rfl
  · refine Finset.sum_congr rfl fun d _ => ?_
    ring

/-- The reference's chunk computes the output. -/
theorem Out_chunk (q : Fin 256 → ℝ) (a : Fin 256 → ℕ → ℝ) (n i : ℕ) (hi : i < n) :
    ∑ j ∈ Finset.range n, v (T + j) * ((∑ d, q d * a d (T + j)) * (if j ≤ i then Real.exp ((i - j) * lg) else 0))
      + (∑ d, St lg (a d) v T * q d) * Real.exp ((i + 1) * lg) = Out lg q a v (T + i) := by
  rw [Out_add lg v T q a n i hi]
  congr 1
  · refine Finset.sum_congr rfl fun j _ => ?_
    split_ifs <;> ring
  · rw [mul_comm]
    congr 1
    exact Finset.sum_congr rfl fun d _ => mul_comm _ _

/-! ## The extended reals -/

theorem sum_coe {ι : Type*} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem exp_coe (r : ℝ) : Ideal.exp (r : EReal) = ((Real.exp r : ℝ) : EReal) := rfl

/-- The gate's activation, as the kernel and as the reference write it, at a real. -/
theorem silu_coe (g : ℝ) : ((1 / 2 : ℝ) : EReal) * g + ((1 / 2 : ℝ) : EReal) * g * Ideal.tanh (((1 / 2 : ℝ) : EReal) * g)
    = (g : EReal) * Ideal.div 1 (1 + Ideal.exp (-(g : EReal))) := by
  have h1 : Ideal.tanh (((1 / 2 : ℝ) : EReal) * g) = ((Real.tanh (1 / 2 * g) : ℝ) : EReal) := by rw [← EReal.coe_mul]; rfl
  have h2 : (1 : EReal) + Ideal.exp (-(g : EReal)) = ((1 + Real.exp (-g) : ℝ) : EReal) := by
    rw [← EReal.coe_neg, exp_coe, EReal.coe_add, EReal.coe_one]
  have hp : (0 : ℝ) < 1 + Real.exp (-g) := by positivity
  rw [h1, h2, Ideal.div_coe hp.ne', one_mul, ← EReal.coe_mul, ← EReal.coe_mul, ← EReal.coe_mul, ← EReal.coe_add]
  congr 1
  have e0 : (0 : ℝ) < Real.exp (1 / 2 * g) := Real.exp_pos _
  have en : Real.exp (-(1 / 2 * g)) = (Real.exp (1 / 2 * g))⁻¹ := Real.exp_neg _
  have eg : Real.exp (-g) = (Real.exp (1 / 2 * g))⁻¹ * (Real.exp (1 / 2 * g))⁻¹ := by
    rw [← en, ← Real.exp_add]; congr 1; ring
  rw [Real.tanh_eq_sinh_div_cosh, Real.sinh_eq, Real.cosh_eq, en, eg]
  field_simp
  ring

end Cert.Model
end
-- ==== Proof.Spec.lean ====
module

public import proofs.«01_k».proof.Proof.Model

/-! What both programs compute, from the entries of the seven arguments.

A prompt of 16 batch rows, 2048 positions and four heads goes through retention; each head's output is normalised, gated and
projected, and the sum with the residual is normalised once more. -/

@[expose] public section

noncomputable section

namespace Cert.Spec

open Idealize.ShloMosaic Cert.Model

/-- The entries of the arguments, on one device. -/
structure Inp where
  q : Fin 16 → Fin 2048 → Fin 4 → Fin 256 → EReal
  k : Fin 16 → Fin 2048 → Fin 4 → Fin 256 → EReal
  v : Fin 16 → Fin 2048 → Fin 4 → Fin 512 → EReal
  g : Fin 16 → Fin 2048 → Fin 2048 → EReal
  x : Fin 16 → Fin 2048 → Fin 1024 → EReal
  w : Fin 2048 → Fin 1024 → EReal
  gf : Fin 1024 → EReal

/-- The entries of q, k, v and the gate are real numbers. -/
structure Inp.Finite (I : Inp) : Prop where
  q : ∀ b t h d, I.q b t h d = ((I.q b t h d).toReal : EReal)
  k : ∀ b t h d, I.k b t h d = ((I.k b t h d).toReal : EReal)
  v : ∀ b t h d, I.v b t h d = ((I.v b t h d).toReal : EReal)
  g : ∀ b t c, I.g b t c = ((I.g b t c).toReal : EReal)

/-- The number that stands for the logarithm of two in the programs. -/
def ln2 : ℝ := 11629080 / 16777216

/-- The logarithm of the decay of head `h`. -/
def lgR (h : Fin 4) : ℝ := Real.log (1 + -Real.exp (ln2 * (-5 - (h.val : ℝ))))

theorem ofBits_ln2 : Ideal.ofBits .f32 1060205080#32 = ((ln2 : ℝ) : EReal) := by
  simp [Ideal.ofBits, Ideal.ieee, ln2, -EReal.coe_mul]; norm_num

theorem ofBits_m5 : Ideal.ofBits .f32 3231711232#32 = ((-5 : ℝ) : EReal) := by
  simp [Ideal.ofBits, Ideal.ieee, -EReal.coe_mul]; norm_num

theorem ofBits_sixteenth : Ideal.ofBits .f32 1031798784#32 = ((1 / 16 : ℝ) : EReal) := by
  simp [Ideal.ofBits, Ideal.ieee, -EReal.coe_mul]; norm_num

theorem ofBits_half : Ideal.ofBits .f32 1056964608#32 = ((1 / 2 : ℝ) : EReal) := by
  simp [Ideal.ofBits, Ideal.ieee, -EReal.coe_mul]; norm_num

/-- A small natural number survives being a word. -/
theorem toInt_nat (n : ℕ) (hn : n < 2 ^ 31) : (BitVec.ofNat 32 n).toInt = n := by
  rw [BitVec.toInt_eq_toNat_of_lt] <;> simp <;> omega

theorem sitofp_nat (n : ℕ) (hn : n < 2 ^ 31) : (FloatOps.sitofp .f32 (BitVec.ofNat 32 n) : Ideal .f32) = ((n : ℝ) : EReal) := by
  show (((BitVec.ofNat 32 n).toInt : ℝ) : EReal) = _
  rw [toInt_nat n hn]
  norm_cast

/-- A choice by a comparison of two small words is one by their numbers. -/
theorem select_le {α : Type} (x i : ℕ) (hx : x < 2 ^ 31) (hi : i < 2 ^ 31) (a b : α) :
    Scalar.select (IntOp.cmpi .sle (BitVec.ofNat 32 x) (BitVec.ofNat 32 i)) a b = if x ≤ i then a else b := by
  have h : IntOp.cmpi .sle (BitVec.ofNat 32 x) (BitVec.ofNat 32 i) = BitVec.ofBool (decide (x ≤ i)) := by
    show BitVec.ofBool (decide ((BitVec.ofNat 32 x).toInt ≤ (BitVec.ofNat 32 i).toInt)) = _
    rw [toInt_nat x hx, toInt_nat i hi]
    simp
  rw [h]
  by_cases hxi : x ≤ i <;> simp [hxi, Scalar.select]

/-- The programs' logarithm of the decay, a real number. -/
theorem lg_coe (h : Fin 4) : Ideal.log1p (-Ideal.exp (Ideal.ofBits .f32 1060205080#32
    * (Ideal.ofBits .f32 3231711232#32 - (FloatOps.sitofp .f32 (BitVec.ofNat 32 h.val) : Ideal .f32)))) = ((lgR h : ℝ) : EReal) := by
  rw [ofBits_ln2, ofBits_m5, sitofp_nat _ (by omega), ← EReal.coe_sub, ← EReal.coe_mul]
  have hlt : Real.exp (ln2 * (-5 - (h.val : ℝ))) < 1 := by
    rw [Real.exp_lt_one_iff]
    have : (0 : ℝ) ≤ h.val := Nat.cast_nonneg _
    unfold ln2
    nlinarith
  show Ideal.log (1 + -((Real.exp _ : ℝ) : EReal)) = _
  rw [← EReal.coe_neg, ← EReal.coe_one, ← EReal.coe_add]
  show (if _ then _ else _) = _
  rw [if_neg (by linarith)]
  rfl

variable (I : Inp) (b : Fin 16) (h : Fin 4)

/-- Query, scaled key and value entries by position, zero past the end. -/
def rq (d : Fin 256) (t : ℕ) : ℝ := if ht : t < 2048 then (I.q b ⟨t, ht⟩ h d).toReal else 0
def rk (d : Fin 256) (t : ℕ) : ℝ := if ht : t < 2048 then (I.k b ⟨t, ht⟩ h d).toReal * (1 / 16) else 0
def rv (e : Fin 512) (t : ℕ) : ℝ := if ht : t < 2048 then (I.v b ⟨t, ht⟩ h e).toReal else 0

variable {I} in
theorem q_coe (hI : I.Finite) (t : Fin 2048) (d : Fin 256) : I.q b t h d = ((rq I b h d t.val : ℝ) : EReal) := by
  rw [rq, dif_pos t.isLt]; exact hI.q b t h d

variable {I} in
theorem k_coe (hI : I.Finite) (t : Fin 2048) (d : Fin 256) :
    I.k b t h d * ((1 / 16 : ℝ) : EReal) = ((rk I b h d t.val : ℝ) : EReal) := by
  rw [rk, dif_pos t.isLt, EReal.coe_mul, ← hI.k b t h d]

variable {I} in
theorem v_coe (hI : I.Finite) (t : Fin 2048) (e : Fin 512) : I.v b t h e = ((rv I b h e t.val : ℝ) : EReal) := by
  rw [rv, dif_pos t.isLt]; exact hI.v b t h e

/-- One entry of the state before position `t`. -/
def state (d : Fin 256) (e : Fin 512) (t : ℕ) : ℝ := St (lgR h) (rk I b h d) (rv I b h e) t

/-- One entry of the retention output at position `t`. -/
def out (e : Fin 512) (t : ℕ) : ℝ := Out (lgR h) (fun d => rq I b h d t) (rk I b h) (rv I b h e) t

/-- A head's output normalised. -/
def norm (o : Fin 512 → EReal) (e : Fin 512) : EReal :=
  (o e - Ideal.div (∑ x, o x) (Ideal.ofBits .f32 1140850688#32))
    * Ideal.rsqrt (Ideal.div (∑ x, (o x - Ideal.div (∑ x, o x) (Ideal.ofBits .f32 1140850688#32))
        * (o x - Ideal.div (∑ x, o x) (Ideal.ofBits .f32 1140850688#32))) (Ideal.ofBits .f32 1140850688#32)
      + Ideal.ofBits .f32 897988541#32)

/-- A row of the stream divided by its root mean square. -/
def rms (y : Fin 1024 → EReal) (j : Fin 1024) : EReal :=
  y j * Ideal.rsqrt (Ideal.div (∑ x, y x * y x) (Ideal.ofBits .f32 1149239296#32) + Ideal.ofBits .f32 897988541#32)

/-- Column `e` of head `h`. -/
def col (h : Fin 4) (e : Fin 512) : Fin 2048 := ⟨h.val * 512 + e.val, by omega⟩

theorem col_div (h : Fin 4) (e : Fin 512) : (col h e).val / 512 = h.val := by simp only [col]; omega
theorem col_mod (h : Fin 4) (e : Fin 512) : (col h e).val % 512 = e.val := by simp only [col]; omega

/-- The gate of column `e` of head `h`. -/
def gate (t : Fin 2048) (e : Fin 512) : EReal := I.g b t (col h e) * Ideal.div 1 (1 + Ideal.exp (-I.g b t (col h e)))

/-- What head `h` adds to column `j` of row `t`. -/
def part (t : Fin 2048) (j : Fin 1024) : EReal :=
  ∑ e, gate I b h t e * norm (fun e => ((out I b h e t.val : ℝ) : EReal)) e * I.w (col h e) j

/-- Row `t` before the last normalisation. -/
def row (t : Fin 2048) (j : Fin 1024) : EReal := I.x b t j + ∑ h, part I b h t j

/-- Row `t` of the first result. -/
def y (t : Fin 2048) (j : Fin 1024) : EReal := rms (row I b t) j * I.gf j

/-- The kernel's form of the gate. -/
theorem gate_tanh {I : Inp} (hI : I.Finite) (t : Fin 2048) (e : Fin 512) :
    Ideal.ofBits .f32 1056964608#32 * I.g b t (col h e) + Ideal.ofBits .f32 1056964608#32 * I.g b t (col h e)
      * Ideal.tanh (Ideal.ofBits .f32 1056964608#32 * I.g b t (col h e)) = gate I b h t e := by
  rw [gate, ofBits_half, hI.g b t (col h e)]
  exact silu_coe _

/-- A sum over the columns is a sum over heads and their columns. -/
theorem sum_col (f : Fin 2048 → EReal) : ∑ c, f c = ∑ h, ∑ e, f (col h e) := by
  rw [← Fintype.sum_prod_type']
  refine (Fintype.sum_bijective (fun p : Fin 4 × Fin 512 => col p.1 p.2) ⟨?_, ?_⟩ _ _ fun _ => rfl).symm
  · rintro ⟨h, e⟩ ⟨h', e'⟩ heq
    have := congrArg Fin.val heq
    simp only [col] at this
    ext <;> simp <;> omega
  · intro c
    exact ⟨(⟨c.val / 512, by omega⟩, ⟨c.val % 512, by omega⟩), Fin.ext (by simp only [col]; omega)⟩

end Cert.Spec

end
-- ==== Proof.Head.lean ====
module

public import proofs.«01_k».proof.Proof.Point
public import proofs.«01_k».proof.Proof.Spec
public import Idealize.ShloMosaic.Lib.Pointwise

/-! The values of one grid point of the kernel.

A point that starts from the state at its first position leaves the state 1024 positions later and 1024 finished rows. -/

@[expose] public section

set_option maxRecDepth 16384

noncomputable section

namespace Cert.KernelIdeal.Head

open Cert.KernelIdeal Cert.KernelIdeal.Gen Idealize.ShloMosaic Idealize.ShloMosaic.TcCoe Idealize.SL.Sem Point
open Cert.Spec Cert.Model

variable (x0 : Vec Ideal S4 .f32) (x1 x2 : Vec Ideal S1024x1024 .bf16) (x3 x4 : Vec Ideal S1024x2048 .bf16)
variable (x5 : Vec Ideal S1024x1024 .f32) (x6 : Vec Ideal S2048x1024 .f32) (x7 : Vec Ideal S1x1024 .f32)
variable (S : Vec Ideal S1x4x256x512 .f32)

theorem newState_at (k : Vec Ideal S256x256 .bf16) (v : Vec Ideal S256x512 .bf16) (S : Vec Ideal S1x1x256x512 .f32)
    (g : Elt Ideal .f32) (d : Fin 256) (e : Fin 512) :
    newState k v S g (ix4 0 0 d e) = (g * (S (ix4 0 0 d e) + ∑ x, k (ix2 x d) * v (ix2 x e)) : EReal) := by
  unfold newState
  pointwise [k0_pay7, k0_pay5, k0_pay3, k0_pay4]

theorem outBlk_at (q k : Vec Ideal S256x256 .bf16) (v : Vec Ideal S256x512 .bf16) (S : Vec Ideal S1x1x256x512 .f32)
    (i : Fin 256) (e : Fin 512) : outBlk q k v S (ix2 i e)
      = (∑ x : Fin 256, (if x.val ≤ i.val then ∑ d, q (ix2 i d) * k (ix2 x d) else 0) * v (ix2 x e)
        + ∑ d, q (ix2 i d) * S (ix4 0 0 d e) : EReal) := by
  unfold outBlk
  pointwise [k0_pay6, k0_pay5, k0_pay3, k0_pay4, k0_pay2]
  congr 1
  refine Finset.sum_congr rfl fun x _ => ?_
  rw [Spec.select_le _ _ (by omega) (by omega), ite_mul, zero_mul]

theorem gated_at (o : FVec Ideal S256x512 .f32) (g : Vec Ideal S256x512 .bf16) (i : Fin 256) (e : Fin 512) :
    gated o g (ix3 0 i e) = (norm (fun x => o (ix2 i x)) e * (Ideal.ofBits .f32 1056964608#32 * g (ix2 i e)
      + Ideal.ofBits .f32 1056964608#32 * g (ix2 i e) * Ideal.tanh (Ideal.ofBits .f32 1056964608#32 * g (ix2 i e))) : EReal) := by
  unfold gated
  pointwise [k0_pay8]
  rfl

theorem dec_at (h : Fin 4) : dec x0 h = x0 (ix1 h) := by
  refine congrArg x0 (funext fun a => Fin.ext ?_)
  fin_cases a
  show h.val + 1 * 0 = h.val
  omega

theorem qkB_at (b h : Fin 4) (i j : Fin 256) : qkB x1 b h (ix2 i j) = x1 (ix2 ⟨b * 256 + i, by omega⟩ ⟨h * 256 + j, by omega⟩) := by
  refine congrArg x1 (funext fun a => Fin.ext ?_)
  fin_cases a
  · show b.val * 256 + 1 * i.val = b.val * 256 + i.val; omega
  · show h.val * 256 + 1 * j.val = h.val * 256 + j.val; omega

theorem vB_at (b h : Fin 4) (i : Fin 256) (e : Fin 512) : vB x3 b h (ix2 i e) = x3 (ix2 ⟨b * 256 + i, by omega⟩ (col h e)) := by
  refine congrArg x3 (funext fun a => Fin.ext ?_)
  fin_cases a
  · show b.val * 256 + 1 * i.val = b.val * 256 + i.val; omega
  · show h.val * 512 + 1 * e.val = h.val * 512 + e.val; omega

theorem hd_at (h : Fin 4) (d : Fin 256) (e : Fin 512) : hd S h (ix4 0 0 d e) = S (ix4 0 h d e) := by
  refine congrArg S (funext fun a => Fin.ext ?_)
  fin_cases a
  · rfl
  · show h.val + 1 * 0 = h.val; omega
  · show 0 + 1 * d.val = d.val; omega
  · show 0 + 1 * e.val = e.val; omega

theorem woB_at (h : Fin 4) (e : Fin 512) (j : Fin 1024) : woB x6 h (ix2 e j) = x6 (ix2 (col h e) j) := by
  refine congrArg x6 (funext fun a => Fin.ext ?_)
  fin_cases a
  · show h.val * 512 + 1 * e.val = h.val * 512 + e.val; omega
  · show 0 + 1 * j.val = j.val; omega

theorem scrHead_at (b h : Fin 4) (i : Fin 256) (j : Fin 512) : scrHead x0 x1 x2 x3 x4 S h (ix3 0 ⟨b * 256 + i, by omega⟩ j)
    = rowsAt x0 x1 x2 x3 x4 S b h (ix3 0 i j) := by
  unfold scrHead
  refine scr_at _ _ _ _ _ _ b h (ix3 0 i j) _ ?_ ?_ ?_
  · show h.val + 1 * 0 = _; omega
  · show 0 + 1 * (b.val * 256 + i.val) = _; simp
  · show 0 + 1 * j.val = _; simp

/-- What a point's eight operands and its first state hold: rows `T` to `T + 1024` of batch row `B`. -/
structure Holds (I : Inp) (B : Fin 16) (T : ℕ) : Prop where
  fin : I.Finite
  le : T + 1024 ≤ 2048
  g : ∀ h, x0 (ix1 h) = ((Real.exp ((256 : ℕ) * lgR h) : ℝ) : EReal)
  q : ∀ (b h : Fin 4) (i d : Fin 256), x1 (ix2 ⟨b * 256 + i, by omega⟩ ⟨h * 256 + d, by omega⟩)
    = ((rq I B h d (T + b * 256 + i) * Real.exp (((i : ℕ) + 1) * lgR h) : ℝ) : EReal)
  k : ∀ (b h : Fin 4) (i d : Fin 256), x2 (ix2 ⟨b * 256 + i, by omega⟩ ⟨h * 256 + d, by omega⟩)
    = ((rk I B h d (T + b * 256 + i) * Real.exp (-(((i : ℕ) + 1) * lgR h)) : ℝ) : EReal)
  v : ∀ (b h : Fin 4) (i : Fin 256) (e : Fin 512), x3 (ix2 ⟨b * 256 + i, by omega⟩ (col h e))
    = ((rv I B h e (T + b * 256 + i) : ℝ) : EReal)
  gate : ∀ (r : Fin 1024) (c : Fin 2048), x4 (ix2 r c) = I.g B ⟨T + r, by omega⟩ c
  x : ∀ (r : Fin 1024) (j : Fin 1024), x5 (ix2 r j) = I.x B ⟨T + r, by omega⟩ j
  w : ∀ c j, x6 (ix2 c j) = I.w c j
  gf : ∀ j, x7 (ix2 0 j) = I.gf j
  st : ∀ h d e, S (ix4 0 h d e) = ((state I B h d e T : ℝ) : EReal)

variable {x0 x1 x2 x3 x4 x5 x6 x7 S}
variable {I : Inp} {B : Fin 16} {T : ℕ} (H : Holds x0 x1 x2 x3 x4 x5 x6 x7 S I B T)
include H

/-- The state before block `n`. -/
theorem stAt_val (h : Fin 4) (d : Fin 256) (e : Fin 512) : ∀ n, n ≤ 4 →
    stAt x0 x2 x3 S h n (ix4 0 0 d e) = ((state I B h d e (T + n * 256) : ℝ) : EReal)
  | 0, _ => by
    rw [show stAt x0 x2 x3 S h 0 = hd S h from rfl, hd_at, H.st]
    simp
  | n + 1, hn => by
    have ih := stAt_val h d e n (by omega)
    have hs := stAt_succ x0 x2 x3 S h ⟨n, by omega⟩
    simp only at hs
    rw [hs, newState_at, dec_at, ih, H.g]
    have hsum : ∑ x, qkB x2 ⟨n, by omega⟩ h (ix2 x d) * vB x3 ⟨n, by omega⟩ h (ix2 x e)
        = ((∑ j ∈ Finset.range 256, rk I B h d (T + n * 256 + j) * Real.exp (-(((j : ℕ) + 1) * lgR h))
            * rv I B h e (T + n * 256 + j) : ℝ) : EReal) := by
      rw [Finset.sum_range, ← sum_coe]
      refine Finset.sum_congr rfl fun x _ => ?_
      rw [qkB_at, vB_at, H.k, H.v, ← EReal.coe_mul]
    rw [hsum, ← EReal.coe_add, ← EReal.coe_mul]
    congr 1
    rw [state, St_block (lgR h) (rv I B h e) (T + n * 256) (rk I B h d) 256, state]
    congr 1
    ring

/-- The output of a block. -/
theorem outBlk_val (b h : Fin 4) (i : Fin 256) (e : Fin 512) :
    outBlk (qkB x1 b h) (qkB x2 b h) (vB x3 b h) (stAt x0 x2 x3 S h b.val) (ix2 i e)
      = ((out I B h e (T + b * 256 + i) : ℝ) : EReal) := by
  rw [outBlk_at, out, ← Out_block (lgR h) (rv I B h e) (T + b * 256) (fun d => rq I B h d (T + b * 256 + i)) (rk I B h) 256 i i.isLt,
    EReal.coe_add, Finset.sum_range, ← sum_coe, ← sum_coe]
  congr 1
  · refine Finset.sum_congr rfl fun x _ => ?_
    rw [vB_at, H.v, EReal.coe_mul]
    congr 1
    split
    · rw [← sum_coe]
      refine Finset.sum_congr rfl fun d _ => ?_
      rw [qkB_at, qkB_at, H.q, H.k, ← EReal.coe_mul]
    · rfl
  · refine Finset.sum_congr rfl fun d _ => ?_
    rw [qkB_at, H.q, stAt_val H h d e b.val (by omega), ← EReal.coe_mul]
    rfl

/-- The gated rows. -/
theorem rowsAt_val (b h : Fin 4) (i : Fin 256) (e : Fin 512) : rowsAt x0 x1 x2 x3 x4 S b h (ix3 0 i e)
    = norm (fun e => ((out I B h e (T + b * 256 + i) : ℝ) : EReal)) e
      * Spec.gate I B h ⟨T + b * 256 + i, by have := H.le; omega⟩ e := by
  rw [rowsAt, gated_at, ← gate_tanh B h H.fin]
  congr 1
  · congr 1
    funext x
    exact outBlk_val H b h i x
  · rw [vB_at, H.gate]
    simp only [← Nat.add_assoc]

/-- A head's projection. -/
theorem part_val (b h : Fin 4) (i : Fin 256) (j : Fin 1024) :
    ∑ x, scrHead x0 x1 x2 x3 x4 S h (ix3 0 ⟨b * 256 + i, by omega⟩ x) * woB x6 h (ix2 x j)
      = part I B h ⟨T + b * 256 + i, by have := H.le; omega⟩ j := by
  refine Finset.sum_congr rfl fun e _ => ?_
  rw [scrHead_at, rowsAt_val H, woB_at, H.w, mul_comm (norm _ _)]

/-- The rows that the point leaves. -/
theorem yEnd_val (b : Fin 4) (i : Fin 256) (j : Fin 1024) :
    yEnd x0 x1 x2 x3 x4 x5 x6 x7 S (ix2 ⟨b * 256 + i, by omega⟩ j) = y I B ⟨T + b * 256 + i, by have := H.le; omega⟩ j := by
  have hr : ∀ j, x5 (ix2 (⟨b * 256 + i, by omega⟩ : Fin 1024) j)
      + ∑ x, scrHead x0 x1 x2 x3 x4 S 0 (ix3 0 ⟨b * 256 + i, by omega⟩ x) * woB x6 0 (ix2 x j)
      + ∑ x, scrHead x0 x1 x2 x3 x4 S 1 (ix3 0 ⟨b * 256 + i, by omega⟩ x) * woB x6 1 (ix2 x j)
      + ∑ x, scrHead x0 x1 x2 x3 x4 S 2 (ix3 0 ⟨b * 256 + i, by omega⟩ x) * woB x6 2 (ix2 x j)
      + ∑ x, scrHead x0 x1 x2 x3 x4 S 3 (ix3 0 ⟨b * 256 + i, by omega⟩ x) * woB x6 3 (ix2 x j)
      = row I B ⟨T + b * 256 + i, by have := H.le; omega⟩ j := by
    intro j
    rw [part_val H, part_val H, part_val H, part_val H, H.x, row, Fin.sum_univ_four]
    simp only [add_assoc]
  unfold yEnd
  pointwise [k0_pay128, k0_pay118, k0_pay110, k0_pay109, k0_pay101]
  simp only [hr, H.gf]
  rfl

/-- The state that the point leaves. -/
theorem stEnd_val (h : Fin 4) (d : Fin 256) (e : Fin 512) :
    stEnd x0 x2 x3 S (ix4 0 h d e) = ((state I B h d e (T + 1024) : ℝ) : EReal) := by
  rw [stEnd_at x0 x2 x3 S h (ix4 0 0 d e) (ix4 0 h d e) rfl rfl rfl, stAt_val H h d e 4 (le_refl _)]

end Cert.KernelIdeal.Head

end
-- ==== Proof.Host.lean ====
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.StableHlo.RunRead

/-! The arrays that the host part of the kernel's program prepares, entry by entry. -/

@[expose] public section

set_option maxRecDepth 16384

noncomputable section

namespace Cert.KernelIdeal.Host

open Cert.KernelIdeal Cert.KernelIdeal.Gen Idealize.ShloMosaic Idealize.ShloMosaic.TcCoe Idealize.SL.Sem Cert.Spec

variable (m : (ℓ : Loc nD τ sig) → Buf (Elt Ideal) ℓ)

/-- The arguments' entries on a device. -/
def inp (c : Dev nD) : Inp where
  q b t h d := m (c, Proc.tc.devRef main_arg0) (ix4 b t h d)
  k b t h d := m (c, Proc.tc.devRef main_arg1) (ix4 b t h d)
  v b t h e := m (c, Proc.tc.devRef main_arg2) (ix4 b t h e)
  g b t j := m (c, Proc.tc.devRef main_arg3) (ix3 b t j)
  x b t j := m (c, Proc.tc.devRef main_arg4) (ix3 b t j)
  w i j := m (c, Proc.tc.devRef main_arg5) (ix2 i j)
  gf j := m (c, Proc.tc.devRef main_arg6) (ix1 j)

/-- The divisor of the remainder. -/
def divisor : BitVec 32 := Scalar.select (IntOp.cmpi .eq 256#32 0#32) 1#32 256#32

/-- The remainder by 256 as the program takes it: the sign corrected where it differs from the divisor's. -/
def remWord (n : BitVec 32) : BitVec 32 :=
  Scalar.select (IntOp.andi (IntOp.cmpi .ne (IntOp.cmpi .slt (IntOp.remsi .host n divisor) 0#32) (IntOp.cmpi .slt divisor 0#32))
      (IntOp.cmpi .ne (IntOp.remsi .host n divisor) 0#32))
    (IntOp.addi (IntOp.remsi .host n divisor) divisor) (IntOp.remsi .host n divisor)

theorem remWord_eq (t : Fin 2048) : remWord (BitVec.ofNat 32 t.val) = BitVec.ofNat 32 (t.val % 256) := by
  revert t
  decide +kernel

/-- The position inside its block of 256, plus one. -/
theorem pos_coe (n : ℕ) (hn : n < 2048) : (FloatOps.sitofp .f32 (remWord (BitVec.ofNat 32 n)) : Ideal .f32) + (1 : EReal)
    = (((n % 256 : ℕ) + 1 : ℝ) : EReal) := by
  rw [remWord_eq ⟨n, hn⟩, sitofp_nat _ (by simp only; omega), EReal.coe_add]
  rfl

theorem g_entry (c : Dev nD) (h : Fin 4) :
    (V m c main_v33 : Vec Ideal S4 .f32) (ix1 h) = ((Real.exp ((256 : ℕ) * lgR h) : ℝ) : EReal) := by
  simp only [V, hostOps0, hostOps0_1, hostOps0_2, List.flatten_cons, List.flatten_nil, List.append_nil, List.cons_append,
    List.nil_append]
  after_reads_simp
  pointwise
  have h256 : Ideal.ofBits .f32 1132462080#32 = (((256 : ℕ) : ℝ) : EReal) := by
    simp [Ideal.ofBits, Ideal.ieee, -EReal.coe_mul]; norm_num
  rw [lg_coe h, h256, ← EReal.coe_mul]
  rfl

theorem q_entry (c : Dev nD) (r : Fin 32768) (j : Fin 1024) : (V m c main_v26 : Vec Ideal S32768x1024 .bf16) (ix2 r j)
    = (inp m c).q ⟨r / 2048, by omega⟩ ⟨r % 2048, by omega⟩ ⟨j / 256, by omega⟩ ⟨j % 256, by omega⟩
      * ((Real.exp (((r % 256 : ℕ) + 1) * lgR ⟨j / 256, by omega⟩) : ℝ) : EReal) := by
  simp only [V, hostOps0, hostOps0_1, hostOps0_2, List.flatten_cons, List.flatten_nil, List.append_nil, List.cons_append,
    List.nil_append]
  after_reads_simp
  simp only [StableHlo.TRef.ofBuf, StableHlo.TRef.toBuf, StableHlo.TRef.of, cast_cast, cast_eq]
  pointwise
  have hp := pos_coe (r % 2048) (by omega)
  have hl := lg_coe ⟨j / 256, by omega⟩
  simp only at hl
  erw [hp, hl]
  rw [show (r.val % 2048) % 256 = r.val % 256 by omega, ← EReal.coe_mul]
  rfl

theorem k_entry (c : Dev nD) (r : Fin 32768) (j : Fin 1024) : (V m c main_v30 : Vec Ideal S32768x1024 .bf16) (ix2 r j)
    = (inp m c).k ⟨r / 2048, by omega⟩ ⟨r % 2048, by omega⟩ ⟨j / 256, by omega⟩ ⟨j % 256, by omega⟩
      * (((Real.exp (-(((r % 256 : ℕ) + 1) * lgR ⟨j / 256, by omega⟩)) : ℝ) : EReal) * ((1 / 16 : ℝ) : EReal)) := by
  simp only [V, hostOps0, hostOps0_1, hostOps0_2, List.flatten_cons, List.flatten_nil, List.append_nil, List.cons_append,
    List.nil_append]
  after_reads_simp
  simp only [StableHlo.TRef.ofBuf, StableHlo.TRef.toBuf, StableHlo.TRef.of, cast_cast, cast_eq]
  pointwise
  have hp := pos_coe (r % 2048) (by omega)
  have hl := lg_coe ⟨j / 256, by omega⟩
  simp only at hl
  erw [hp, hl]
  rw [show (r.val % 2048) % 256 = r.val % 256 by omega, ← EReal.coe_mul, ofBits_sixteenth]
  rfl

theorem v_entry (c : Dev nD) (r : Fin 32768) (j : Fin 2048) : (V m c main_v35 : Vec Ideal S32768x2048 .bf16) (ix2 r j)
    = (inp m c).v ⟨r / 2048, by omega⟩ ⟨r % 2048, by omega⟩ ⟨j / 512, by omega⟩ ⟨j % 512, by omega⟩ := by
  simp only [V, hostOps0, hostOps0_1, hostOps0_2, List.flatten_cons, List.flatten_nil, List.append_nil, List.cons_append,
    List.nil_append]
  after_reads_simp
  pointwise
  rfl

theorem gate_entry (c : Dev nD) (r : Fin 32768) (j : Fin 2048) : (V m c main_v37 : Vec Ideal S32768x2048 .bf16) (ix2 r j)
    = (inp m c).g ⟨r / 2048, by omega⟩ ⟨r % 2048, by omega⟩ j := by
  simp only [V, hostOps0, hostOps0_1, hostOps0_2, List.flatten_cons, List.flatten_nil, List.append_nil, List.cons_append,
    List.nil_append]
  after_reads_simp
  pointwise
  rfl

theorem x_entry (c : Dev nD) (r : Fin 32768) (j : Fin 1024) : (V m c main_v38 : Vec Ideal S32768x1024 .f32) (ix2 r j)
    = (inp m c).x ⟨r / 2048, by omega⟩ ⟨r % 2048, by omega⟩ j := by
  simp only [V, hostOps0, hostOps0_1, hostOps0_2, List.flatten_cons, List.flatten_nil, List.append_nil, List.cons_append,
    List.nil_append]
  after_reads_simp
  pointwise
  rfl

theorem gf_entry (c : Dev nD) (j : Fin 1024) : (V m c main_v39 : Vec Ideal S1x1024 .f32) (ix2 0 j) = (inp m c).gf j := by
  simp only [V, hostOps0, hostOps0_1, hostOps0_2, List.flatten_cons, List.flatten_nil, List.append_nil, List.cons_append,
    List.nil_append]
  after_reads_simp
  pointwise
  rfl

end Cert.KernelIdeal.Host

end
-- ==== Proof.Arr.lean ====
module

public import proofs.«01_k».proof.Proof.Head
public import proofs.«01_k».proof.Proof.Host

/-! The two result arrays of the kernel's program, entry by entry. -/

@[expose] public section

set_option maxRecDepth 16384

noncomputable section

namespace Cert.KernelIdeal.Arr

open Cert.KernelIdeal Cert.KernelIdeal.Gen Idealize.ShloMosaic Idealize.ShloMosaic.TcCoe Idealize.SL.Sem Point
open Cert.Spec Cert.Model Head Host

variable (m : (ℓ : Loc nD τ sig) → Buf (Elt Ideal) ℓ)

theorem tlt (t : Fin cfg0.N) : t.val < 32 := t.isLt

theorem idx : ∀ t : Fin cfg0.N, win0_0.index t = ![0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![t.val, 0] ∧ win0_9.index t = ![t.val / 2, 0, 0, 0] :=
  (by decide +kernel : ∀ t : Fin grid0.N, _)

variable (c : Dev nD) (t : Fin cfg0.N)

/-- Row `r` of point `t` in an array of 32768 rows. -/
def ptRow (r : Fin 1024) : Fin 32768 := ⟨t.val * 1024 + r.val, by have := tlt t; omega⟩

theorem row_div (r : Fin 1024) : (ptRow t r).val / 2048 = t.val / 2 := by simp only [ptRow]; omega
theorem row_mod (r : Fin 1024) : (ptRow t r).val % 2048 = t.val % 2 * 1024 + r.val := by simp only [ptRow]; omega
theorem row_pos (r : Fin 1024) : (ptRow t r).val % 256 = r.val % 256 := by simp only [ptRow]; omega
theorem div_cols (h : Fin 4) (d : Fin 256) : (h.val * 256 + d.val) / 256 = h.val := by omega
theorem mod_cols (h : Fin 4) (d : Fin 256) : (h.val * 256 + d.val) % 256 = d.val := by omega

theorem blk0 (h : Fin 4) : iblk m c 0 t (ix1 h) = (V m c main_v33 : Vec Ideal S4 .f32) (ix1 h) := by
  blk_ext [iblk, idx t]
theorem blk1 (r : Fin 1024) (j : Fin 1024) :
    iblk m c 1 t (ix2 r j) = (V m c main_v26 : Vec Ideal S32768x1024 .bf16) (ix2 (ptRow t r) j) := by
  blk_ext [iblk, idx t, ptRow]
theorem blk2 (r : Fin 1024) (j : Fin 1024) :
    iblk m c 2 t (ix2 r j) = (V m c main_v30 : Vec Ideal S32768x1024 .bf16) (ix2 (ptRow t r) j) := by
  blk_ext [iblk, idx t, ptRow]
theorem blk3 (r : Fin 1024) (j : Fin 2048) :
    iblk m c 3 t (ix2 r j) = (V m c main_v35 : Vec Ideal S32768x2048 .bf16) (ix2 (ptRow t r) j) := by
  blk_ext [iblk, idx t, ptRow]
theorem blk4 (r : Fin 1024) (j : Fin 2048) :
    iblk m c 4 t (ix2 r j) = (V m c main_v37 : Vec Ideal S32768x2048 .bf16) (ix2 (ptRow t r) j) := by
  blk_ext [iblk, idx t, ptRow]
theorem blk5 (r : Fin 1024) (j : Fin 1024) :
    iblk m c 5 t (ix2 r j) = (V m c main_v38 : Vec Ideal S32768x1024 .f32) (ix2 (ptRow t r) j) := by
  blk_ext [iblk, idx t, ptRow]
theorem blk6 (r : Fin 2048) (j : Fin 1024) : iblk m c 6 t (ix2 r j) = (V m c main_arg5 : Vec Ideal S2048x1024 .f32) (ix2 r j) := by
  blk_ext [iblk, idx t]
theorem blk7 (j : Fin 1024) : iblk m c 7 t (ix2 0 j) = (V m c main_v39 : Vec Ideal S1x1024 .f32) (ix2 0 j) := by
  blk_ext [iblk, idx t]

theorem emb8 (r j : Fin 1024) : ((cfg0.win 8).blk t).view.emb (ix2 r j) = (ix2 (ptRow t r) j : S32768x1024.Idx) := by
  blk_ext [idx t, ptRow]
theorem emb9 (h : Fin 4) (d : Fin 256) (e : Fin 512) : ((cfg0.win 9).blk t).view.emb (ix4 0 h d e)
    = (ix4 ⟨t.val / 2, by have := tlt t; omega⟩ h d e : S16x4x256x512.Idx) := by
  blk_ext [idx t]

variable {c} (hI : (inp m c).Finite)
include hI

/-- The operands of a point, given the state it starts from. -/
theorem holds (S : Vec Ideal S1x4x256x512 .f32)
    (hS : ∀ h d e, S (ix4 0 h d e) = ((state (inp m c) ⟨t.val / 2, by have := tlt t; omega⟩ h d e (t.val % 2 * 1024) : ℝ) : EReal)) :
    Holds (iblk m c 0 t) (iblk m c 1 t) (iblk m c 2 t) (iblk m c 3 t) (iblk m c 4 t) (iblk m c 5 t) (iblk m c 6 t) (iblk m c 7 t) S
      (inp m c) ⟨t.val / 2, by have := tlt t; omega⟩ (t.val % 2 * 1024) where
  fin := hI
  le := by omega
  g h := by rw [blk0]; exact g_entry m c h
  q b h i d := by
    rw [blk1, q_entry, q_coe _ _ hI, ← EReal.coe_mul]
    simp only [row_div, row_mod, row_pos, div_cols, mod_cols, col_div, col_mod, ← Nat.add_assoc, Fin.eta]
  k b h i d := by
    rw [blk2, k_entry, mul_comm (((Real.exp _ : ℝ)) : EReal), ← mul_assoc, k_coe _ _ hI, ← EReal.coe_mul]
    simp only [row_div, row_mod, row_pos, div_cols, mod_cols, col_div, col_mod, ← Nat.add_assoc, Fin.eta]
  v b h i e := by
    rw [blk3, v_entry, v_coe _ _ hI]
    simp only [row_div, row_mod, row_pos, div_cols, mod_cols, col_div, col_mod, ← Nat.add_assoc, Fin.eta]
  gate r j := by
    rw [blk4, gate_entry]
    simp only [row_div, row_mod]
  x r j := by
    rw [blk5, x_entry]
    simp only [row_div, row_mod]
  w r j := by rw [blk6, V_main_arg5]; rfl
  gf j := by rw [blk7, gf_entry]
  st := hS

/-- The state after a point. -/
theorem state_val : ∀ (n : ℕ) (hn : n < cfg0.N) (h : Fin 4) (d : Fin 256) (e : Fin 512), (outsAt0 m c n hn).2 (ix4 0 h d e)
    = ((state (inp m c) ⟨n / 2, by have : n < 32 := hn; omega⟩ h d e (n % 2 * 1024 + 1024) : ℝ) : EReal)
  | n, hn, h, d, e => by
    by_cases h0 : n % 2 = 0
    · rw [state_A m c ⟨n, hn⟩ h0]
      refine stEnd_val (holds m ⟨n, hn⟩ hI _ fun h d e => ?_) h d e
      simp only [h0]
      pointwise [k0_pay1]
      simp [state, St]
    · rw [state_B m c ⟨n, hn⟩ h0]
      refine stEnd_val (holds m ⟨n, hn⟩ hI _ fun h d e => ?_) h d e
      rw [state_val (n - 1) _ h d e]
      have h1 : (n - 1) / 2 = n / 2 := by omega
      have h2 : (n - 1) % 2 * 1024 + 1024 = n % 2 * 1024 := by omega
      simp only [h1, h2]

/-- The rows after a point. -/
theorem rows_val (b : Fin 4) (i : Fin 256) (j : Fin 1024) : (outsAt0 m c t.val t.isLt).1 (ix2 ⟨b * 256 + i, by omega⟩ j)
    = y (inp m c) ⟨t.val / 2, by have := tlt t; omega⟩ ⟨t.val % 2 * 1024 + b * 256 + i, by omega⟩ j := by
  by_cases h0 : t.val % 2 = 0
  · rw [rows_A m c t h0]
    refine yEnd_val (holds m t hI _ fun h d e => ?_) b i j
    simp only [h0]
    pointwise [k0_pay1]
    simp [state, St]
  · rw [rows_B m c t h0]
    refine yEnd_val (holds m t hI _ fun h d e => ?_) b i j
    rw [state_val m hI (t.val - 1) _ h d e]
    have h1 : (t.val - 1) / 2 = t.val / 2 := by omega
    have h2 : (t.val - 1) % 2 * 1024 + 1024 = t.val % 2 * 1024 := by omega
    simp only [h1, h2]

/-- The first result of the kernel's program. -/
def yArr (m : (ℓ : Loc nD τ sig) → Buf (Elt Ideal) ℓ) (c : Dev nD) : Vec Ideal S32768x1024 .f32 := fun z =>
  y (inp m c) ⟨(z 0).val / 2048, by have : (z 0).val < 32768 := (z 0).isLt; omega⟩ ⟨(z 0).val % 2048, by omega⟩ ⟨(z 1).val, (z 1).isLt⟩

/-- The second result of the kernel's program. -/
def stArr (m : (ℓ : Loc nD τ sig) → Buf (Elt Ideal) ℓ) (c : Dev nD) : Vec Ideal S16x4x256x512 .f32 := fun z =>
  ((state (inp m c) ⟨(z 0).val, (z 0).isLt⟩ ⟨(z 1).val, (z 1).isLt⟩ ⟨(z 2).val, (z 2).isLt⟩ ⟨(z 3).val, (z 3).isLt⟩ 2048 : ℝ) : EReal)

omit hI in
theorem flush9 : ∀ t : Fin cfg0.N, (cfg0.win 9).flush t = true → t.val % 2 = 1 :=
  (by decide +kernel : ∀ t : Fin grid0.N, (cfg0.win 9).flush t = true → t.val % 2 = 1)

theorem y_final : (dats m 0 c).arrAt 8 cfg0.N = yArr m c := by
  refine (dats m 0 c).arrAt_eq_of_covers 8 _ (by decide +kernel) fun t _ y => ?_
  blk_simp
  rw [after0_8]
  idx_vars y
  refine Eq.trans ?_ (congrArg (yArr m c) (emb8 t y0 y1)).symm
  have hv := rows_val m t hI ⟨y0.val / 256, by omega⟩ ⟨y0.val % 256, by omega⟩ y1
  have h1 : y0.val / 256 * 256 + y0.val % 256 = y0.val := by omega
  simp only [Nat.add_assoc, h1, Fin.eta] at hv
  refine hv.trans ?_
  show _ = y (inp m c) ⟨(ptRow t y0).val / 2048, _⟩ ⟨(ptRow t y0).val % 2048, _⟩ y1
  simp only [row_div, row_mod]

theorem st_final : (dats m 0 c).arrAt 9 cfg0.N = stArr m c := by
  refine (dats m 0 c).arrAt_eq_of_covers 9 _ (by decide +kernel) fun t hf y => ?_
  have hodd := flush9 t hf
  blk_simp
  rw [after0_9]
  idx_vars y
  obtain rfl : y0 = 0 := Subsingleton.elim _ _
  refine Eq.trans ?_ (congrArg (stArr m c) (emb9 t y1 y2 y3)).symm
  refine (state_val m hI t.val t.isLt y1 y2 y3).trans ?_
  rw [hodd]
  rfl

end Cert.KernelIdeal.Arr

end
-- ==== Proof.Loop.lean ====
module

public import proofs.«01_k».proof.Proof.Gen.ReferenceIdeal.Run
public import proofs.«01_k».proof.Proof.Spec
public import Idealize.ShloMosaic.Lib.Pointwise
public import Idealize.ShloMosaic.Lib.DynamicIndex
public import Idealize.ShloMosaic.Lib.StableHlo.RunRead

/-! The reference's loop over chunks of 128 positions, and its two results, entry by entry. -/

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe
open Idealize.SL.Sem Idealize.ShloMosaic.StableHlo Cert.Spec Cert.Model

/-- The start of a chunk. -/
theorem start_eq (n : ℕ) (hn : n < 16) (w : IVec S_ 32) (hw : ∀ i, w i = BitVec.ofNat 32 n) (a : Fin 5) :
    (((![w, constantI S_ 32 0#32, constantI S_ 32 0#32, constantI S_ 32 0#32, constantI S_ 32 0#32] : Fin 5 → IVec S_ 32) a
      (Shape.Idx.first h_S_)).toInt) = ((![n, 0, 0, 0, 0] : Fin 5 → ℕ) a : ℤ) := by
  fin_cases a
  · show (w _).toInt = (n : ℤ)
    rw [hw, toInt_nat n (by omega)]
  all_goals rfl

theorem slices {n : ℕ} (hn : n < 16) (k : ℕ) :
    (⟨5, ![16, 16, 128, 4, k]⟩ : Shape).Slices ![n, 0, 0, 0, 0] (⟨5, ![1, 16, 128, 4, k]⟩ : Shape) :=
  ⟨rfl, fun a => by fin_cases a <;> simp <;> omega⟩

/-- An update of chunk `n`, at an index. -/
theorem upd_at {n : ℕ} (hn : n < 16) (X : Vec Ideal S16x16x128x4x512 .f32) (U : Vec Ideal S1x16x128x4x512 .f32) (start : Fin 5 → ℤ)
    (hs : ∀ a, start a = ((![n, 0, 0, 0, 0] : Fin 5 → ℕ) a : ℤ)) (hf : S16x16x128x4x512.Slices (fun _ => 0) S1x16x128x4x512)
    (c b : Fin 16) (i : Fin 128) (h : Fin 4) (e : Fin 512) : Host.dynamicUpdateSlice X U start hf (ix5 c b i h e)
      = if c.val = n then U (ix5 0 b i h e) else X (ix5 c b i h e) := by
  rw [Host.dynamicUpdateSlice_eq_updateSlice X U start hf ![n, 0, 0, 0, 0]
    (fun a => by rw [hs a]; fin_cases a <;> simp <;> omega) (slices hn 512)]
  pointwise
  by_cases hc : c.val = n
  · have h0 : (⟨c.val - n, by omega⟩ : Fin 1) = 0 := Subsingleton.elim _ _
    rw [if_pos hc, dif_pos ⟨by omega, by omega⟩, h0]
  · rw [if_neg hc, dif_neg (by omega)]

variable (V0 : Valuation τ sig (Elt Ideal))

theorem q_at {n : ℕ} (hn : n < 16) (hw : ∀ i, (V0 (Proc.devRef .tc main_v18_4) : IVec S_ 32) i = BitVec.ofNat 32 n)
    (b : Fin 16) (i : Fin 128) (h : Fin 4) (d : Fin 256) : (res_main_while0b_v58 V0 : Vec Ideal S16x128x4x256 .f32) (ix4 b i h d)
      = (V0 (Proc.devRef .tc main_v18_0) : Vec Ideal S16x16x128x4x256 .f32) (ix5 ⟨n, hn⟩ b i h d) := by
  unfold res_main_while0b_v58
  rw [Host.dynamicSlice_eq_extractStridedSlice _ _ _ ![n, 0, 0, 0, 0] _ (slices hn 256) (start_eq n hn _ hw)]
  pointwise

theorem k_at {n : ℕ} (hn : n < 16) (hw : ∀ i, (V0 (Proc.devRef .tc main_v18_4) : IVec S_ 32) i = BitVec.ofNat 32 n)
    (b : Fin 16) (i : Fin 128) (h : Fin 4) (d : Fin 256) : (res_main_while0b_v59 V0 : Vec Ideal S16x128x4x256 .f32) (ix4 b i h d)
      = (V0 (Proc.devRef .tc main_v18_1) : Vec Ideal S16x16x128x4x256 .f32) (ix5 ⟨n, hn⟩ b i h d) := by
  unfold res_main_while0b_v59
  rw [Host.dynamicSlice_eq_extractStridedSlice _ _ _ ![n, 0, 0, 0, 0] _ (slices hn 256) (start_eq n hn _ hw)]
  pointwise

theorem v_at {n : ℕ} (hn : n < 16) (hw : ∀ i, (V0 (Proc.devRef .tc main_v18_4) : IVec S_ 32) i = BitVec.ofNat 32 n)
    (b : Fin 16) (i : Fin 128) (h : Fin 4) (e : Fin 512) : (res_main_while0b_v60 V0 : Vec Ideal S16x128x4x512 .f32) (ix4 b i h e)
      = (V0 (Proc.devRef .tc main_v18_2) : Vec Ideal S16x16x128x4x512 .f32) (ix5 ⟨n, hn⟩ b i h e) := by
  unfold res_main_while0b_v60
  rw [Host.dynamicSlice_eq_extractStridedSlice _ _ _ ![n, 0, 0, 0, 0] _ (slices hn 512) (start_eq n hn _ hw)]
  pointwise

/-- What the loop carries before trip `n`: the arguments by chunks, the decay, the state, the finished chunks. -/
structure Inv (I : Inp) (n : ℕ) : Prop where
  q : ∀ (c b : Fin 16) (i : Fin 128) (h : Fin 4) (d : Fin 256), (V0 (Proc.devRef .tc main_v18_0) : Vec Ideal S16x16x128x4x256 .f32)
    (ix5 c b i h d) = ((rq I b h d (c * 128 + i) : ℝ) : EReal)
  k : ∀ (c b : Fin 16) (i : Fin 128) (h : Fin 4) (d : Fin 256), (V0 (Proc.devRef .tc main_v18_1) : Vec Ideal S16x16x128x4x256 .f32)
    (ix5 c b i h d) = ((rk I b h d (c * 128 + i) : ℝ) : EReal)
  v : ∀ (c b : Fin 16) (i : Fin 128) (h : Fin 4) (e : Fin 512), (V0 (Proc.devRef .tc main_v18_2) : Vec Ideal S16x16x128x4x512 .f32)
    (ix5 c b i h e) = ((rv I b h e (c * 128 + i) : ℝ) : EReal)
  lg : ∀ h : Fin 4, (V0 (Proc.devRef .tc main_v18_3) : Vec Ideal S4 .f32) (ix1 h) = ((lgR h : ℝ) : EReal)
  ctr : ∀ i, (V0 (Proc.devRef .tc main_v18_4) : IVec S_ 32) i = BitVec.ofNat 32 n
  st : ∀ (b : Fin 16) (h : Fin 4) (d : Fin 256) (e : Fin 512), (V0 (Proc.devRef .tc main_v18_5) : Vec Ideal S16x4x256x512 .f32)
    (ix4 b h d e) = ((state I b h d e (n * 128) : ℝ) : EReal)
  out : ∀ (c b : Fin 16) (i : Fin 128) (h : Fin 4) (e : Fin 512), c.val < n →
    (V0 (Proc.devRef .tc main_v18_6) : Vec Ideal S16x16x128x4x512 .f32) (ix5 c b i h e) = ((out I b h e (c * 128 + i) : ℝ) : EReal)

theorem ofBits_128 : Ideal.ofBits .f32 1124073472#32 = (((128 : ℕ) : ℝ) : EReal) := by
  simp [Ideal.ofBits, Ideal.ieee, -EReal.coe_mul]; norm_num

theorem ofBits_127 : Ideal.ofBits .f32 1123942400#32 = ((((128 : ℕ) : ℝ) - 1 : ℝ) : EReal) := by
  rw [show (((128 : ℕ) : ℝ) - 1 : ℝ) = 127 by norm_num]
  simp [Ideal.ofBits, Ideal.ieee, -EReal.coe_mul]; norm_num

variable {V0} {I : Inp} {n : ℕ}

/-- The state after a trip. -/
theorem step_state (hn : n < 16) (H : Inv V0 I n) (b : Fin 16) (h : Fin 4) (d : Fin 256) (e : Fin 512) :
    (step_main_v18_5 V0 : Vec Ideal S16x4x256x512 .f32) (ix4 b h d e) = ((state I b h d e ((n + 1) * 128) : ℝ) : EReal) := by
  unfold step_main_v18_5
  rw [id_eq]
  pointwise [res_main_while0b_v61]
  simp only [k_at V0 hn H.ctr, v_at V0 hn H.ctr, H.k, H.v, H.lg, H.st, ofBits_127, ofBits_128]
  simp only [state]
  rw [show (n + 1) * 128 = n * 128 + 128 by ring, ← St_chunk (lgR h) (rv I b h e) (n * 128) (rk I b h d) 128,
    EReal.coe_add, Finset.sum_range, ← sum_coe, ← EReal.coe_mul]
  refine congrArg₂ _ ?_ (Finset.sum_congr rfl fun x _ => ?_)
  · rw [exp_coe, EReal.coe_mul]
  · rw [sitofp_nat _ (by omega), ← EReal.coe_sub, ← EReal.coe_mul, exp_coe, ← EReal.coe_mul, ← EReal.coe_mul]

/-- The decay between two positions of a chunk. -/
theorem decay_coe (i x : Fin 128) (lg : ℝ) (z : EReal) (hz : z = 0) :
    (if 0 ≤ (FloatOps.sitofp .f32 (BitVec.ofNat 32 i.val) : Ideal .f32) - (FloatOps.sitofp .f32 (BitVec.ofNat 32 x.val) : Ideal .f32) then
      Ideal.exp (max ((FloatOps.sitofp .f32 (BitVec.ofNat 32 i.val) : Ideal .f32)
        - (FloatOps.sitofp .f32 (BitVec.ofNat 32 x.val) : Ideal .f32)) 0 * (lg : EReal)) else z)
      = ((if x.val ≤ i.val then Real.exp (((i.val : ℝ) - x.val) * lg) else 0 : ℝ) : EReal) := by
  rw [sitofp_nat _ (by omega), sitofp_nat _ (by omega), ← EReal.coe_sub, hz]
  by_cases hx : x.val ≤ i.val
  · have hr : (0 : ℝ) ≤ (i.val : ℝ) - x.val := sub_nonneg.2 (by exact_mod_cast hx)
    rw [if_pos (EReal.coe_nonneg.2 hr), if_pos hx, max_eq_left (EReal.coe_nonneg.2 hr), ← EReal.coe_mul]
    rfl
  · have hr : ¬ (0 : ℝ) ≤ (i.val : ℝ) - x.val := fun h => hx (by exact_mod_cast sub_nonneg.1 h)
    rw [if_neg (fun h => hr (EReal.coe_nonneg.1 h)), if_neg hx]
    rfl

/-- The chunks after a trip. -/
theorem step_out (hn : n < 16) (H : Inv V0 I n) (c b : Fin 16) (i : Fin 128) (h : Fin 4) (e : Fin 512) (hc : c.val < n + 1) :
    (step_main_v18_6 V0 : Vec Ideal S16x16x128x4x512 .f32) (ix5 c b i h e) = ((out I b h e (c * 128 + i) : ℝ) : EReal) := by
  unfold step_main_v18_6
  rw [id_eq]
  refine (upd_at hn _ _ _ (start_eq n hn _ H.ctr) _ c b i h e).trans ?_
  pointwise [res_main_while0b_v61, res_main_while0b_v66]
  by_cases hcn : c.val = n
  · rw [if_pos hcn, hcn]
    simp only [q_at V0 hn H.ctr, k_at V0 hn H.ctr, v_at V0 hn H.ctr, H.q, H.k, H.v, H.lg, H.st]
    rw [Spec.out, ← Out_chunk (lgR h) (rv I b h e) (n * 128) (fun d => rq I b h d (n * 128 + i)) (rk I b h) 128 i i.isLt,
      EReal.coe_add, Finset.sum_range, ← sum_coe]
    congr 1
    · refine Finset.sum_congr rfl fun x _ => ?_
      rw [EReal.coe_mul, EReal.coe_mul, ← sum_coe]
      congr 2
      exact decay_coe i x (lgR h) _ (by show Ideal.ofBits .f32 0#32 = 0; simp)
    · rw [EReal.coe_mul, ← sum_coe, sitofp_nat _ (by omega), ← EReal.coe_one, ← EReal.coe_add, ← EReal.coe_mul, exp_coe]
      refine congrArg (· * _) (Finset.sum_congr rfl fun d _ => ?_)
      rw [← EReal.coe_mul]
      rfl
  · rw [if_neg hcn]
    exact H.out c b i h e (by omega)

/-- One trip. -/
theorem step (hn : n < 16) (H : Inv V0 I n) : Inv (STEP V0) I (n + 1) where
  q := by rw [STEP_main_v18_0]; exact H.q
  k := by rw [STEP_main_v18_1]; exact H.k
  v := by rw [STEP_main_v18_2]; exact H.v
  lg := by rw [STEP_main_v18_3]; exact H.lg
  ctr i := by
    rw [STEP_main_v18_4, step_main_v18_4]
    have hi : (V0 (Proc.devRef .tc main_v18_4) : IVec S_ 32) i = BitVec.ofNat 32 n := H.ctr i
    show IntOp.addi ((V0 (Proc.devRef .tc main_v18_4) : IVec S_ 32) i) 1#32 = _
    rw [hi]
    simp [IntOp.addi, BitVec.ofNat_add]
  st b h d e := by rw [STEP_main_v18_5]; exact step_state hn H b h d e
  out c b i h e hc := by rw [STEP_main_v18_6]; exact step_out hn H c b i h e hc

/-- All trips. -/
theorem trips (H : Inv V0 I 0) : ∀ n, n ≤ 16 → Inv (STEP^[n] V0) I n
  | 0, _ => H
  | n + 1, hn => by
    rw [Function.iterate_succ_apply']
    exact step (by omega) (trips H n (by omega))

variable (m : (ℓ : Loc nD τ sig) → Buf (Elt Ideal) ℓ)

/-- The arguments' entries on a device. -/
def inp (c : Dev nD) : Inp where
  q b t h d := m (c, Proc.tc.devRef main_arg0) (ix4 b t h d)
  k b t h d := m (c, Proc.tc.devRef main_arg1) (ix4 b t h d)
  v b t h e := m (c, Proc.tc.devRef main_arg2) (ix4 b t h e)
  g b t j := m (c, Proc.tc.devRef main_arg3) (ix3 b t j)
  x b t j := m (c, Proc.tc.devRef main_arg4) (ix3 b t j)
  w i j := m (c, Proc.tc.devRef main_arg5) (ix2 i j)
  gf j := m (c, Proc.tc.devRef main_arg6) (ix1 j)

/-- What the loop starts from. -/
theorem entry (c : Dev nD) (hI : (inp m c).Finite) : Inv (entryContents preI m c) (inp m c) 0 where
  q ch b i h d := by
    simp only [entryContents, preI, hostOps0, afterL_cons, afterL_nil]
    after_reads_simp
    simp only [id_eq]
    pointwise
    exact q_coe b h hI ⟨ch * 128 + i, by omega⟩ d
  k ch b i h d := by
    simp only [entryContents, preI, hostOps0, afterL_cons, afterL_nil]
    after_reads_simp
    simp only [id_eq]
    pointwise
    rw [ofBits_sixteenth]
    exact k_coe b h hI ⟨ch * 128 + i, by omega⟩ d
  v ch b i h d := by
    simp only [entryContents, preI, hostOps0, afterL_cons, afterL_nil]
    after_reads_simp
    simp only [id_eq]
    pointwise
    exact v_coe b h hI ⟨ch * 128 + i, by omega⟩ d
  lg h := by
    simp only [entryContents, preI, hostOps0, afterL_cons, afterL_nil]
    after_reads_simp
    pointwise
    exact lg_coe h
  ctr := by
    simp only [entryContents, preI, hostOps0, afterL_cons, afterL_nil]
    after_reads_simp
    intro i
    rfl
  st := by
    simp only [entryContents, preI, hostOps0, afterL_cons, afterL_nil]
    after_reads_simp
    intro b h d e
    simp only [id_eq]
    pointwise
    simp [state, St]
  out c b i h e hc := absurd hc (Nat.not_lt_zero _)

/-- The first result, of what the loop leaves. -/
theorem y_at {V0 : Valuation τ sig (Elt Ideal)} {I : Inp} (H : Inv V0 I 16)
    (hg : ∀ b t j, (V0 (Proc.devRef .tc main_arg3) : Vec Ideal S16x2048x2048 .f32) (ix3 b t j) = I.g b t j)
    (hx : ∀ b t j, (V0 (Proc.devRef .tc main_arg4) : Vec Ideal S16x2048x1024 .f32) (ix3 b t j) = I.x b t j)
    (hw : ∀ i j, (V0 (Proc.devRef .tc main_arg5) : Vec Ideal S2048x1024 .f32) (ix2 i j) = I.w i j)
    (hf : ∀ j, (V0 (Proc.devRef .tc main_arg6) : Vec Ideal S1024 .f32) (ix1 j) = I.gf j) (r : Fin 32768) (j : Fin 1024) :
    (out_main_v57 V0 : Vec Ideal S32768x1024 .f32) (ix2 r j) = y I ⟨r / 2048, by omega⟩ ⟨r % 2048, by omega⟩ j := by
  have ho := fun c b i h e => H.out c b i h e c.isLt
  unfold out_main_v57
  pointwise
  simp only [ho, hg, hx, hw, hf, Nat.div_add_mod']
  simp only [sum_col, col_div, col_mod, Fin.eta]
  rfl

variable (c : Dev nD) (hI : (inp m c).Finite)
include hI

/-- The first result of the reference. -/
theorem y_final (r : Fin 32768) (j : Fin 1024) : (out_main_v57 (STEP^[16] (entryContents preI m c)) : Vec Ideal S32768x1024 .f32) (ix2 r j)
    = y (inp m c) ⟨r / 2048, by omega⟩ ⟨r % 2048, by omega⟩ j := by
  refine y_at (trips (entry m c hI) 16 (le_refl _)) (fun b t j => ?_) (fun b t j => ?_) (fun i j => ?_) (fun j => ?_) r j
  · rw [iter_main_arg3]; rfl
  · rw [iter_main_arg4]; rfl
  · rw [iter_main_arg5]; rfl
  · rw [iter_main_arg6]; rfl

/-- The second result of the reference. -/
theorem st_final (b : Fin 16) (h : Fin 4) (d : Fin 256) (e : Fin 512) :
    (STEP^[16] (entryContents preI m c) (Proc.devRef .tc main_v18_5) : Vec Ideal S16x4x256x512 .f32) (ix4 b h d e)
      = ((state (inp m c) b h d e 2048 : ℝ) : EReal) :=
  (trips (entry m c hI) 16 (le_refl _)).st b h d e

end Cert.ReferenceIdeal.Loop

end
-- ==== Proof.Real.lean ====
/- What the precondition gives: the queries, the keys, the values and the gates are real numbers. -/
module

public import proofs.«01_k».proof.Defs
public import proofs.«01_k».proof.Proof.Host
public import Idealize.ShloMosaic.PureOps

@[expose] public section

noncomputable section

namespace Cert.Real

open Idealize.ShloMosaic Cert.Spec

instance facts : Cert.Pre_finite_qkvg.Facts where
  bcast_S_S16x2048x4x256 := by decide
  bcast_S_S16x2048x4x512 := by decide
  bcast_S_S16x2048x2048 := by decide

/-- An extended real below infinity in absolute value is the real number it denotes. -/
theorem coe_of_lt {x : EReal} (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have hl : max x (-x) < ⊤ := by
    by_contra hn
    simp [Ideal.cmp, hn] at h
  refine (EReal.coe_toReal (fun e => ?_) (fun e => ?_)).symm <;> subst e <;> simp at hl

theorem finite (m : (ℓ : Loc Cert.KernelIdeal.nD Cert.KernelIdeal.τ Cert.KernelIdeal.sig) → Buf (Elt Ideal) ℓ)
    (h : Cert.Pre_KernelIdeal_finite_qkvg m) (c : Dev Cert.KernelIdeal.nD) : (Cert.KernelIdeal.Host.inp m c).Finite where
  q b t h' d := coe_of_lt (congrFun (h c).1 (ix4 b t h' d))
  k b t h' d := coe_of_lt (congrFun (h c).2.1 (ix4 b t h' d))
  v b t h' e := coe_of_lt (congrFun (h c).2.2.1 (ix4 b t h' e))
  g b t j := coe_of_lt (congrFun (h c).2.2.2 (ix3 b t j))

end Cert.Real
-- ==== Proof.Out.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.StableHlo.RunRead

/-! The output projection of the attention layer: both programs leave `x + o @ w`. -/

@[expose] public section

set_option maxRecDepth 16384

noncomputable section

namespace Cert.Out

open Idealize.ShloMosaic Idealize.ShloMosaic.TcCoe Idealize.SL.Sem

section kernel

open Cert.Kernel2Ideal Cert.Kernel2Ideal.Gen

/-- The projected rows. -/
def rows (o : Vec Ideal S32768x2048 .bf16) (w : Vec Ideal S2048x1024 .f32) (x : Vec Ideal S16x2048x1024 .f32) : Vec Ideal S32768x1024 .f32 :=
  fun z => x (ix3 ⟨(z 0).val / 2048, by have : (z 0).val < 32768 := (z 0).isLt; omega⟩ ⟨(z 0).val % 2048, by omega⟩ ⟨(z 1).val, (z 1).isLt⟩)
    + ∑ k : Fin 2048, o (ix2 ⟨(z 0).val, (z 0).isLt⟩ k) * w (ix2 k ⟨(z 1).val, (z 1).isLt⟩)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem tlt (t : Fin cfg0.N) : t.val < 32 := t.isLt

/-- Row `r` of point `t` in an array of 32768 rows. -/
def ptRow (t : Fin cfg0.N) (r : Fin 1024) : Fin 32768 := ⟨t.val * 1024 + r.val, by have := tlt t; omega⟩

variable (t : Fin cfg0.N)

theorem blk0 (r : Fin 1024) (j : Fin 2048) :
    iblk m c 0 t (ix2 r j) = (V m c main_arg0 : Vec Ideal S32768x2048 .bf16) (ix2 (ptRow t r) j) := by
  blk_ext [iblk, idx t, ptRow]
theorem blk1 (r : Fin 2048) (j : Fin 1024) : iblk m c 1 t (ix2 r j) = (V m c main_arg1 : Vec Ideal S2048x1024 .f32) (ix2 r j) := by
  blk_ext [iblk, idx t]
theorem blk2 (r j : Fin 1024) :
    iblk m c 2 t (ix2 r j) = (V m c main_v0 : Vec Ideal S32768x1024 .f32) (ix2 (ptRow t r) j) := by
  blk_ext [iblk, idx t, ptRow]
theorem emb3 (r j : Fin 1024) : ((cfg0.win 3).blk t).view.emb (ix2 r j) = (ix2 (ptRow t r) j : S32768x1024.Idx) := by
  blk_ext [idx t, ptRow]

theorem x_entry (r : Fin 32768) (j : Fin 1024) : (V m c main_v0 : Vec Ideal S32768x1024 .f32) (ix2 r j)
    = m (c, Proc.tc.devRef main_arg2) (ix3 ⟨r / 2048, by omega⟩ ⟨r % 2048, by omega⟩ j) := by
  simp only [V, hostOps0]
  after_reads_simp
  pointwise

/-- The result of the kernel's program. -/
theorem kernel_final : (dats m 0 c).arrAt 3 cfg0.N
    = rows (m (c, Proc.tc.devRef main_arg0)) (m (c, Proc.tc.devRef main_arg1)) (m (c, Proc.tc.devRef main_arg2)) := by
  refine (dats m 0 c).arrAt_eq_of_covers 3 _ (by decide +kernel) fun t _ y => ?_
  blk_simp
  rw [after0_3]
  idx_vars y
  refine Eq.trans ?_ (congrArg (rows _ _ _) (emb3 t y0 y1)).symm
  frame_out
  pointwise [k0_pay1]
  rw [blk2, x_entry]
  refine congrArg₂ (· + ·) rfl (Finset.sum_congr rfl fun k _ => ?_)
  rw [blk0, blk1, V_main_arg0, V_main_arg1]
  rfl

end kernel

section reference

open Cert.Reference2Ideal Cert.Reference2Ideal.Gen

/-- The reference's term is the projected rows. -/
theorem reference_term (o : FVec Ideal S32768x2048 .bf16) (w : FVec Ideal S2048x1024 .f32) (x : FVec Ideal S16x2048x1024 .f32) :
    shapeCast S32768x1024 (addf x (Host.dotGeneral dot_S16x2048x2048_S2048x1024_S16x2048x1024_2_0_01_1_n_n none
      (shapeCast S16x2048x2048 (extf .f32 o bitsLt_bf16_f32) shapeCasts_S32768x2048_S16x2048x2048 : FVec Ideal S16x2048x2048 .f32) w)
        : FVec Ideal S16x2048x1024 .f32) shapeCasts_S16x2048x1024_S32768x1024
    = rows o w x := by
  funext z
  obtain ⟨r, j, rfl⟩ : ∃ r j, z = ix2 r j := ⟨z 0, z 1, by funext a; fin_cases a <;> rfl⟩
  pointwise
  rfl

end reference

end Cert.Out

end
-- ==== Proof.OutNorm.lean ====
module

public import proofs.«01_k».proof.Proof.Gen.Kernel3Ideal.Value
public import proofs.«01_k».proof.Proof.Gen.Reference3Ideal.Run
public import proofs.«01_k».proof.Proof.Spec
public import Idealize.ShloMosaic.Lib.Pipeline.ValueKit
public import Idealize.ShloMosaic.Lib.Pointwise
public import Idealize.ShloMosaic.Lib.StableHlo.RunRead

/-! The sample's output projection and last norm: both programs leave the norm of `x + o @ w`. -/

@[expose] public section

set_option maxRecDepth 16384

noncomputable section

namespace Cert.OutNorm

open Idealize.ShloMosaic Idealize.ShloMosaic.TcCoe Idealize.SL.Sem Cert.Spec

section kernel

open Cert.Kernel3Ideal Cert.Kernel3Ideal.Gen

/-- The projected rows before the norm. -/
def proj (o : Vec Ideal S128x2048 .f32) (w : Vec Ideal S2048x1024 .f32) (x : Vec Ideal S128x1x1024 .f32) (r : Fin 128) (j : Fin 1024) : EReal :=
  x (ix3 r 0 j) + ∑ k : Fin 2048, o (ix2 r k) * w (ix2 k j)

/-- The normalised rows. -/
def rows (o : Vec Ideal S128x2048 .f32) (w : Vec Ideal S2048x1024 .f32) (x : Vec Ideal S128x1x1024 .f32) (g : Vec Ideal S1024 .f32) :
    Vec Ideal S128x1024 .f32 :=
  fun z => rms (proj o w x ⟨(z 0).val, (z 0).isLt⟩) ⟨(z 1).val, (z 1).isLt⟩ * g (ix1 ⟨(z 1).val, (z 1).isLt⟩)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

variable (t : Fin cfg0.N)

theorem blk0 (r : Fin 128) (j : Fin 2048) : iblk m c 0 t (ix2 r j) = (V m c main_arg0 : Vec Ideal S128x2048 .f32) (ix2 r j) := by
  blk_ext [iblk, idx t]
theorem blk1 (r : Fin 2048) (j : Fin 1024) : iblk m c 1 t (ix2 r j) = (V m c main_arg1 : Vec Ideal S2048x1024 .f32) (ix2 r j) := by
  blk_ext [iblk, idx t]
theorem blk2 (r : Fin 128) (j : Fin 1024) : iblk m c 2 t (ix2 r j) = (V m c main_v0 : Vec Ideal S128x1024 .f32) (ix2 r j) := by
  blk_ext [iblk, idx t]
theorem blk3 (j : Fin 1024) : iblk m c 3 t (ix2 0 j) = (V m c main_v1 : Vec Ideal S1x1024 .f32) (ix2 0 j) := by
  blk_ext [iblk, idx t]
theorem emb4 (r : Fin 128) (j : Fin 1024) : ((cfg0.win 4).blk t).view.emb (ix2 r j) = (ix2 r j : S128x1024.Idx) := by
  blk_ext [idx t]

theorem x_entry (r : Fin 128) (j : Fin 1024) : (V m c main_v0 : Vec Ideal S128x1024 .f32) (ix2 r j)
    = m (c, Proc.tc.devRef main_arg2) (ix3 r 0 j) := by
  simp only [V, hostOps0]
  after_reads_simp
  pointwise
theorem g_entry (j : Fin 1024) : (V m c main_v1 : Vec Ideal S1x1024 .f32) (ix2 0 j) = m (c, Proc.tc.devRef main_arg3) (ix1 j) := by
  simp only [V, hostOps0]
  after_reads_simp
  pointwise

/-- The stored rows, of the four blocks. -/
theorem pay_at (X : Vec Ideal S128x1024 .f32) (O : Vec Ideal S128x2048 .f32) (W : Vec Ideal S2048x1024 .f32) (G : Vec Ideal S1x1024 .f32)
    (r : Fin 128) (j : Fin 1024) : k0_pay1 X O W G (ix2 r j)
      = rms (fun j => X (ix2 r j) + ∑ k : Fin 2048, O (ix2 r k) * W (ix2 k j)) j * G (ix2 0 j) := by
  pointwise [k0_pay1]
  rfl

/-- The result of the kernel's program. -/
theorem kernel_final : (dats m 0 c).arrAt 4 cfg0.N = rows (m (c, Proc.tc.devRef main_arg0)) (m (c, Proc.tc.devRef main_arg1))
    (m (c, Proc.tc.devRef main_arg2)) (m (c, Proc.tc.devRef main_arg3)) := by
  refine (dats m 0 c).arrAt_eq_of_covers 4 _ (by decide +kernel) fun t _ y => ?_
  blk_simp
  rw [after0_4]
  idx_vars y
  refine Eq.trans ?_ (congrArg (rows _ _ _ _) (emb4 t y0 y1)).symm
  frame_out
  refine (pay_at _ _ _ _ y0 y1).trans (congrArg₂ (· * ·) (congrArg (fun p => rms p y1) (funext fun j => congrArg₂ (· + ·)
    ((blk2 m c t y0 j).trans (x_entry m c y0 j)) (Finset.sum_congr rfl fun k _ => congrArg₂ (· * ·)
      ((blk0 m c t y0 k).trans (congrFun (V_main_arg0 m c) _)) ((blk1 m c t k j).trans (congrFun (V_main_arg1 m c) _)))))
    ((blk3 m c t y1).trans (g_entry m c y1)))

end kernel

section reference

open Cert.Reference3Ideal Cert.Reference3Ideal.Gen

/-- The reference's term is the normalised rows. -/
theorem reference_term (o : FVec Ideal S128x2048 .f32) (w : FVec Ideal S2048x1024 .f32) (x : FVec Ideal S128x1x1024 .f32) (g : FVec Ideal S1024 .f32)
    (p : FVec Ideal S128x1x1024 .f32) (hp : p = addf x (Host.dotGeneral dot_S128x1x2048_S2048x1024_S128x1x1024_2_0_01_1_n_n none
      (shapeCast S128x1x2048 o shapeCasts_S128x2048_S128x1x2048 : FVec Ideal S128x1x2048 .f32) w)) :
    shapeCast S128x1024 (mulf (mulf p (broadcastInDim S128x1x1024 ![0, 1, 2] bcast_S128x1x1_S128x1x1024_0_1_2 (Host.rsqrt (addf
      (Host.divf (broadcastInDim S128x1x1 ![0, 1] bcast_S128x1_S128x1x1_0_1 (Host.reduceAdd (mulf p p) (constant S_ .f32 0x00000000#32)
        reducesTo_S128x1x1024_S128x1_d2 h_S_)) (broadcastInDim S128x1x1 ![] bcast_S_S128x1x1 (constant S_ .f32 0x44800000#32)))
      (broadcastInDim S128x1x1 ![] bcast_S_S128x1x1 (constant S_ .f32 0x358637BD#32)) : FVec Ideal S128x1x1 .f32))))
      (broadcastInDim S128x1x1024 ![0, 1, 2] bcast_S1x1x1024_S128x1x1024_0_1_2 (broadcastInDim S1x1x1024 ![2] bcast_S1024_S1x1x1024_2 g))
        : FVec Ideal S128x1x1024 .f32) shapeCasts_S128x1x1024_S128x1024
    = rows o w x g := by
  subst hp
  funext z
  obtain ⟨r, j, rfl⟩ : ∃ r j, z = ix2 r j := ⟨z 0, z 1, by funext a; fin_cases a <;> rfl⟩
  pointwise
  rfl

end reference

end Cert.OutNorm

end
-- ==== Proof.InFrame.lean ====
module

public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4 Cert.Kernel4.Gen

variable {F : FTy → Type} [FloatOps F]

local notation "𝕄" => MT nD τ sig Unit (Elt F) ℕ (UR sig nD τ) ℕ

/-- The grid's first point, in the words of the body's own test. -/
abbrev firstStep (i : grid0.Coords) : Prop := (Scalar.cmpi .ne (Scalar.extui (Scalar.cmpi .eq (BitVec.ofNat 32 (i 0).val) 0#32)) 0#32) = 1#1

set_option maxHeartbeats 4000000 in
/-- The body at any point: its inputs stay as they are, its outputs and the two scratch buffers hold something. -/
theorem run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2x4x256x512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S128x2048 .f32) (harg15 : arg15.IsWhole) (arg16 : Memref sig .tc .vmem S2x4x256x512 .f32) (harg16 : arg16.IsWhole) (arg17 : Memref sig .tc .vmem S1024x128 .f32) (harg17 : arg17.IsWhole) (arg18 : Memref sig .tc .vmem S1024x128 .f32) (harg18 : arg18.IsWhole)
    (x1 : Vec F S512x1024 .f32) (x2 : Vec F S1x1024 .f32) (x3 : Vec F S1024x6144 .bf16) (x4 : Vec F S512x128 .f32) (x5 : Vec F S512x128 .f32) (x6 : Vec F S128x1024 .f32) (x7 : Vec F S128x1024 .f32) (x8 : Vec F S128x2048 .f32) (x9 : Vec F S128x2048 .f32) (x10 : Vec F S2x4x256x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f)) -∗ K ⟨⟩))
      ⊢ wp frame (wpE (defs₀ (F := F)) Variants.none c none) E (cc0_ret_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ret_inproj_eq_skeleton]; unfold cc0_ret_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  by_cases hc0 : firstStep i
  all_goals
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

variable (m : (ℓ : Loc nD τ sig) → Buf (Elt F) ℓ) (ρ : Dev nD → PrngReg)

/-- The windows of which the frame says nothing: the outputs. -/
def fgt (w : Fin cfg0.W) : Bool := Nat.ble 10 w.val

/-- The proof data: every input's buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.arbitrary _
    | ⟨11, _⟩ => fun _ => Classical.arbitrary _
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

abbrev ms0 (t : Fin cfg0.N) : Memref sig .tc .vmem S512x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x6144 .bf16 := win0_2.stage (cfg0.slots t 2)
abbrev ms3 (t : Fin cfg0.N) : Memref sig .tc .vmem S512x128 .f32 := win0_3.stage (cfg0.slots t 3)
abbrev ms4 (t : Fin cfg0.N) : Memref sig .tc .vmem S512x128 .f32 := win0_4.stage (cfg0.slots t 4)
abbrev ms5 (t : Fin cfg0.N) : Memref sig .tc .vmem S128x1024 .f32 := win0_5.stage (cfg0.slots t 5)
abbrev ms6 (t : Fin cfg0.N) : Memref sig .tc .vmem S128x1024 .f32 := win0_6.stage (cfg0.slots t 6)
abbrev ms7 (t : Fin cfg0.N) : Memref sig .tc .vmem S128x2048 .f32 := win0_7.stage (cfg0.slots t 7)
abbrev ms8 (t : Fin cfg0.N) : Memref sig .tc .vmem S128x2048 .f32 := win0_8.stage (cfg0.slots t 8)
abbrev ms9 (t : Fin cfg0.N) : Memref sig .tc .vmem S2x4x256x512 .f32 := win0_9.stage (cfg0.slots t 9)
abbrev ms10 (t : Fin cfg0.N) : Memref sig .tc .vmem S512x1024 .bf16 := win0_10.stage (cfg0.slots t 10)
abbrev ms11 (t : Fin cfg0.N) : Memref sig .tc .vmem S512x1024 .bf16 := win0_11.stage (cfg0.slots t 11)
abbrev ms12 (t : Fin cfg0.N) : Memref sig .tc .vmem S512x2048 .bf16 := win0_12.stage (cfg0.slots t 12)
abbrev ms13 (t : Fin cfg0.N) : Memref sig .tc .vmem S512x2048 .bf16 := win0_13.stage (cfg0.slots t 13)
abbrev ms14 (t : Fin cfg0.N) : Memref sig .tc .vmem S128x2048 .f32 := win0_14.stage (cfg0.slots t 14)
abbrev ms15 (t : Fin cfg0.N) : Memref sig .tc .vmem S2x4x256x512 .f32 := win0_15.stage (cfg0.slots t 15)

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d
theorem before9 (c : Dev nD) (t : Fin cfg0.N) (d) : (dats m 0 c).before 9 t d = iblk m c 9 t :=
  before0_9_of m (dats m 0 c) (A_eq m c 9) (fun _ => by dsimp only [dats]) t d

/-- The buffers the pipeline leaves to the body, spelled as the body takes them, and the generator register. -/
theorem phi_eq (c : Dev nD) : (Pipeline.ΦA spec0 c : sProp 𝕄)
    = iprop(((∃ d : Vec F S1024x128 .f32, owns (c : Thread nD τ) (Memref.whole cc0_scratch0) fullShare d)
        ∗ (∃ d : Vec F S1024x128 .f32, owns (c : Thread nD τ) (Memref.whole cc0_scratch1) fullShare d)) ∗ (∃ g, prngReg c g)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ X, owns (c : Thread nD τ) (ms10 t) fullShare X) ∗ (∃ X, owns (c : Thread nD τ) (ms11 t) fullShare X) ∗ (∃ X, owns (c : Thread nD τ) (ms12 t) fullShare X) ∗ (∃ X, owns (c : Thread nD τ) (ms13 t) fullShare X) ∗ (∃ X, owns (c : Thread nD τ) (ms14 t) fullShare X) ∗ (∃ X, owns (c : Thread nD τ) (ms15 t) fullShare X))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ (∃ X, owns (c : Thread nD τ) (ms10 t) fullShare X) ∗ (∃ X, owns (c : Thread nD τ) (ms11 t) fullShare X) ∗ (∃ X, owns (c : Thread nD τ) (ms12 t) fullShare X) ∗ (∃ X, owns (c : Thread nD τ) (ms13 t) fullShare X) ∗ (∃ X, owns (c : Thread nD τ) (ms14 t) fullShare X) ∗ (∃ X, owns (c : Thread nD τ) (ms15 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, phi_eq]
  dsimp only [dats]
  iintro ⟨⟨⟨H17, H18⟩, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, H11, H12, H13, H14, H15, H16⟩
  iapply (run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩⟩
  isplitl [H17 H18 Hg]
  · isplitl [H17 H18]
    · isplitl [H17]
      · iexists _; unfold owns; iexists _; isplitr
        swap; · iexact H17
        ipureintro; rfl
      iexists _; unfold owns; iexists _; isplitr
      swap; · iexact H18
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; unfold owns; iexists _; isplitr
    swap; · iexact H11
    ipureintro; rfl
  isplitl [H12]
  · iexists _; unfold owns; iexists _; isplitr
    swap; · iexact H12
    ipureintro; rfl
  isplitl [H13]
  · iexists _; unfold owns; iexists _; isplitr
    swap; · iexact H13
    ipureintro; rfl
  isplitl [H14]
  · iexists _; unfold owns; iexists _; isplitr
    swap; · iexact H14
    ipureintro; rfl
  isplitl [H15]
  · iexists _; unfold owns; iexists _; isplitr
    swap; · iexact H15
    ipureintro; rfl
  iexists _; unfold owns; iexists _; isplitr
  swap; · iexact H16
  ipureintro; rfl

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame: the argument arrays end as they were and every counter is zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      (h.1.arr_in c 9 rfl).trans ((A_eq m c 9).trans (V_main_arg7 m c))⟩, h.2⟩) (run_main m ρ)

end Cert.Kernel4.Hand

end
-- ==== Proof.InRun.lean ====
module

public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- The grid's first point, in the words of the body's own test. -/
abbrev firstStep (i : grid0.Coords) : Prop := (Scalar.cmpi .ne (Scalar.extui (Scalar.cmpi .eq (BitVec.ofNat 32 (i 0).val) 0#32)) 0#32) = 1#1

set_option maxHeartbeats 4000000 in
/-- A later point of the grid: the pieces the body leaves in each output block, the two scratch buffers held at what the first point left in them. -/
def runLater (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2x4x256x512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S128x2048 .f32) (harg15 : arg15.IsWhole) (arg16 : Memref sig .tc .vmem S2x4x256x512 .f32) (harg16 : arg16.IsWhole) (arg17 : Memref sig .tc .vmem S1024x128 .f32) (harg17 : arg17.IsWhole) (arg18 : Memref sig .tc .vmem S1024x128 .f32) (harg18 : arg18.IsWhole) (hc0 : ¬firstStep i)
    (x1 : Vec F S512x1024 .f32) (x2 : Vec F S1x1024 .f32) (x3 : Vec F S1024x6144 .bf16) (x4 : Vec F S512x128 .f32) (x5 : Vec F S512x128 .f32) (x6 : Vec F S128x1024 .f32) (x7 : Vec F S128x1024 .f32) (x8 : Vec F S128x2048 .f32) (x9 : Vec F S128x2048 .f32) (x10 : Vec F S2x4x256x512 .f32) (y15 : Vec F S128x2048 .f32) (s17 s18 : Vec F S1024x128 .f32) :
    Σ' (L11 : List (View.Piece (Elt F) S512x1024 .bf16)), Σ' (L12 : List (View.Piece (Elt F) S512x1024 .bf16)), Σ' (L13 : List (View.Piece (Elt F) S512x2048 .bf16)), Σ' (L14 : List (View.Piece (Elt F) S512x2048 .bf16)), Σ' (L15 : List (View.Piece (Elt F) S128x2048 .f32)), { L16 : List (View.Piece (Elt F) S2x4x256x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y15 ∗ (∃ d, owns (c : Thread nD τ) arg16 fullShare d) ∗ owns (c : Thread nD τ) arg17 fullShare s17 ∗ owns (c : Thread nD τ) arg18 fullShare s18
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (arg15.view.loc (c : Thread nD τ) ↦[arg15.view.set]{fullShare} arg15.view.writes (Elt F) (harg15.unread y15) L15) ∗ (∃ f, arg16.view.loc (c : Thread nD τ) ↦[arg16.view.set]{fullShare} arg16.view.writes (Elt F) f L16) ∗ owns (c : Thread nD τ) arg17 fullShare s17 ∗ owns (c : Thread nD τ) arg18 fullShare s18) -∗ K ⟨⟩))
          ⊢ wp frame (wpE (defs₀ (F := F)) Variants.none c none) E (cc0_ret_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_ret_inproj_eq_skeleton]; unfold cc0_ret_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%f17, %hf17, H17⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg15.eq_unread hf15; obtain rfl := harg17.eq_unread hf17; obtain rfl := harg18.eq_unread hf18
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexact H15
    isplitl [H16]; · iexists _; iexact H16
    isplitl [H17]
    · iexists _; isplitr; · ipureintro; exact harg17.read_unread _
      iexact H17
    iexists _; isplitr; · ipureintro; exact harg18.read_unread _
    iexact H18

end Cert.Kernel4Ideal.Hand

end
-- ==== Proof.InRunA.lean ====
module

public import proofs.«01_k».proof.Proof.InRun

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

set_option maxHeartbeats 4000000 in
/-- The first point of the grid: the pieces the body leaves in each output block and in the two scratch buffers. -/
def runFirst (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2x4x256x512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S128x2048 .f32) (harg15 : arg15.IsWhole) (arg16 : Memref sig .tc .vmem S2x4x256x512 .f32) (harg16 : arg16.IsWhole) (arg17 : Memref sig .tc .vmem S1024x128 .f32) (harg17 : arg17.IsWhole) (arg18 : Memref sig .tc .vmem S1024x128 .f32) (harg18 : arg18.IsWhole) (hc0 : firstStep i)
    (x1 : Vec F S512x1024 .f32) (x2 : Vec F S1x1024 .f32) (x3 : Vec F S1024x6144 .bf16) (x4 : Vec F S512x128 .f32) (x5 : Vec F S512x128 .f32) (x6 : Vec F S128x1024 .f32) (x7 : Vec F S128x1024 .f32) (x8 : Vec F S128x2048 .f32) (x9 : Vec F S128x2048 .f32) (x10 : Vec F S2x4x256x512 .f32) (y15 : Vec F S128x2048 .f32) :
    Σ' (L11 : List (View.Piece (Elt F) S512x1024 .bf16)), Σ' (L12 : List (View.Piece (Elt F) S512x1024 .bf16)), Σ' (L13 : List (View.Piece (Elt F) S512x2048 .bf16)), Σ' (L14 : List (View.Piece (Elt F) S512x2048 .bf16)), Σ' (L15 : List (View.Piece (Elt F) S128x2048 .f32)), Σ' (L16 : List (View.Piece (Elt F) S2x4x256x512 .f32)), Σ' (L17 : List (View.Piece (Elt F) S1024x128 .f32)), { L18 : List (View.Piece (Elt F) S1024x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y15 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (arg15.view.loc (c : Thread nD τ) ↦[arg15.view.set]{fullShare} arg15.view.writes (Elt F) (harg15.unread y15) L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (cc0_ret_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0_ret_inproj_eq_skeleton]; unfold cc0_ret_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%d17, %f17, -, H17⟩, ⟨%d18, %f18, -, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg15.eq_unread hf15
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexact H15
    isplitl [H16]; · iexists _; iexact H16
    isplitl [H17]; · iexists _; iexact H17
    iexists _; iexact H18

end Cert.Kernel4Ideal.Hand

end
-- ==== Proof.InSpec.lean ====
module

public import proofs.«01_k».proof.Proof.Spec

/-! What the projection with the sample retention step computes, entry by entry. -/

@[expose] public section

noncomputable section

namespace Cert.InSpec

open Idealize.ShloMosaic Cert.Model

/-- A head's output before it is normalised: the query against the old state, and against the key times the value. -/
def raw (q k : Fin 256 → EReal) (v : Fin 512 → EReal) (st : Fin 256 → Fin 512 → EReal) (e : Fin 512) : EReal :=
  (∑ d, q d * st d e) + (∑ d, q d * k d) * v e

/-- The gate, through the hyperbolic tangent. -/
def gateT (g : EReal) : EReal :=
  Ideal.ofBits .f32 1056964608#32 * g + Ideal.ofBits .f32 1056964608#32 * g * Ideal.tanh (Ideal.ofBits .f32 1056964608#32 * g)

/-- A head's output, normalised and gated. -/
def rowF (q k : Fin 256 → EReal) (v : Fin 512 → EReal) (st : Fin 256 → Fin 512 → EReal) (g : Fin 512 → EReal) (e : Fin 512) : EReal :=
  Spec.norm (raw q k v st) e * gateT (g e)

/-- One entry of the projected row: the row normalised by its root mean square, against one column of the weights. -/
def proj (x g w : Fin 1024 → EReal) : EReal := ∑ k, Spec.rms x k * g k * w k

/-- Column `j` of a rotated projection, `p` the projected row's columns. -/
def rot (p : ℕ → EReal) (cs sn : Fin 128 → EReal) (j : ℕ) : EReal :=
  if h : j % 256 < 128 then p j * cs ⟨j % 256, h⟩ - p (j + 128) * sn ⟨j % 256, h⟩
  else p (j - 128) * sn ⟨j % 256 - 128, by omega⟩ + p j * cs ⟨j % 256 - 128, by omega⟩

theorem rot_lo (p : ℕ → EReal) (cs sn : Fin 128 → EReal) (H : ℕ) (hH : H % 256 = 0) (l : Fin 128) :
    rot p cs sn (H + l.val) = p (H + l.val) * cs l - p (H + l.val + 128) * sn l := by
  have e : (H + l.val) % 256 = l.val := by omega
  rw [rot, dif_pos (by omega)]
  simp only [e]

theorem rot_hi (p : ℕ → EReal) (cs sn : Fin 128 → EReal) (H : ℕ) (hH : H % 256 = 0) (l : Fin 128) :
    rot p cs sn (H + 128 + l.val) = p (H + l.val) * sn l + p (H + 128 + l.val) * cs l := by
  have e : (H + 128 + l.val) % 256 = 128 + l.val := by omega
  have e' : H + 128 + l.val - 128 = H + l.val := by omega
  rw [rot, dif_neg (by omega)]
  simp only [e, e', Nat.add_sub_cancel_left]

end Cert.InSpec

end
-- ==== Proof.InPay.lean ====
module

public import proofs.«01_k».proof.Proof.Gen.Kernel4Ideal.Skeleton
public import proofs.«01_k».proof.Proof.InSpec
public import Idealize.ShloMosaic.Lib.Pipeline.ValueKit
public import Idealize.ShloMosaic.Lib.Pointwise

@[expose] public section

noncomputable section

namespace Cert.Kernel4Ideal.Hand

open Idealize.ShloMosaic Idealize.ShloMosaic.TcCoe
open Cert.Kernel4Ideal Cert.Kernel4Ideal.Gen

/-- The lanes of the column that belongs to row `s` of the point's sample rows. -/
def selB (i : grid0.Coords) (s : BitVec 32) : IVec S256x128 1 :=
  cmpi .eq (iota .tc S256x128 32 [1] iota_S256x128_d1_w32)
    (broadcast S256x128 (Scalar.addi (Scalar.muli (BitVec.ofNat 32 (i 0).val) 2#32) s))

/-- One column of a head's transposed queries or keys, picked lane by lane. -/
def col (sel : IVec S256x128 1) (q : Vec Ideal S256x128 .f32) : FVec Ideal S256x1 .f32 :=
  shapeCast S256x1 (multiReduction .add [1] S256 (select sel q (k0_pay9 (F := Ideal))) 0x00000000#32 reduces_S256x128_S256 (.inl rfl) rfl)
    shapeCasts_S256_S256x1

/-- The normed and gated sample row of one head. -/
def rowW (sel : IVec S256x128 1) (q k : Vec Ideal S256x128 .f32) (v : Vec Ideal S1x512 .f32) (st : Vec Ideal S1x1x256x512 .f32)
    (g : Vec Ideal S1x512 .f32) : FVec Ideal S1x512 .f32 :=
  k0_pay17 (k0_pay14 g) (k0_pay15 sel (col sel q) k k0_pay9 v st) (k0_pay16 sel (col sel q) k k0_pay9 v st)

/-- The new state of one head, `γ` the word of its decay. -/
def stW (γ : BitVec 32) (sel : IVec S256x128 1) (k : Vec Ideal S256x128 .f32) (v : Vec Ideal S1x512 .f32) (st : Vec Ideal S1x1x256x512 .f32) :
    FVec Ideal S1x1x256x512 .f32 :=
  shapeCast S1x1x256x512 (mulf (broadcast S256x512 (Scalar.ofBits .f32 γ))
    (addf (k0_pay12 st) (mulf (broadcastTo S256x512 (col sel k) broadcasts_S256x1_S256x512)
      (broadcastTo S256x512 (k0_pay11 v) broadcasts_S1x512_S256x512)))) shapeCasts_S256x512_S1x1x256x512

variable (sel : IVec S256x128 1) (q k : Vec Ideal S256x128 .f32) (v : Vec Ideal S1x512 .f32) (st : Vec Ideal S1x1x256x512 .f32)
    (g : Vec Ideal S1x512 .f32)

theorem selB_at (i : grid0.Coords) (s : Fin 2) (d : Fin 256) (l : Fin 128) :
    selB i (BitVec.ofNat 32 s.val) (ix2 d l) = BitVec.ofBool (decide (l.val = 2 * (i 0).val + s.val)) := by
  have hi : (i 0).val < 64 := (i 0).isLt
  pointwise [selB]
  show BitVec.ofBool (BitVec.ofNat 32 l.val == (BitVec.ofNat 32 (i 0).val * 2#32 + BitVec.ofNat 32 s.val)) = _
  congr 1
  rw [← BitVec.ofNat_mul, ← BitVec.ofNat_add, Bool.eq_iff_iff]
  simp only [beq_iff_eq, decide_eq_true_eq]
  constructor
  · intro h
    have := congrArg BitVec.toNat h
    simp only [BitVec.toNat_ofNat] at this
    omega
  · intro h
    rw [h, Nat.mul_comm]

/-- The column picked is the one of the sample's row. -/
theorem col_at (i : grid0.Coords) (s : Fin 2) (b : Fin 128) (hb : b.val = 2 * (i 0).val + s.val) (d : Fin 256) :
    col (selB i (BitVec.ofNat 32 s.val)) q (ix2 d (0 : Fin 1)) = q (ix2 d b) := by
  pointwise [col, k0_pay9]
  rw [Finset.sum_eq_single b]
  · rw [selB_at, decide_eq_true hb]; rfl
  · intro l _ hl
    rw [selB_at, decide_eq_false (fun h => hl (Fin.ext (by omega)))]
    rfl
  · intro h; exact absurd (Finset.mem_univ _) h

theorem stW_at (γ : BitVec 32) (d : Fin 256) (e : Fin 512) : stW γ sel k v st (ix4 (0 : Fin 1) (0 : Fin 1) d e)
    = Ideal.ofBits .f32 γ * (st (ix4 (0 : Fin 1) (0 : Fin 1) d e) + col sel k (ix2 d (0 : Fin 1)) * v (ix2 (0 : Fin 1) e)) := by
  pointwise [stW, k0_pay11, k0_pay12]

theorem pay15_at (c : FVec Ideal S256x1 .f32) (e : Fin 512) : k0_pay15 sel c k k0_pay9 v st (ix2 (0 : Fin 1) e)
    = InSpec.raw (fun d => c (ix2 d (0 : Fin 1))) (fun d => col sel k (ix2 d (0 : Fin 1))) (fun e => v (ix2 (0 : Fin 1) e))
        (fun d e => st (ix4 (0 : Fin 1) (0 : Fin 1) d e)) e
      - Ideal.div (∑ x, InSpec.raw (fun d => c (ix2 d (0 : Fin 1))) (fun d => col sel k (ix2 d (0 : Fin 1))) (fun e => v (ix2 (0 : Fin 1) e))
        (fun d e => st (ix4 (0 : Fin 1) (0 : Fin 1) d e)) x) (Ideal.ofBits .f32 1140850688#32) := by
  pointwise [k0_pay15, k0_pay11, k0_pay12]
  rfl

theorem pay17_at (a b : FVec Ideal S1x512 .f32) (c : FVec Ideal S1x1 .f32) (e : Fin 512) : k0_pay17 a b c (ix2 (0 : Fin 1) e)
    = b (ix2 (0 : Fin 1) e) * Ideal.rsqrt (c (ix2 (0 : Fin 1) (0 : Fin 1)) + Ideal.ofBits .f32 897988541#32) * InSpec.gateT (a (ix2 (0 : Fin 1) e)) := by
  pointwise [k0_pay17]
  rfl

theorem pay16_at (c : FVec Ideal S256x1 .f32) : k0_pay16 sel c k k0_pay9 v st (ix2 (0 : Fin 1) (0 : Fin 1))
    = Ideal.div (∑ x, k0_pay15 sel c k k0_pay9 v st (ix2 (0 : Fin 1) x) * k0_pay15 sel c k k0_pay9 v st (ix2 (0 : Fin 1) x))
        (Ideal.ofBits .f32 1140850688#32) := by
  pointwise [k0_pay16]

/-- The sample row of one head, from the sample's row of the queries and keys. -/
theorem rowW_at (i : grid0.Coords) (s : Fin 2) (b : Fin 128) (hb : b.val = 2 * (i 0).val + s.val) (e : Fin 512) :
    rowW (selB i (BitVec.ofNat 32 s.val)) q k v st g (ix2 (0 : Fin 1) e)
      = InSpec.rowF (fun d => q (ix2 d b)) (fun d => k (ix2 d b)) (fun e => v (ix2 (0 : Fin 1) e))
        (fun d e => st (ix4 (0 : Fin 1) (0 : Fin 1) d e)) (fun e => g (ix2 (0 : Fin 1) e)) e := by
  rw [rowW, pay17_at, pay16_at]
  simp only [pay15_at, col_at _ i s b hb]
  pointwise [k0_pay14]
  rfl

/-- The new state of one head, from the sample's row of the keys. -/
theorem stW_row (γ : BitVec 32) (i : grid0.Coords) (s : Fin 2) (b : Fin 128) (hb : b.val = 2 * (i 0).val + s.val) (d : Fin 256) (e : Fin 512) :
    stW γ (selB i (BitVec.ofNat 32 s.val)) k v st (ix4 (0 : Fin 1) (0 : Fin 1) d e)
      = Ideal.ofBits .f32 γ * (st (ix4 (0 : Fin 1) (0 : Fin 1) d e) + k (ix2 d b) * v (ix2 (0 : Fin 1) e)) := by
  rw [stW_at, col_at _ i s b hb]

theorem pay4_at (x : Vec Ideal S512x1024 .f32) (g : Vec Ideal S1x1024 .f32) (r : Fin 512) (k : Fin 1024) : k0_pay4 x g (ix2 r k)
    = Spec.rms (fun k => x (ix2 r k)) k * g (ix2 (0 : Fin 1) k) := by
  pointwise [k0_pay4]
  rfl

variable (h : FVec Ideal S512x1024 .bf16) (cs sn : FVec Ideal S512x128 .f32) (w : Vec Ideal S1024x512 .bf16) (r : Fin 512) (l : Fin 128)

/-- A product of a normed row and a column of the weights' chunk. -/
def dot (h : FVec Ideal S512x1024 .bf16) (w : Vec Ideal S1024x512 .bf16) (r : Fin 512) (j : Fin 512) : EReal :=
  ∑ x, h (ix2 r x) * w (ix2 x j)

theorem pay21_at : k0_pay21 h cs sn w (ix2 r l)
    = dot h w r ⟨l.val, by omega⟩ * cs (ix2 r l) - dot h w r ⟨128 + l.val, by omega⟩ * sn (ix2 r l) := by
  pointwise [k0_pay21, k0_pay20, k0_pay19, k0_pay18]
  rfl

theorem pay22_at : k0_pay22 h cs sn w (ix2 r l)
    = dot h w r ⟨l.val, by omega⟩ * sn (ix2 r l) + dot h w r ⟨128 + l.val, by omega⟩ * cs (ix2 r l) := by
  pointwise [k0_pay22, k0_pay20, k0_pay19, k0_pay18]
  rfl

theorem pay25_at : k0_pay25 h cs sn w (ix2 r l)
    = dot h w r ⟨256 + l.val, by omega⟩ * cs (ix2 r l) - dot h w r ⟨384 + l.val, by omega⟩ * sn (ix2 r l) := by
  pointwise [k0_pay25, k0_pay23, k0_pay24, k0_pay18]
  rfl

theorem pay26_at : k0_pay26 h cs sn w (ix2 r l)
    = dot h w r ⟨256 + l.val, by omega⟩ * sn (ix2 r l) + dot h w r ⟨384 + l.val, by omega⟩ * cs (ix2 r l) := by
  pointwise [k0_pay26, k0_pay23, k0_pay24, k0_pay18]
  rfl

theorem pay89_at (j : Fin 512) : k0_pay89 h w (ix2 r j) = dot h w r j := by
  pointwise [k0_pay89]
  rfl

theorem pay2_at (x : Vec Ideal S128x1024 .f32) (j : Fin 1024) (b : Fin 128) : k0_pay2 x (ix2 j b) = x (ix2 b j) := by
  pointwise [k0_pay2]

theorem pay3_at (x : Vec Ideal S128x1024 .f32) (j : Fin 1024) (b : Fin 128) : k0_pay3 x (ix2 j b) = x (ix2 b j) := by
  pointwise [k0_pay3]

theorem pay5_at (x : Vec Ideal S512x128 .f32) : k0_pay5 x = x := by
  funext z
  pointwise [k0_pay5]

theorem pay6_at (x : Vec Ideal S512x128 .f32) : k0_pay6 x = x := by
  funext z
  pointwise [k0_pay6]

theorem pay14_at (x : Vec Ideal S1x512 .f32) : k0_pay14 x = x := by
  funext z
  pointwise [k0_pay14]

end Cert.Kernel4Ideal.Hand

end
-- ==== Proof.InPieces.lean ====
module

public import proofs.«01_k».proof.Proof.InRunA
public import proofs.«01_k».proof.Proof.InPay
public import Idealize.ShloMosaic.Lib.Pipeline.ReadBack
public import Idealize.ShloMosaic.Lib.Pipeline.ValueKit

/-! What the pieces one point writes hold: the projected and rotated columns, the sample rows and the new states. -/

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable (x1 : Vec Ideal S512x1024 .f32) (x2 : Vec Ideal S1x1024 .f32) (x3 : Vec Ideal S1024x6144 .bf16) (x4 : Vec Ideal S512x128 .f32) (x5 : Vec Ideal S512x128 .f32) (x8 : Vec Ideal S128x2048 .f32) (x9 : Vec Ideal S128x2048 .f32) (x10 : Vec Ideal S2x4x256x512 .f32) (s17 s18 : Vec Ideal S1024x128 .f32)

/-- Column `j` of the projected block's row `r`. -/
def P (r : Fin 512) (j : ℕ) : EReal :=
  if h : j < 6144 then InSpec.proj (fun k => x1 (ix2 r k)) (fun k => x2 (ix2 (0 : Fin 1) k)) (fun k => x3 (ix2 k ⟨j, h⟩)) else 0

/-- The rotated columns that start at column `base` of the projection. -/
def Grot (base : ℕ) : S512x1024.Idx → EReal := fun y =>
  InSpec.rot (fun j => P x1 x2 x3 (y 0) (base + j)) (fun l => x4 (ix2 (y 0) l)) (fun l => x5 (ix2 (y 0) l)) (y 1).val

/-- The plain columns that start at column `base` of the projection. -/
def Gpl (base : ℕ) : S512x2048.Idx → EReal := fun y => P x1 x2 x3 (y 0) (base + (y 1).val)

/-- The word of a head's decay. -/
def γw (h : ℕ) : BitVec 32 := match h with
  | 0 => 0x3F780000#32
  | 1 => 0x3F7C0000#32
  | 2 => 0x3F7E0000#32
  | _ => 0x3F7F0000#32

/-- The row of the sample arrays that row `s` of point `i` reads. -/
def smp (i : grid0.Coords) (s : Fin 2) : Fin 128 := ⟨2 * (i 0).val + s.val, by have := (i 0).isLt; have : (i 0).val < 64 := this; omega⟩

/-- The new states of a point's two samples. -/
def Gst (i : grid0.Coords) : S2x4x256x512.Idx → EReal := fun y =>
  Ideal.ofBits .f32 (γw (y 1).val) * (x10 y + s18 (ix2 (⟨256 * (y 1).val + (y 2).val, by have : (y 1).val < 4 := (y 1).isLt; have : (y 2).val < 256 := (y 2).isLt; omega⟩ : Fin 1024) (smp i (y 0)))
    * x8 (ix2 (smp i (y 0)) (⟨512 * (y 1).val + (y 3).val, by have : (y 1).val < 4 := (y 1).isLt; have : (y 3).val < 512 := (y 3).isLt; omega⟩ : Fin 2048)))

/-- Head `h`, column `e` of the sample row `s` of a point. -/
def Trow (i : grid0.Coords) (s : Fin 2) (h : Fin 4) (e : Fin 512) : EReal :=
  InSpec.rowF (fun d => s17 (ix2 (⟨256 * h.val + d.val, by omega⟩ : Fin 1024) (smp i s))) (fun d => s18 (ix2 (⟨256 * h.val + d.val, by omega⟩ : Fin 1024) (smp i s)))
    (fun e => x8 (ix2 (smp i s) (⟨512 * h.val + e.val, by omega⟩ : Fin 2048))) (fun d e => x10 (ix4 s h d e))
    (fun e => x9 (ix2 (smp i s) (⟨512 * h.val + e.val, by omega⟩ : Fin 2048))) e

/-- The sample rows of a point, at the rows it writes. -/
def Gsmp (i : grid0.Coords) : S128x2048.Idx → EReal := fun y =>
  Trow x8 x9 x10 s17 s18 i (⟨(y 0).val % 2, by omega⟩ : Fin 2) (⟨(y 1).val / 512, by have : (y 1).val < 2048 := (y 1).isLt; omega⟩ : Fin 4) (⟨(y 1).val % 512, by omega⟩ : Fin 512)

theorem dot_eq (r : Fin 512) (C : ℕ) (inb : ∀ a, (![0, C] : Fin 2 → ℕ) a + S1024x512.size a ≤ S1024x6144.size a) (j : Fin 512) :
    dot (k0_pay4 x1 x2) (View.ld x3 (Rect.unit (s := S1024x6144) ![0, C] S1024x512.size inb)) r j = P x1 x2 x3 r (C + j.val) := by
  have hC : C + 512 ≤ 6144 := inb 1
  rw [P, dif_pos (by omega), dot, InSpec.proj]
  refine Finset.sum_congr rfl fun k _ => ?_
  rw [pay4_at]
  refine congrArg (_ * ·) (congrArg x3 ?_)
  funext a
  fin_cases a
  · exact Fin.ext (by show 0 + 1 * k.val = k.val; omega)
  · exact Fin.ext (by show C + 1 * j.val = C + j.val; omega)

theorem ix2_of {m n : ℕ} (z : (⟨2, ![m, n]⟩ : Shape).Idx) : ∃ (r : Fin m) (l : Fin n), z = ix2 r l :=
  ⟨z 0, z 1, by funext a; fin_cases a <;> rfl⟩

theorem Grot_emb (base O : ℕ) (inb' : ∀ a, (![0, O] : Fin 2 → ℕ) a + S512x128.size a ≤ S512x1024.size a) (r : Fin 512) (l : Fin 128) :
    Grot x1 x2 x3 x4 x5 base ((Rect.unit (s := S512x1024) ![0, O] S512x128.size inb').emb (ix2 r l))
      = InSpec.rot (fun j => P x1 x2 x3 r (base + j)) (fun l => x4 (ix2 r l)) (fun l => x5 (ix2 r l)) (O + l.val) := by
  have h0 : (Rect.unit (s := S512x1024) ![0, O] S512x128.size inb').emb (ix2 r l) 0 = r := Fin.ext (by show 0 + 1 * r.val = r.val; omega)
  have h1 : ((Rect.unit (s := S512x1024) ![0, O] S512x128.size inb').emb (ix2 r l) 1).val = O + l.val := by show O + 1 * l.val = _; omega
  rw [Grot, h0, h1]

theorem pay21_eq (base C O : ℕ) (hC : C + 0 = base + O) (hO : O % 512 = 0)
    (inb : ∀ a, (![0, C] : Fin 2 → ℕ) a + S1024x512.size a ≤ S1024x6144.size a)
    (inb' : ∀ a, (![0, O] : Fin 2 → ℕ) a + S512x128.size a ≤ S512x1024.size a) (z : S512x128.Idx) :
    k0_pay21 (k0_pay4 x1 x2) (k0_pay5 x4) (k0_pay6 x5) (View.ld x3 (Rect.unit (s := S1024x6144) ![0, C] S1024x512.size inb)) z
      = Grot x1 x2 x3 x4 x5 base ((Rect.unit (s := S512x1024) ![0, O] S512x128.size inb').emb z) := by
  obtain ⟨r, l, rfl⟩ := ix2_of z
  rw [pay21_at, Grot_emb, InSpec.rot_lo _ _ _ O (by omega), dot_eq, dot_eq, pay5_at, pay6_at]
  rw [show C + l.val = base + (O + l.val) by omega, show C + (128 + l.val) = base + (O + l.val + 128) by omega]

theorem pay22_eq (base C O : ℕ) (hC : C + 128 = base + O) (hO : O % 512 = 128)
    (inb : ∀ a, (![0, C] : Fin 2 → ℕ) a + S1024x512.size a ≤ S1024x6144.size a)
    (inb' : ∀ a, (![0, O] : Fin 2 → ℕ) a + S512x128.size a ≤ S512x1024.size a) (z : S512x128.Idx) :
    k0_pay22 (k0_pay4 x1 x2) (k0_pay5 x4) (k0_pay6 x5) (View.ld x3 (Rect.unit (s := S1024x6144) ![0, C] S1024x512.size inb)) z
      = Grot x1 x2 x3 x4 x5 base ((Rect.unit (s := S512x1024) ![0, O] S512x128.size inb').emb z) := by
  obtain ⟨r, l, rfl⟩ := ix2_of z
  obtain ⟨H, rfl⟩ : ∃ H, O = H + 128 := ⟨O - 128, by omega⟩
  rw [pay22_at, Grot_emb, InSpec.rot_hi _ _ _ H (by omega), dot_eq, dot_eq, pay5_at, pay6_at]
  rw [show C + l.val = base + (H + l.val) by omega, show C + (128 + l.val) = base + (H + 128 + l.val) by omega]

theorem pay25_eq (base C O : ℕ) (hC : C + 256 = base + O) (hO : O % 512 = 256)
    (inb : ∀ a, (![0, C] : Fin 2 → ℕ) a + S1024x512.size a ≤ S1024x6144.size a)
    (inb' : ∀ a, (![0, O] : Fin 2 → ℕ) a + S512x128.size a ≤ S512x1024.size a) (z : S512x128.Idx) :
    k0_pay25 (k0_pay4 x1 x2) (k0_pay5 x4) (k0_pay6 x5) (View.ld x3 (Rect.unit (s := S1024x6144) ![0, C] S1024x512.size inb)) z
      = Grot x1 x2 x3 x4 x5 base ((Rect.unit (s := S512x1024) ![0, O] S512x128.size inb').emb z) := by
  obtain ⟨r, l, rfl⟩ := ix2_of z
  rw [pay25_at, Grot_emb, InSpec.rot_lo _ _ _ O (by omega), dot_eq, dot_eq, pay5_at, pay6_at]
  rw [show C + (256 + l.val) = base + (O + l.val) by omega, show C + (384 + l.val) = base + (O + l.val + 128) by omega]

theorem pay26_eq (base C O : ℕ) (hC : C + 384 = base + O) (hO : O % 512 = 384)
    (inb : ∀ a, (![0, C] : Fin 2 → ℕ) a + S1024x512.size a ≤ S1024x6144.size a)
    (inb' : ∀ a, (![0, O] : Fin 2 → ℕ) a + S512x128.size a ≤ S512x1024.size a) (z : S512x128.Idx) :
    k0_pay26 (k0_pay4 x1 x2) (k0_pay5 x4) (k0_pay6 x5) (View.ld x3 (Rect.unit (s := S1024x6144) ![0, C] S1024x512.size inb)) z
      = Grot x1 x2 x3 x4 x5 base ((Rect.unit (s := S512x1024) ![0, O] S512x128.size inb').emb z) := by
  obtain ⟨r, l, rfl⟩ := ix2_of z
  obtain ⟨H, rfl⟩ : ∃ H, O = H + 128 := ⟨O - 128, by omega⟩
  rw [pay26_at, Grot_emb, InSpec.rot_hi _ _ _ H (by omega), dot_eq, dot_eq, pay5_at, pay6_at]
  rw [show C + (256 + l.val) = base + (H + l.val) by omega, show C + (384 + l.val) = base + (H + 128 + l.val) by omega]

theorem pay89_eq (base C O : ℕ) (hC : C = base + O)
    (inb : ∀ a, (![0, C] : Fin 2 → ℕ) a + S1024x512.size a ≤ S1024x6144.size a)
    (inb' : ∀ a, (![0, O] : Fin 2 → ℕ) a + S512x512.size a ≤ S512x2048.size a) (z : S512x512.Idx) :
    k0_pay89 (k0_pay4 x1 x2) (View.ld x3 (Rect.unit (s := S1024x6144) ![0, C] S1024x512.size inb)) z
      = Gpl x1 x2 x3 base ((Rect.unit (s := S512x2048) ![0, O] S512x512.size inb').emb z) := by
  obtain ⟨r, l, rfl⟩ := ix2_of z
  have h0 : (Rect.unit (s := S512x2048) ![0, O] S512x512.size inb').emb (ix2 r l) 0 = r := Fin.ext (by show 0 + 1 * r.val = r.val; omega)
  have h1 : ((Rect.unit (s := S512x2048) ![0, O] S512x512.size inb').emb (ix2 r l) 1).val = O + l.val := by show O + 1 * l.val = _; omega
  rw [pay89_at, dot_eq, Gpl, h0, h1, hC, Nat.add_assoc]

theorem ld_scr (s : Vec Ideal S1024x128 .f32) (K : ℕ) (inb : ∀ a, (![K, 0] : Fin 2 → ℕ) a + S256x128.size a ≤ S1024x128.size a)
    (d : Fin 256) (b : Fin 128) (hK : K + 256 ≤ 1024) :
    View.ld s (Rect.unit (s := S1024x128) ![K, 0] S256x128.size inb) (ix2 d b) = s (ix2 (⟨K + d.val, by omega⟩ : Fin 1024) b) := by
  refine congrArg s ?_
  funext a
  fin_cases a
  · exact Fin.ext (by show K + 1 * d.val = K + d.val; omega)
  · exact Fin.ext (by show 0 + 1 * b.val = b.val; omega)

theorem ld_row (x : Vec Ideal S128x2048 .f32) (off : Fin 2 → ℕ) (inb : ∀ a, off a + S1x512.size a ≤ S128x2048.size a) (i : grid0.Coords) (s : Fin 2) (H : Fin 4)
    (hoff : off = ![2 * (i 0).val + s.val, 512 * H.val]) (e : Fin 512) :
    View.ld x (Rect.unit (s := S128x2048) off S1x512.size inb) (ix2 (0 : Fin 1) e)
      = x (ix2 (smp i s) (⟨512 * H.val + e.val, by omega⟩ : Fin 2048)) := by
  subst hoff
  refine congrArg x ?_
  funext a
  fin_cases a
  · exact Fin.ext (by show 2 * (i 0).val + s.val + 1 * 0 = 2 * (i 0).val + s.val; omega)
  · exact Fin.ext (by show 512 * H.val + 1 * e.val = 512 * H.val + e.val; omega)

theorem ld_st (x : Vec Ideal S2x4x256x512 .f32) (s : Fin 2) (H : Fin 4)
    (inb : ∀ a, (![s.val, H.val, 0, 0] : Fin 4 → ℕ) a + S1x1x256x512.size a ≤ S2x4x256x512.size a) (d : Fin 256) (e : Fin 512) :
    View.ld x (Rect.unit (s := S2x4x256x512) ![s.val, H.val, 0, 0] S1x1x256x512.size inb) (ix4 (0 : Fin 1) (0 : Fin 1) d e) = x (ix4 s H d e) := by
  refine congrArg x ?_
  funext a
  fin_cases a
  · exact Fin.ext (by show s.val + 1 * 0 = s.val; omega)
  · exact Fin.ext (by show H.val + 1 * 0 = H.val; omega)
  · exact Fin.ext (by show 0 + 1 * d.val = d.val; omega)
  · exact Fin.ext (by show 0 + 1 * e.val = e.val; omega)

theorem row_eq (i : grid0.Coords) (s : Fin 2) (H : Fin 4) (K : ℕ) (hK : K = 256 * H.val) (off : Fin 2 → ℕ) (hoff : off = ![2 * (i 0).val + s.val, 512 * H.val])
    (inbq : ∀ a, (![K, 0] : Fin 2 → ℕ) a + S256x128.size a ≤ S1024x128.size a)
    (inb : ∀ a, off a + S1x512.size a ≤ S128x2048.size a)
    (inbs : ∀ a, (![s.val, H.val, 0, 0] : Fin 4 → ℕ) a + S1x1x256x512.size a ≤ S2x4x256x512.size a) (z : S1x512.Idx) :
    rowW (selB i (BitVec.ofNat 32 s.val)) (View.ld s17 (Rect.unit (s := S1024x128) ![K, 0] S256x128.size inbq))
        (View.ld s18 (Rect.unit (s := S1024x128) ![K, 0] S256x128.size inbq))
        (View.ld x8 (Rect.unit (s := S128x2048) off S1x512.size inb))
        (View.ld x10 (Rect.unit (s := S2x4x256x512) ![s.val, H.val, 0, 0] S1x1x256x512.size inbs))
        (View.ld x9 (Rect.unit (s := S128x2048) off S1x512.size inb)) z
      = Gsmp x8 x9 x10 s17 s18 i ((Rect.unit (s := S128x2048) off S1x512.size inb).emb z) := by
  obtain ⟨r, e, rfl⟩ := ix2_of z
  obtain rfl : r = 0 := Subsingleton.elim _ _
  subst hoff hK
  have h0 : (⟨((Rect.unit (s := S128x2048) ![2 * (i 0).val + s.val, 512 * H.val] S1x512.size inb).emb (ix2 (0 : Fin 1) e) 0).val % 2, by omega⟩ : Fin 2) = s :=
    Fin.ext (by show (2 * (i 0).val + s.val + 1 * 0) % 2 = s.val; omega)
  have h1 : ((Rect.unit (s := S128x2048) ![2 * (i 0).val + s.val, 512 * H.val] S1x512.size inb).emb (ix2 (0 : Fin 1) e) 1).val = 512 * H.val + e.val := by
    show 512 * H.val + 1 * e.val = _; omega
  have h2 : (⟨((Rect.unit (s := S128x2048) ![2 * (i 0).val + s.val, 512 * H.val] S1x512.size inb).emb (ix2 (0 : Fin 1) e) 1).val / 512, by rw [h1]; omega⟩ : Fin 4) = H :=
    Fin.ext (by show _ / 512 = _; rw [h1]; omega)
  have h3 : (⟨((Rect.unit (s := S128x2048) ![2 * (i 0).val + s.val, 512 * H.val] S1x512.size inb).emb (ix2 (0 : Fin 1) e) 1).val % 512, by omega⟩ : Fin 512) = e :=
    Fin.ext (by show _ % 512 = _; rw [h1]; omega)
  rw [rowW_at _ _ _ _ _ i s (smp i s) rfl, Gsmp, h0, h2, h3]
  rw [Trow]
  congr 1
  · exact funext fun d => ld_scr _ _ _ _ _ (by omega)
  · exact funext fun d => ld_scr _ _ _ _ _ (by omega)
  · exact funext fun e => ld_row _ _ _ i s H rfl e
  · exact funext fun d => funext fun e => ld_st _ s H _ d e
  · exact funext fun e => ld_row _ _ _ i s H rfl e

theorem st_eq (i : grid0.Coords) (s : Fin 2) (H : Fin 4) (K : ℕ) (hK : K = 256 * H.val) (off : Fin 2 → ℕ) (hoff : off = ![2 * (i 0).val + s.val, 512 * H.val])
    (inbq : ∀ a, (![K, 0] : Fin 2 → ℕ) a + S256x128.size a ≤ S1024x128.size a)
    (inb : ∀ a, off a + S1x512.size a ≤ S128x2048.size a)
    (inbs : ∀ a, (![s.val, H.val, 0, 0] : Fin 4 → ℕ) a + S1x1x256x512.size a ≤ S2x4x256x512.size a) (z : S1x1x256x512.Idx) :
    stW (γw H.val) (selB i (BitVec.ofNat 32 s.val))
        (View.ld s18 (Rect.unit (s := S1024x128) ![K, 0] S256x128.size inbq))
        (View.ld x8 (Rect.unit (s := S128x2048) off S1x512.size inb))
        (View.ld x10 (Rect.unit (s := S2x4x256x512) ![s.val, H.val, 0, 0] S1x1x256x512.size inbs)) z
      = Gst x8 x10 s18 i ((Rect.unit (s := S2x4x256x512) ![s.val, H.val, 0, 0] S1x1x256x512.size inbs).emb z) := by
  obtain ⟨a, b, d, e, rfl⟩ : ∃ (a : Fin 1) (b : Fin 1) (d : Fin 256) (e : Fin 512), z = ix4 a b d e :=
    ⟨z 0, z 1, z 2, z 3, by funext a; fin_cases a <;> rfl⟩
  obtain rfl : a = 0 := Subsingleton.elim _ _
  obtain rfl : b = 0 := Subsingleton.elim _ _
  subst hoff hK
  have hE : (Rect.unit (s := S2x4x256x512) ![s.val, H.val, 0, 0] S1x1x256x512.size inbs).emb (ix4 (0 : Fin 1) (0 : Fin 1) d e) = ix4 s H d e := by
    funext a
    fin_cases a
    · exact Fin.ext (by show s.val + 1 * 0 = s.val; omega)
    · exact Fin.ext (by show H.val + 1 * 0 = H.val; omega)
    · exact Fin.ext (by show 0 + 1 * d.val = d.val; omega)
    · exact Fin.ext (by show 0 + 1 * e.val = e.val; omega)
  rw [stW_row _ _ _ _ i s (smp i s) rfl, hE, ld_scr _ _ _ _ _ (by omega : 256 * H.val + 256 ≤ 1024), ld_row _ _ _ i s H rfl, ld_st]
  rfl

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2x4x256x512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S128x2048 .f32) (harg15 : arg15.IsWhole) (arg16 : Memref sig .tc .vmem S2x4x256x512 .f32) (harg16 : arg16.IsWhole) (arg17 : Memref sig .tc .vmem S1024x128 .f32) (harg17 : arg17.IsWhole) (arg18 : Memref sig .tc .vmem S1024x128 .f32) (harg18 : arg18.IsWhole)
  (x6 x7 : Vec Ideal S128x1024 .f32) (y15 : Vec Ideal S128x2048 .f32)

set_option maxHeartbeats 4000000 in
theorem later11 (hc0 : ¬firstStep i) : View.PiecesOf (Grot x1 x2 x3 x4 x5 0) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).1 := by
  frame_out
  exact ⟨fun z => pay26_eq x1 x2 x3 x4 x5 0 512 896 rfl rfl inb_S1024x6144_S1024x512_0_512 inb_S512x1024_S512x128_0_896 z,
    fun z => pay25_eq x1 x2 x3 x4 x5 0 512 768 rfl rfl inb_S1024x6144_S1024x512_0_512 inb_S512x1024_S512x128_0_768 z,
    fun z => pay22_eq x1 x2 x3 x4 x5 0 512 640 rfl rfl inb_S1024x6144_S1024x512_0_512 inb_S512x1024_S512x128_0_640 z,
    fun z => pay21_eq x1 x2 x3 x4 x5 0 512 512 rfl rfl inb_S1024x6144_S1024x512_0_512 inb_S512x1024_S512x128_0_512 z,
    fun z => pay26_eq x1 x2 x3 x4 x5 0 0 384 rfl rfl inb_S1024x6144_S1024x512_0_0 inb_S512x1024_S512x128_0_384 z,
    fun z => pay25_eq x1 x2 x3 x4 x5 0 0 256 rfl rfl inb_S1024x6144_S1024x512_0_0 inb_S512x1024_S512x128_0_256 z,
    fun z => pay22_eq x1 x2 x3 x4 x5 0 0 128 rfl rfl inb_S1024x6144_S1024x512_0_0 inb_S512x1024_S512x128_0_128 z,
    fun z => pay21_eq x1 x2 x3 x4 x5 0 0 0 rfl rfl inb_S1024x6144_S1024x512_0_0 inb_S512x1024_S512x128_0_0 z,
    trivial⟩

set_option maxHeartbeats 4000000 in
theorem later12 (hc0 : ¬firstStep i) : View.PiecesOf (Grot x1 x2 x3 x4 x5 1024) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.1 := by
  frame_out
  exact ⟨fun z => pay26_eq x1 x2 x3 x4 x5 1024 1536 896 rfl rfl inb_S1024x6144_S1024x512_0_1536 inb_S512x1024_S512x128_0_896 z,
    fun z => pay25_eq x1 x2 x3 x4 x5 1024 1536 768 rfl rfl inb_S1024x6144_S1024x512_0_1536 inb_S512x1024_S512x128_0_768 z,
    fun z => pay22_eq x1 x2 x3 x4 x5 1024 1536 640 rfl rfl inb_S1024x6144_S1024x512_0_1536 inb_S512x1024_S512x128_0_640 z,
    fun z => pay21_eq x1 x2 x3 x4 x5 1024 1536 512 rfl rfl inb_S1024x6144_S1024x512_0_1536 inb_S512x1024_S512x128_0_512 z,
    fun z => pay26_eq x1 x2 x3 x4 x5 1024 1024 384 rfl rfl inb_S1024x6144_S1024x512_0_1024 inb_S512x1024_S512x128_0_384 z,
    fun z => pay25_eq x1 x2 x3 x4 x5 1024 1024 256 rfl rfl inb_S1024x6144_S1024x512_0_1024 inb_S512x1024_S512x128_0_256 z,
    fun z => pay22_eq x1 x2 x3 x4 x5 1024 1024 128 rfl rfl inb_S1024x6144_S1024x512_0_1024 inb_S512x1024_S512x128_0_128 z,
    fun z => pay21_eq x1 x2 x3 x4 x5 1024 1024 0 rfl rfl inb_S1024x6144_S1024x512_0_1024 inb_S512x1024_S512x128_0_0 z,
    trivial⟩

set_option maxHeartbeats 4000000 in
theorem later13 (hc0 : ¬firstStep i) : View.PiecesOf (Gpl x1 x2 x3 2048) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.1 := by
  frame_out
  exact ⟨fun z => pay89_eq x1 x2 x3 2048 3584 1536 rfl inb_S1024x6144_S1024x512_0_3584 inb_S512x2048_S512x512_0_1536 z,
    fun z => pay89_eq x1 x2 x3 2048 3072 1024 rfl inb_S1024x6144_S1024x512_0_3072 inb_S512x2048_S512x512_0_1024 z,
    fun z => pay89_eq x1 x2 x3 2048 2560 512 rfl inb_S1024x6144_S1024x512_0_2560 inb_S512x2048_S512x512_0_512 z,
    fun z => pay89_eq x1 x2 x3 2048 2048 0 rfl inb_S1024x6144_S1024x512_0_2048 inb_S512x2048_S512x512_0_0 z,
    trivial⟩

set_option maxHeartbeats 4000000 in
theorem later14 (hc0 : ¬firstStep i) : View.PiecesOf (Gpl x1 x2 x3 4096) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.2.1 := by
  frame_out
  exact ⟨fun z => pay89_eq x1 x2 x3 4096 5632 1536 rfl inb_S1024x6144_S1024x512_0_5632 inb_S512x2048_S512x512_0_1536 z,
    fun z => pay89_eq x1 x2 x3 4096 5120 1024 rfl inb_S1024x6144_S1024x512_0_5120 inb_S512x2048_S512x512_0_1024 z,
    fun z => pay89_eq x1 x2 x3 4096 4608 512 rfl inb_S1024x6144_S1024x512_0_4608 inb_S512x2048_S512x512_0_512 z,
    fun z => pay89_eq x1 x2 x3 4096 4096 0 rfl inb_S1024x6144_S1024x512_0_4096 inb_S512x2048_S512x512_0_0 z,
    trivial⟩

set_option maxHeartbeats 4000000 in
theorem later15 (hc0 : ¬firstStep i) : View.PiecesOf (Gsmp x8 x9 x10 s17 s18 i) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.2.2.1 := by
  frame_out
  exact ⟨fun z => row_eq x8 x9 x10 s17 s18 i 1 3 768 rfl _ (k0_off4_eq i 1) inb_S1024x128_S256x128_768_0 (k0_off4_inb i 1) inb_S2x4x256x512_S1x1x256x512_1_3_0_0 z,
    fun z => row_eq x8 x9 x10 s17 s18 i 1 2 512 rfl _ (k0_off3_eq i 1) inb_S1024x128_S256x128_512_0 (k0_off3_inb i 1) inb_S2x4x256x512_S1x1x256x512_1_2_0_0 z,
    fun z => row_eq x8 x9 x10 s17 s18 i 1 1 256 rfl _ (k0_off2_eq i 1) inb_S1024x128_S256x128_256_0 (k0_off2_inb i 1) inb_S2x4x256x512_S1x1x256x512_1_1_0_0 z,
    fun z => row_eq x8 x9 x10 s17 s18 i 1 0 0 rfl _ (k0_off1_eq i 1) inb_S1024x128_S256x128_0_0 (k0_off1_inb i 1) inb_S2x4x256x512_S1x1x256x512_1_0_0_0 z,
    fun z => row_eq x8 x9 x10 s17 s18 i 0 3 768 rfl _ (k0_off4_eq i 0) inb_S1024x128_S256x128_768_0 (k0_off4_inb i 0) inb_S2x4x256x512_S1x1x256x512_0_3_0_0 z,
    fun z => row_eq x8 x9 x10 s17 s18 i 0 2 512 rfl _ (k0_off3_eq i 0) inb_S1024x128_S256x128_512_0 (k0_off3_inb i 0) inb_S2x4x256x512_S1x1x256x512_0_2_0_0 z,
    fun z => row_eq x8 x9 x10 s17 s18 i 0 1 256 rfl _ (k0_off2_eq i 0) inb_S1024x128_S256x128_256_0 (k0_off2_inb i 0) inb_S2x4x256x512_S1x1x256x512_0_1_0_0 z,
    fun z => row_eq x8 x9 x10 s17 s18 i 0 0 0 rfl _ (k0_off1_eq i 0) inb_S1024x128_S256x128_0_0 (k0_off1_inb i 0) inb_S2x4x256x512_S1x1x256x512_0_0_0_0 z,
    trivial⟩

set_option maxHeartbeats 4000000 in
theorem later16 (hc0 : ¬firstStep i) : View.PiecesOf (Gst x8 x10 s18 i) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.2.2.2.1 := by
  frame_out
  exact ⟨fun z => st_eq x8 x10 s18 i 1 3 768 rfl _ (k0_off4_eq i 1) inb_S1024x128_S256x128_768_0 (k0_off4_inb i 1) inb_S2x4x256x512_S1x1x256x512_1_3_0_0 z,
    fun z => st_eq x8 x10 s18 i 1 2 512 rfl _ (k0_off3_eq i 1) inb_S1024x128_S256x128_512_0 (k0_off3_inb i 1) inb_S2x4x256x512_S1x1x256x512_1_2_0_0 z,
    fun z => st_eq x8 x10 s18 i 1 1 256 rfl _ (k0_off2_eq i 1) inb_S1024x128_S256x128_256_0 (k0_off2_inb i 1) inb_S2x4x256x512_S1x1x256x512_1_1_0_0 z,
    fun z => st_eq x8 x10 s18 i 1 0 0 rfl _ (k0_off1_eq i 1) inb_S1024x128_S256x128_0_0 (k0_off1_inb i 1) inb_S2x4x256x512_S1x1x256x512_1_0_0_0 z,
    fun z => st_eq x8 x10 s18 i 0 3 768 rfl _ (k0_off4_eq i 0) inb_S1024x128_S256x128_768_0 (k0_off4_inb i 0) inb_S2x4x256x512_S1x1x256x512_0_3_0_0 z,
    fun z => st_eq x8 x10 s18 i 0 2 512 rfl _ (k0_off3_eq i 0) inb_S1024x128_S256x128_512_0 (k0_off3_inb i 0) inb_S2x4x256x512_S1x1x256x512_0_2_0_0 z,
    fun z => st_eq x8 x10 s18 i 0 1 256 rfl _ (k0_off2_eq i 0) inb_S1024x128_S256x128_256_0 (k0_off2_inb i 0) inb_S2x4x256x512_S1x1x256x512_0_1_0_0 z,
    fun z => st_eq x8 x10 s18 i 0 0 0 rfl _ (k0_off1_eq i 0) inb_S1024x128_S256x128_0_0 (k0_off1_inb i 0) inb_S2x4x256x512_S1x1x256x512_0_0_0_0 z,
    trivial⟩

set_option maxHeartbeats 4000000 in
theorem first11 (hc0 : firstStep i) : View.PiecesOf (Grot x1 x2 x3 x4 x5 0) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).1 := by
  frame_open
  simp (disch := decide) only [↓ View.readCov_skip, ↓ View.readCov_cons_toLoadRect, ↓ View.readCov_fill]
  frame_out
  exact ⟨fun z => pay26_eq x1 x2 x3 x4 x5 0 512 896 rfl rfl inb_S1024x6144_S1024x512_0_512 inb_S512x1024_S512x128_0_896 z,
    fun z => pay25_eq x1 x2 x3 x4 x5 0 512 768 rfl rfl inb_S1024x6144_S1024x512_0_512 inb_S512x1024_S512x128_0_768 z,
    fun z => pay22_eq x1 x2 x3 x4 x5 0 512 640 rfl rfl inb_S1024x6144_S1024x512_0_512 inb_S512x1024_S512x128_0_640 z,
    fun z => pay21_eq x1 x2 x3 x4 x5 0 512 512 rfl rfl inb_S1024x6144_S1024x512_0_512 inb_S512x1024_S512x128_0_512 z,
    fun z => pay26_eq x1 x2 x3 x4 x5 0 0 384 rfl rfl inb_S1024x6144_S1024x512_0_0 inb_S512x1024_S512x128_0_384 z,
    fun z => pay25_eq x1 x2 x3 x4 x5 0 0 256 rfl rfl inb_S1024x6144_S1024x512_0_0 inb_S512x1024_S512x128_0_256 z,
    fun z => pay22_eq x1 x2 x3 x4 x5 0 0 128 rfl rfl inb_S1024x6144_S1024x512_0_0 inb_S512x1024_S512x128_0_128 z,
    fun z => pay21_eq x1 x2 x3 x4 x5 0 0 0 rfl rfl inb_S1024x6144_S1024x512_0_0 inb_S512x1024_S512x128_0_0 z,
    trivial⟩

set_option maxHeartbeats 4000000 in
theorem first12 (hc0 : firstStep i) : View.PiecesOf (Grot x1 x2 x3 x4 x5 1024) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.1 := by
  frame_open
  simp (disch := decide) only [↓ View.readCov_skip, ↓ View.readCov_cons_toLoadRect, ↓ View.readCov_fill]
  frame_out
  exact ⟨fun z => pay26_eq x1 x2 x3 x4 x5 1024 1536 896 rfl rfl inb_S1024x6144_S1024x512_0_1536 inb_S512x1024_S512x128_0_896 z,
    fun z => pay25_eq x1 x2 x3 x4 x5 1024 1536 768 rfl rfl inb_S1024x6144_S1024x512_0_1536 inb_S512x1024_S512x128_0_768 z,
    fun z => pay22_eq x1 x2 x3 x4 x5 1024 1536 640 rfl rfl inb_S1024x6144_S1024x512_0_1536 inb_S512x1024_S512x128_0_640 z,
    fun z => pay21_eq x1 x2 x3 x4 x5 1024 1536 512 rfl rfl inb_S1024x6144_S1024x512_0_1536 inb_S512x1024_S512x128_0_512 z,
    fun z => pay26_eq x1 x2 x3 x4 x5 1024 1024 384 rfl rfl inb_S1024x6144_S1024x512_0_1024 inb_S512x1024_S512x128_0_384 z,
    fun z => pay25_eq x1 x2 x3 x4 x5 1024 1024 256 rfl rfl inb_S1024x6144_S1024x512_0_1024 inb_S512x1024_S512x128_0_256 z,
    fun z => pay22_eq x1 x2 x3 x4 x5 1024 1024 128 rfl rfl inb_S1024x6144_S1024x512_0_1024 inb_S512x1024_S512x128_0_128 z,
    fun z => pay21_eq x1 x2 x3 x4 x5 1024 1024 0 rfl rfl inb_S1024x6144_S1024x512_0_1024 inb_S512x1024_S512x128_0_0 z,
    trivial⟩

set_option maxHeartbeats 4000000 in
theorem first13 (hc0 : firstStep i) : View.PiecesOf (Gpl x1 x2 x3 2048) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.1 := by
  frame_open
  simp (disch := decide) only [↓ View.readCov_skip, ↓ View.readCov_cons_toLoadRect, ↓ View.readCov_fill]
  frame_out
  exact ⟨fun z => pay89_eq x1 x2 x3 2048 3584 1536 rfl inb_S1024x6144_S1024x512_0_3584 inb_S512x2048_S512x512_0_1536 z,
    fun z => pay89_eq x1 x2 x3 2048 3072 1024 rfl inb_S1024x6144_S1024x512_0_3072 inb_S512x2048_S512x512_0_1024 z,
    fun z => pay89_eq x1 x2 x3 2048 2560 512 rfl inb_S1024x6144_S1024x512_0_2560 inb_S512x2048_S512x512_0_512 z,
    fun z => pay89_eq x1 x2 x3 2048 2048 0 rfl inb_S1024x6144_S1024x512_0_2048 inb_S512x2048_S512x512_0_0 z,
    trivial⟩

set_option maxHeartbeats 4000000 in
theorem first14 (hc0 : firstStep i) : View.PiecesOf (Gpl x1 x2 x3 4096) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.1 := by
  frame_open
  simp (disch := decide) only [↓ View.readCov_skip, ↓ View.readCov_cons_toLoadRect, ↓ View.readCov_fill]
  frame_out
  exact ⟨fun z => pay89_eq x1 x2 x3 4096 5632 1536 rfl inb_S1024x6144_S1024x512_0_5632 inb_S512x2048_S512x512_0_1536 z,
    fun z => pay89_eq x1 x2 x3 4096 5120 1024 rfl inb_S1024x6144_S1024x512_0_5120 inb_S512x2048_S512x512_0_1024 z,
    fun z => pay89_eq x1 x2 x3 4096 4608 512 rfl inb_S1024x6144_S1024x512_0_4608 inb_S512x2048_S512x512_0_512 z,
    fun z => pay89_eq x1 x2 x3 4096 4096 0 rfl inb_S1024x6144_S1024x512_0_4096 inb_S512x2048_S512x512_0_0 z,
    trivial⟩

set_option maxHeartbeats 4000000 in
theorem first15 (hc0 : firstStep i) : View.PiecesOf (Gsmp x8 x9 x10 (k0_pay2 x6) (k0_pay3 x7) i) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.2.1 := by
  frame_open
  simp (disch := decide) only [↓ View.readCov_skip, ↓ View.readCov_cons_toLoadRect, ↓ View.readCov_fill]
  frame_out
  exact ⟨fun z => row_eq x8 x9 x10 (k0_pay2 x6) (k0_pay3 x7) i 1 3 768 rfl _ (k0_off4_eq i 1) inb_S1024x128_S256x128_768_0 (k0_off4_inb i 1) inb_S2x4x256x512_S1x1x256x512_1_3_0_0 z,
    fun z => row_eq x8 x9 x10 (k0_pay2 x6) (k0_pay3 x7) i 1 2 512 rfl _ (k0_off3_eq i 1) inb_S1024x128_S256x128_512_0 (k0_off3_inb i 1) inb_S2x4x256x512_S1x1x256x512_1_2_0_0 z,
    fun z => row_eq x8 x9 x10 (k0_pay2 x6) (k0_pay3 x7) i 1 1 256 rfl _ (k0_off2_eq i 1) inb_S1024x128_S256x128_256_0 (k0_off2_inb i 1) inb_S2x4x256x512_S1x1x256x512_1_1_0_0 z,
    fun z => row_eq x8 x9 x10 (k0_pay2 x6) (k0_pay3 x7) i 1 0 0 rfl _ (k0_off1_eq i 1) inb_S1024x128_S256x128_0_0 (k0_off1_inb i 1) inb_S2x4x256x512_S1x1x256x512_1_0_0_0 z,
    fun z => row_eq x8 x9 x10 (k0_pay2 x6) (k0_pay3 x7) i 0 3 768 rfl _ (k0_off4_eq i 0) inb_S1024x128_S256x128_768_0 (k0_off4_inb i 0) inb_S2x4x256x512_S1x1x256x512_0_3_0_0 z,
    fun z => row_eq x8 x9 x10 (k0_pay2 x6) (k0_pay3 x7) i 0 2 512 rfl _ (k0_off3_eq i 0) inb_S1024x128_S256x128_512_0 (k0_off3_inb i 0) inb_S2x4x256x512_S1x1x256x512_0_2_0_0 z,
    fun z => row_eq x8 x9 x10 (k0_pay2 x6) (k0_pay3 x7) i 0 1 256 rfl _ (k0_off2_eq i 0) inb_S1024x128_S256x128_256_0 (k0_off2_inb i 0) inb_S2x4x256x512_S1x1x256x512_0_1_0_0 z,
    fun z => row_eq x8 x9 x10 (k0_pay2 x6) (k0_pay3 x7) i 0 0 0 rfl _ (k0_off1_eq i 0) inb_S1024x128_S256x128_0_0 (k0_off1_inb i 0) inb_S2x4x256x512_S1x1x256x512_0_0_0_0 z,
    trivial⟩

set_option maxHeartbeats 4000000 in
theorem first16 (hc0 : firstStep i) : View.PiecesOf (Gst x8 x10 (k0_pay3 x7) i) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.2.2.1 := by
  frame_open
  simp (disch := decide) only [↓ View.readCov_skip, ↓ View.readCov_cons_toLoadRect, ↓ View.readCov_fill]
  frame_out
  exact ⟨fun z => st_eq x8 x10 (k0_pay3 x7) i 1 3 768 rfl _ (k0_off4_eq i 1) inb_S1024x128_S256x128_768_0 (k0_off4_inb i 1) inb_S2x4x256x512_S1x1x256x512_1_3_0_0 z,
    fun z => st_eq x8 x10 (k0_pay3 x7) i 1 2 512 rfl _ (k0_off3_eq i 1) inb_S1024x128_S256x128_512_0 (k0_off3_inb i 1) inb_S2x4x256x512_S1x1x256x512_1_2_0_0 z,
    fun z => st_eq x8 x10 (k0_pay3 x7) i 1 1 256 rfl _ (k0_off2_eq i 1) inb_S1024x128_S256x128_256_0 (k0_off2_inb i 1) inb_S2x4x256x512_S1x1x256x512_1_1_0_0 z,
    fun z => st_eq x8 x10 (k0_pay3 x7) i 1 0 0 rfl _ (k0_off1_eq i 1) inb_S1024x128_S256x128_0_0 (k0_off1_inb i 1) inb_S2x4x256x512_S1x1x256x512_1_0_0_0 z,
    fun z => st_eq x8 x10 (k0_pay3 x7) i 0 3 768 rfl _ (k0_off4_eq i 0) inb_S1024x128_S256x128_768_0 (k0_off4_inb i 0) inb_S2x4x256x512_S1x1x256x512_0_3_0_0 z,
    fun z => st_eq x8 x10 (k0_pay3 x7) i 0 2 512 rfl _ (k0_off3_eq i 0) inb_S1024x128_S256x128_512_0 (k0_off3_inb i 0) inb_S2x4x256x512_S1x1x256x512_0_2_0_0 z,
    fun z => st_eq x8 x10 (k0_pay3 x7) i 0 1 256 rfl _ (k0_off2_eq i 0) inb_S1024x128_S256x128_256_0 (k0_off2_inb i 0) inb_S2x4x256x512_S1x1x256x512_0_1_0_0 z,
    fun z => st_eq x8 x10 (k0_pay3 x7) i 0 0 0 rfl _ (k0_off1_eq i 0) inb_S1024x128_S256x128_0_0 (k0_off1_inb i 0) inb_S2x4x256x512_S1x1x256x512_0_0_0_0 z,
    trivial⟩

end Cert.Kernel4Ideal.Hand

end
-- ==== Proof.InCover.lean ====
module

public import proofs.«01_k».proof.Proof.InPieces
public import Idealize.ShloMosaic.Lib.Pipeline.ReadBack
public import Idealize.ShloMosaic.Lib.Pipeline.ValueKit
public import Idealize.ShloMosaic.Lib.VecWindow

/-! What each output block reads once a point has written its pieces. -/

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S2x4x256x512 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S128x2048 .f32) (harg15 : arg15.IsWhole) (arg16 : Memref sig .tc .vmem S2x4x256x512 .f32) (harg16 : arg16.IsWhole) (arg17 : Memref sig .tc .vmem S1024x128 .f32) (harg17 : arg17.IsWhole) (arg18 : Memref sig .tc .vmem S1024x128 .f32) (harg18 : arg18.IsWhole)
  (x1 : Vec Ideal S512x1024 .f32) (x2 : Vec Ideal S1x1024 .f32) (x3 : Vec Ideal S1024x6144 .bf16) (x4 : Vec Ideal S512x128 .f32) (x5 : Vec Ideal S512x128 .f32)
  (x6 x7 : Vec Ideal S128x1024 .f32) (x8 : Vec Ideal S128x2048 .f32) (x9 : Vec Ideal S128x2048 .f32) (x10 : Vec Ideal S2x4x256x512 .f32) (y15 : Vec Ideal S128x2048 .f32) (s17 s18 : Vec Ideal S1024x128 .f32)

theorem mem_row (s : Fin 2) (H : Fin 4) (off : Fin 2 → ℕ) (hoff : off = ![2 * (i 0).val + s.val, 512 * H.val])
    (inb : ∀ a, off a + S1x512.size a ≤ S128x2048.size a) (y : S128x2048.Idx) (h0 : (y 0).val = 2 * (i 0).val + s.val) (h1 : (y 1).val / 512 = H.val) :
    y ∈ (Rect.unit (s := S128x2048) off S1x512.size inb).set := by
  subst hoff
  rw [Rect.mem_set_unit]
  intro a
  fin_cases a
  · show 2 * (i 0).val + s.val ≤ (y 0).val ∧ (y 0).val < 2 * (i 0).val + s.val + 1; omega
  · show 512 * H.val ≤ (y 1).val ∧ (y 1).val < 512 * H.val + 512; omega

theorem not_mem_row (s : Fin 2) (H : Fin 4) (off : Fin 2 → ℕ) (hoff : off = ![2 * (i 0).val + s.val, 512 * H.val])
    (inb : ∀ a, off a + S1x512.size a ≤ S128x2048.size a) (y : S128x2048.Idx) (h0 : (y 0).val / 2 ≠ (i 0).val) :
    y ∉ (Rect.unit (s := S128x2048) off S1x512.size inb).set := by
  subst hoff
  rw [Rect.mem_set_unit]
  intro h
  have h := h 0
  have h : 2 * (i 0).val + s.val ≤ (y 0).val ∧ (y 0).val < 2 * (i 0).val + s.val + 1 := h
  omega

theorem later11_reads (hc0 : ¬firstStep i) (v : View sig .tc .vmem S512x1024 .bf16) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).1) = (Grot x1 x2 x3 x4 x5 0) := by
  funext y
  refine View.read_writes_apply_of_pieces v f (Grot x1 x2 x3 x4 x5 0) _ (View.PiecesOf.mem (by apply later11)) y ?_
  exact View.cover_of_tiledL _ ![512, 128] (by sl_kernel_rfl) y

theorem later12_reads (hc0 : ¬firstStep i) (v : View sig .tc .vmem S512x1024 .bf16) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.1) = (Grot x1 x2 x3 x4 x5 1024) := by
  funext y
  refine View.read_writes_apply_of_pieces v f (Grot x1 x2 x3 x4 x5 1024) _ (View.PiecesOf.mem (by apply later12)) y ?_
  exact View.cover_of_tiledL _ ![512, 128] (by sl_kernel_rfl) y

theorem later13_reads (hc0 : ¬firstStep i) (v : View sig .tc .vmem S512x2048 .bf16) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.1) = (Gpl x1 x2 x3 2048) := by
  funext y
  refine View.read_writes_apply_of_pieces v f (Gpl x1 x2 x3 2048) _ (View.PiecesOf.mem (by apply later13)) y ?_
  exact View.cover_of_tiledL _ ![512, 512] (by sl_kernel_rfl) y

theorem later14_reads (hc0 : ¬firstStep i) (v : View sig .tc .vmem S512x2048 .bf16) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.2.1) = (Gpl x1 x2 x3 4096) := by
  funext y
  refine View.read_writes_apply_of_pieces v f (Gpl x1 x2 x3 4096) _ (View.PiecesOf.mem (by apply later14)) y ?_
  exact View.cover_of_tiledL _ ![512, 512] (by sl_kernel_rfl) y

theorem later16_reads (hc0 : ¬firstStep i) (v : View sig .tc .vmem S2x4x256x512 .f32) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.2.2.2.1) = (Gst x8 x10 s18 i) := by
  funext y
  refine View.read_writes_apply_of_pieces v f (Gst x8 x10 s18 i) _ (View.PiecesOf.mem (by apply later16)) y ?_
  exact View.cover_of_tiledL _ ![1, 1, 256, 512] (by sl_kernel_rfl) y

theorem later15_mem (hc0 : ¬firstStep i) (y : S128x2048.Idx) (h0 : (y 0).val / 2 = (i 0).val) : ∃ p ∈ (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.2.2.1, y ∈ p.1.set := by
  have hy : (y 1).val < 2048 := (y 1).isLt
  frame_out
  obtain hs | hs : (y 0).val = 2 * (i 0).val + 1 ∨ (y 0).val = 2 * (i 0).val + 0 := by omega
  · obtain h | h | h | h : (y 1).val / 512 = 3 ∨ (y 1).val / 512 = 2 ∨ (y 1).val / 512 = 1 ∨ (y 1).val / 512 = 0 := by omega
    · exact ⟨_, .head _, mem_row i 1 3 _ (k0_off4_eq i 1) (k0_off4_inb i 1) y hs h⟩
    · exact ⟨_, .tail _ (.head _), mem_row i 1 2 _ (k0_off3_eq i 1) (k0_off3_inb i 1) y hs h⟩
    · exact ⟨_, .tail _ (.tail _ (.head _)), mem_row i 1 1 _ (k0_off2_eq i 1) (k0_off2_inb i 1) y hs h⟩
    · exact ⟨_, .tail _ (.tail _ (.tail _ (.head _))), mem_row i 1 0 _ (k0_off1_eq i 1) (k0_off1_inb i 1) y hs h⟩
  · obtain h | h | h | h : (y 1).val / 512 = 3 ∨ (y 1).val / 512 = 2 ∨ (y 1).val / 512 = 1 ∨ (y 1).val / 512 = 0 := by omega
    · exact ⟨_, .tail _ (.tail _ (.tail _ (.tail _ (.head _)))), mem_row i 0 3 _ (k0_off4_eq i 0) (k0_off4_inb i 0) y hs h⟩
    · exact ⟨_, .tail _ (.tail _ (.tail _ (.tail _ (.tail _ (.head _))))), mem_row i 0 2 _ (k0_off3_eq i 0) (k0_off3_inb i 0) y hs h⟩
    · exact ⟨_, .tail _ (.tail _ (.tail _ (.tail _ (.tail _ (.tail _ (.head _)))))), mem_row i 0 1 _ (k0_off2_eq i 0) (k0_off2_inb i 0) y hs h⟩
    · exact ⟨_, .tail _ (.tail _ (.tail _ (.tail _ (.tail _ (.tail _ (.tail _ (.head _))))))), mem_row i 0 0 _ (k0_off1_eq i 0) (k0_off1_inb i 0) y hs h⟩

theorem later15_nmem (hc0 : ¬firstStep i) (y : S128x2048.Idx) (h0 : (y 0).val / 2 ≠ (i 0).val) : ∀ p ∈ (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.2.2.1, y ∉ p.1.set := by
  frame_out
  simp only [List.forall_mem_cons]
  exact ⟨not_mem_row i 1 3 _ (k0_off4_eq i 1) (k0_off4_inb i 1) y h0, not_mem_row i 1 2 _ (k0_off3_eq i 1) (k0_off3_inb i 1) y h0, not_mem_row i 1 1 _ (k0_off2_eq i 1) (k0_off2_inb i 1) y h0, not_mem_row i 1 0 _ (k0_off1_eq i 1) (k0_off1_inb i 1) y h0, not_mem_row i 0 3 _ (k0_off4_eq i 0) (k0_off4_inb i 0) y h0, not_mem_row i 0 2 _ (k0_off3_eq i 0) (k0_off3_inb i 0) y h0, not_mem_row i 0 1 _ (k0_off2_eq i 0) (k0_off2_inb i 0) y h0, not_mem_row i 0 0 _ (k0_off1_eq i 0) (k0_off1_inb i 0) y h0, fun _ h => absurd h List.not_mem_nil⟩

theorem later15_reads (hc0 : ¬firstStep i) (v : View sig .tc .vmem S128x2048 .f32) (f : v.ty.Contents (Elt Ideal)) (y : S128x2048.Idx) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15 s17 s18).2.2.2.2.1) y = if (y 0).val / 2 = (i 0).val then (Gsmp x8 x9 x10 s17 s18 i) y else v.read (Elt Ideal) f y := by
  split
  · next h0 =>
    exact View.read_writes_apply_of_pieces v f (Gsmp x8 x9 x10 s17 s18 i) _ (View.PiecesOf.mem (by apply later15)) y (by apply later15_mem; exact h0)
  · next h0 =>
    exact View.read_writes_apply_of_forall_not_mem v f y _ (by apply later15_nmem; exact h0)

theorem first11_reads (hc0 : firstStep i) (v : View sig .tc .vmem S512x1024 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).1) = (Grot x1 x2 x3 x4 x5 0) := by
  funext y
  refine View.read_writes_apply_of_pieces v f (Grot x1 x2 x3 x4 x5 0) _ (View.PiecesOf.mem (by apply first11)) y ?_
  exact View.cover_of_tiledL _ ![512, 128] (by sl_kernel_rfl) y

theorem first12_reads (hc0 : firstStep i) (v : View sig .tc .vmem S512x1024 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.1) = (Grot x1 x2 x3 x4 x5 1024) := by
  funext y
  refine View.read_writes_apply_of_pieces v f (Grot x1 x2 x3 x4 x5 1024) _ (View.PiecesOf.mem (by apply first12)) y ?_
  exact View.cover_of_tiledL _ ![512, 128] (by sl_kernel_rfl) y

theorem first13_reads (hc0 : firstStep i) (v : View sig .tc .vmem S512x2048 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.1) = (Gpl x1 x2 x3 2048) := by
  funext y
  refine View.read_writes_apply_of_pieces v f (Gpl x1 x2 x3 2048) _ (View.PiecesOf.mem (by apply first13)) y ?_
  exact View.cover_of_tiledL _ ![512, 512] (by sl_kernel_rfl) y

theorem first14_reads (hc0 : firstStep i) (v : View sig .tc .vmem S512x2048 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.1) = (Gpl x1 x2 x3 4096) := by
  funext y
  refine View.read_writes_apply_of_pieces v f (Gpl x1 x2 x3 4096) _ (View.PiecesOf.mem (by apply first14)) y ?_
  exact View.cover_of_tiledL _ ![512, 512] (by sl_kernel_rfl) y

theorem first16_reads (hc0 : firstStep i) (v : View sig .tc .vmem S2x4x256x512 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.2.2.1) = (Gst x8 x10 (k0_pay3 x7) i) := by
  funext y
  refine View.read_writes_apply_of_pieces v f (Gst x8 x10 (k0_pay3 x7) i) _ (View.PiecesOf.mem (by apply first16)) y ?_
  exact View.cover_of_tiledL _ ![1, 1, 256, 512] (by sl_kernel_rfl) y

theorem first15_mem (hc0 : firstStep i) (y : S128x2048.Idx) (h0 : (y 0).val / 2 = (i 0).val) : ∃ p ∈ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.2.1, y ∈ p.1.set := by
  have hy : (y 1).val < 2048 := (y 1).isLt
  frame_open
  obtain hs | hs : (y 0).val = 2 * (i 0).val + 1 ∨ (y 0).val = 2 * (i 0).val + 0 := by omega
  · obtain h | h | h | h : (y 1).val / 512 = 3 ∨ (y 1).val / 512 = 2 ∨ (y 1).val / 512 = 1 ∨ (y 1).val / 512 = 0 := by omega
    · exact ⟨_, .head _, mem_row i 1 3 _ (k0_off4_eq i 1) (k0_off4_inb i 1) y hs h⟩
    · exact ⟨_, .tail _ (.head _), mem_row i 1 2 _ (k0_off3_eq i 1) (k0_off3_inb i 1) y hs h⟩
    · exact ⟨_, .tail _ (.tail _ (.head _)), mem_row i 1 1 _ (k0_off2_eq i 1) (k0_off2_inb i 1) y hs h⟩
    · exact ⟨_, .tail _ (.tail _ (.tail _ (.head _))), mem_row i 1 0 _ (k0_off1_eq i 1) (k0_off1_inb i 1) y hs h⟩
  · obtain h | h | h | h : (y 1).val / 512 = 3 ∨ (y 1).val / 512 = 2 ∨ (y 1).val / 512 = 1 ∨ (y 1).val / 512 = 0 := by omega
    · exact ⟨_, .tail _ (.tail _ (.tail _ (.tail _ (.head _)))), mem_row i 0 3 _ (k0_off4_eq i 0) (k0_off4_inb i 0) y hs h⟩
    · exact ⟨_, .tail _ (.tail _ (.tail _ (.tail _ (.tail _ (.head _))))), mem_row i 0 2 _ (k0_off3_eq i 0) (k0_off3_inb i 0) y hs h⟩
    · exact ⟨_, .tail _ (.tail _ (.tail _ (.tail _ (.tail _ (.tail _ (.head _)))))), mem_row i 0 1 _ (k0_off2_eq i 0) (k0_off2_inb i 0) y hs h⟩
    · exact ⟨_, .tail _ (.tail _ (.tail _ (.tail _ (.tail _ (.tail _ (.tail _ (.head _))))))), mem_row i 0 0 _ (k0_off1_eq i 0) (k0_off1_inb i 0) y hs h⟩

theorem first15_nmem (hc0 : firstStep i) (y : S128x2048.Idx) (h0 : (y 0).val / 2 ≠ (i 0).val) : ∀ p ∈ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.2.1, y ∉ p.1.set := by
  frame_open
  simp only [List.forall_mem_cons]
  exact ⟨not_mem_row i 1 3 _ (k0_off4_eq i 1) (k0_off4_inb i 1) y h0, not_mem_row i 1 2 _ (k0_off3_eq i 1) (k0_off3_inb i 1) y h0, not_mem_row i 1 1 _ (k0_off2_eq i 1) (k0_off2_inb i 1) y h0, not_mem_row i 1 0 _ (k0_off1_eq i 1) (k0_off1_inb i 1) y h0, not_mem_row i 0 3 _ (k0_off4_eq i 0) (k0_off4_inb i 0) y h0, not_mem_row i 0 2 _ (k0_off3_eq i 0) (k0_off3_inb i 0) y h0, not_mem_row i 0 1 _ (k0_off2_eq i 0) (k0_off2_inb i 0) y h0, not_mem_row i 0 0 _ (k0_off1_eq i 0) (k0_off1_inb i 0) y h0, fun _ h => absurd h List.not_mem_nil⟩

theorem first15_reads (hc0 : firstStep i) (v : View sig .tc .vmem S128x2048 .f32) (f : v.ty.Contents (Elt Ideal)) (y : S128x2048.Idx) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.2.1) y = if (y 0).val / 2 = (i 0).val then (Gsmp x8 x9 x10 (k0_pay2 x6) (k0_pay3 x7) i) y else v.read (Elt Ideal) f y := by
  split
  · next h0 =>
    exact View.read_writes_apply_of_pieces v f (Gsmp x8 x9 x10 (k0_pay2 x6) (k0_pay3 x7) i) _ (View.PiecesOf.mem (by apply first15)) y (by apply first15_mem; exact h0)
  · next h0 =>
    exact View.read_writes_apply_of_forall_not_mem v f y _ (by apply first15_nmem; exact h0)

theorem first17_reads (hc0 : firstStep i) (v : View sig .tc .vmem S1024x128 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.2.2.2.1) = k0_pay2 x6 := by
  frame_open
  frame_out
  refine View.read_writes_full v f (off := ![0, 0]) inb_S1024x128_S1024x128_0_0 _ []

theorem first18_reads (hc0 : firstStep i) (v : View sig .tc .vmem S1024x128 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 y15).2.2.2.2.2.2.2.1) = k0_pay3 x7 := by
  frame_open
  frame_out
  refine View.read_writes_full v f (off := ![0, 0]) inb_S1024x128_S1024x128_0_0 _ []

end Cert.Kernel4Ideal.Hand

end
-- ==== Proof.InBody.lean ====
module

public import proofs.«01_k».proof.Proof.InCover
public import proofs.«01_k».proof.Proof.Gen.Kernel4Ideal.Launch
public import proofs.«01_k».proof.Proof.Gen.Kernel4Ideal.Points
public import proofs.«01_k».proof.Proof.Gen.Kernel4Ideal.Frame
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

/-! What every point leaves: the projected blocks and the new states exactly, and in the array of sample rows the rows written so far. -/

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

local notation "𝕄" => MT nD τ sig Unit (Elt Ideal) ℕ (UR sig nD τ) ℕ

variable (m : (ℓ : Loc nD τ sig) → Buf (Elt Ideal) ℓ) (ρ : Dev nD → PrngReg)

/-- The grid's first point. -/
def t₀ : Fin cfg0.N := ⟨0, by decide⟩

theorem coords_val : ∀ t : Fin cfg0.N, (grid0.coords t 0).val = t.val :=
  (by decide +kernel : ∀ t : Fin grid0.N, (grid0.coords t 0).val = t.val)

theorem first_iff : ∀ t : Fin cfg0.N, firstStep (grid0.coords t) ↔ t.val = 0 :=
  (by decide +kernel : ∀ t : Fin grid0.N, firstStep (grid0.coords t) ↔ t.val = 0)

/-- The transposed sample queries, and the keys, that the first point leaves for the later ones. -/
def scrQ (c : Dev nD) : Vec Ideal S1024x128 .f32 := k0_pay2 (iblk m c 5 t₀)
def scrK (c : Dev nD) : Vec Ideal S1024x128 .f32 := k0_pay3 (iblk m c 6 t₀)

/-- The sample rows that point `t` writes. -/
def Tsmp (c : Dev nD) (t : Fin cfg0.N) : S128x2048.Idx → EReal :=
  Gsmp (iblk m c 7 t) (iblk m c 8 t) (iblk m c 9 t) (scrQ m c) (scrK m c) (grid0.coords t)

/-- The one window that is filled over many points: the sample rows. -/
def fgt (w : Fin cfg0.W) : Bool := Nat.beq w.val 14

/-- After point `t` every sample row of a point up to `t` is written. -/
def Rl (c : Dev nD) : (w : Fin cfg0.W) → Fin cfg0.N → ((cfg0.win w).block.Idx → Elt Ideal (cfg0.win w).elt) → Prop
  | ⟨14, _⟩, t, X => ∀ t' : Fin cfg0.N, t'.val ≤ t.val → ∀ y : S128x2048.Idx, (y 0).val / 2 = t'.val → X y = Tsmp m c t' y
  | _, _, _ => True

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Grot (iblk m c 0 t) (iblk m c 1 t) (iblk m c 2 t) (iblk m c 3 t) (iblk m c 4 t) 0
    | ⟨11, _⟩ => Grot (iblk m c 0 t) (iblk m c 1 t) (iblk m c 2 t) (iblk m c 3 t) (iblk m c 4 t) 1024
    | ⟨12, _⟩ => Gpl (iblk m c 0 t) (iblk m c 1 t) (iblk m c 2 t) 2048
    | ⟨13, _⟩ => Gpl (iblk m c 0 t) (iblk m c 1 t) (iblk m c 2 t) 4096
    | ⟨14, _⟩ => Tsmp m c t
    | ⟨15, _⟩ => Gst (iblk m c 7 t) (iblk m c 9 t) (scrK m c) (grid0.coords t)
    | ⟨_ + 16, h⟩ => absurd h (Nat.not_lt.2 (Nat.le_add_left _ _))
  Φ t := if t.val = 0 then Pipeline.ΦA spec0 c else
    iprop((owns (c : Thread nD τ) (Memref.whole cc0_scratch0) fullShare (scrQ m c)
      ∗ owns (c : Thread nD τ) (Memref.whole cc0_scratch1) fullShare (scrK m c)) ∗ (∃ g, prngReg c g))
  q _ := fullShare
  owed _ := 0

theorem A_eq (c : Dev nD) (w : Fin cfg0.W) : (dats m 0 c).A w = V m c (Pipeline.arrRef spec0 w) := by
  dsimp only [dats]

abbrev ms0 (t : Fin cfg0.N) : Memref sig .tc .vmem S512x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x6144 .bf16 := win0_2.stage (cfg0.slots t 2)
abbrev ms3 (t : Fin cfg0.N) : Memref sig .tc .vmem S512x128 .f32 := win0_3.stage (cfg0.slots t 3)
abbrev ms4 (t : Fin cfg0.N) : Memref sig .tc .vmem S512x128 .f32 := win0_4.stage (cfg0.slots t 4)
abbrev ms5 (t : Fin cfg0.N) : Memref sig .tc .vmem S128x1024 .f32 := win0_5.stage (cfg0.slots t 5)
abbrev ms6 (t : Fin cfg0.N) : Memref sig .tc .vmem S128x1024 .f32 := win0_6.stage (cfg0.slots t 6)
abbrev ms7 (t : Fin cfg0.N) : Memref sig .tc .vmem S128x2048 .f32 := win0_7.stage (cfg0.slots t 7)
abbrev ms8 (t : Fin cfg0.N) : Memref sig .tc .vmem S128x2048 .f32 := win0_8.stage (cfg0.slots t 8)
abbrev ms9 (t : Fin cfg0.N) : Memref sig .tc .vmem S2x4x256x512 .f32 := win0_9.stage (cfg0.slots t 9)
abbrev ms10 (t : Fin cfg0.N) : Memref sig .tc .vmem S512x1024 .bf16 := win0_10.stage (cfg0.slots t 10)
abbrev ms11 (t : Fin cfg0.N) : Memref sig .tc .vmem S512x1024 .bf16 := win0_11.stage (cfg0.slots t 11)
abbrev ms12 (t : Fin cfg0.N) : Memref sig .tc .vmem S512x2048 .bf16 := win0_12.stage (cfg0.slots t 12)
abbrev ms13 (t : Fin cfg0.N) : Memref sig .tc .vmem S512x2048 .bf16 := win0_13.stage (cfg0.slots t 13)
abbrev ms14 (t : Fin cfg0.N) : Memref sig .tc .vmem S128x2048 .f32 := win0_14.stage (cfg0.slots t 14)
abbrev ms15 (t : Fin cfg0.N) : Memref sig .tc .vmem S2x4x256x512 .f32 := win0_15.stage (cfg0.slots t 15)

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d
theorem before9 (c : Dev nD) (t : Fin cfg0.N) (d) : (dats m 0 c).before 9 t d = iblk m c 9 t :=
  before0_9_of m (dats m 0 c) (A_eq m c 9) (fun _ => by dsimp only [dats]) t d

/-- The buffers the pipeline leaves to the body, spelled as the body takes them, and the generator register. -/
theorem phi_eq (c : Dev nD) : (Pipeline.ΦA spec0 c : sProp 𝕄)
    = iprop(((∃ d : Vec Ideal S1024x128 .f32, owns (c : Thread nD τ) (Memref.whole cc0_scratch0) fullShare d)
        ∗ (∃ d : Vec Ideal S1024x128 .f32, owns (c : Thread nD τ) (Memref.whole cc0_scratch1) fullShare d)) ∗ (∃ g, prngReg c g)) := by
  unfold Pipeline.ΦA; rw [scopedRest0_eq]; simp only [owns_whole]; try rfl

theorem phi_first (c : Dev nD) (t : Fin (cfg0.N + 1)) (h : t.val = 0) : (dats m 0 c).Φ t = Pipeline.ΦA spec0 c := by
  dsimp only [dats]; rw [if_pos h]

theorem phi_later (c : Dev nD) (t : Fin (cfg0.N + 1)) (h : t.val ≠ 0) : (dats m 0 c).Φ t =
    iprop((owns (c : Thread nD τ) (Memref.whole cc0_scratch0) fullShare (scrQ m c)
      ∗ owns (c : Thread nD τ) (Memref.whole cc0_scratch1) fullShare (scrK m c)) ∗ (∃ g, prngReg c g)) := by
  dsimp only [dats]; rw [if_neg h]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ Y, ⌜((dats m 0 c).toRRel fgt (Rl m c)).Finds 14 t Y⌝ ∗ owns (c : Thread nD τ) (ms14 t) fullShare Y) ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t) ∗ (∃ X, ⌜Rl m c 14 t X⌝ ∗ owns (c : Thread nD τ) (ms14 t) fullShare X) ∗ owns (c : Thread nD τ) (ms15 t) fullShare ((dats m 0 c).after 15 t))

/-- What a point leaves of the sample rows, `Y` what it found. -/
theorem rows_step (c : Dev nD) (t : Fin cfg0.N) (Y X : S128x2048.Idx → EReal)
    (hY : ((dats m 0 c).toRRel fgt (Rl m c)).Finds 14 t Y)
    (hX : ∀ y, X y = if (y 0).val / 2 = (grid0.coords t 0).val then Tsmp m c t y else Y y) : Rl m c 14 t X := by
  show ∀ t' : Fin cfg0.N, t'.val ≤ t.val → ∀ y : S128x2048.Idx, (y 0).val / 2 = t'.val → X y = Tsmp m c t' y
  intro t' ht' y hy
  rw [hX, coords_val]
  by_cases he : t' = t
  · subst he; rw [if_pos hy]
  · have hne : t'.val ≠ t.val := fun h => he (Fin.ext h)
    rw [if_neg (by omega)]
    have hN : t.val < 64 := t.isLt
    obtain hf | hl := (Pipeline.RDat.finds_of_pos (rd := (dats m 0 c).toRRel fgt (Rl m c)) (w := 14) (t := t) rfl (by omega) Y).1 hY
    · have := (flush0_14 _).1 hf
      have : (t.val - 1) % 64 = 63 := this
      omega
    · have hR : Rl m c 14 _ Y := (dats m 0 c).toRRel_leaves rfl hl
      exact hR t' (by show t'.val ≤ t.val - 1; omega) y hy

set_option maxHeartbeats 4000000 in
theorem sound_later (c : Dev nD) (t : Fin cfg0.N) (ht : t.val ≠ 0) :
    bodyPre m c t ⊢ wp frame (wpE (defs₀ (F := Ideal)) Variants.none c none) Set.univ (bodyAt0 t) (fun _ => bodyPost m c t) := by
  have hc0 : ¬firstStep (grid0.coords t) := fun h => ht ((first_iff t).1 h)
  unfold bodyPre bodyPost bodyAt0
  simp only [before0, before1, before2, before3, before4, before5, before6, before7, before8, before9]
  rw [show (dats m 0 c).owesAt () t.succ = (dats m 0 c).owesAt () t.castSucc from rfl]
  rw [phi_later m c t.castSucc ht, phi_later m c t.succ (Nat.succ_ne_zero _)]
  dsimp only [dats]
  iintro ⟨⟨⟨H17, H18⟩, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, H11, H12, H13, H14, ⟨%Y, %hY, H15⟩, ⟨%d15, H16⟩⟩
  iapply ((runLater (F := Ideal) c (grid0.coords t) _ _ _ _ _ _ _ _ _ _ _ _ _ _ _ _ _ _ _ _ _ _ _ _ _ _ _ _ _ _ _ _ _ _ _ _ hc0 (iblk m c 0 t) (iblk m c 1 t) (iblk m c 2 t) (iblk m c 3 t) (iblk m c 4 t) (iblk m c 5 t) (iblk m c 6 t) (iblk m c 7 t) (iblk m c 8 t) (iblk m c 9 t) Y (scrQ m c) (scrK m c)).2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · icases H11 with ⟨%e, H11⟩; iexists _; iexact H11
  isplitl [H12]; · icases H12 with ⟨%e, H12⟩; iexists _; iexact H12
  isplitl [H13]; · icases H13 with ⟨%e, H13⟩; iexists _; iexact H13
  isplitl [H14]; · icases H14 with ⟨%e, H14⟩; iexists _; iexact H14
  isplitl [H15]; · iexact H15
  isplitl [H16]; · iexists _; iexact H16
  isplitl [H17]; · iexact H17
  isplitl [H18]; · iexact H18
  iintro ⟨H1, H2, H3, H4, H5, H6, H7, H8, H9, H10, ⟨%e11, H11⟩, ⟨%e12, H12⟩, ⟨%e13, H13⟩, ⟨%e14, H14⟩, H15, ⟨%e16, H16⟩, H17, H18⟩
  isplitl [H17 H18 Hg]
  · isplitl [H17 H18]
    · isplitl [H17]; · iexact H17
      iexact H18
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; apply later11_reads
  isplitl [H12]
  · unfold owns; iexists _; isplitr
    swap; · iexact H12
    ipureintro; apply later12_reads
  isplitl [H13]
  · unfold owns; iexists _; isplitr
    swap; · iexact H13
    ipureintro; apply later13_reads
  isplitl [H14]
  · unfold owns; iexists _; isplitr
    swap; · iexact H14
    ipureintro; apply later14_reads
  isplitl [H15]
  · iexists _; isplitr
    swap
    · unfold owns; iexists _; isplitr
      swap; · iexact H15
      ipureintro; rfl
    ipureintro
    refine rows_step m c _ Y _ hY fun y => ?_
    refine Eq.trans (by apply later15_reads) ?_
    rw [Memref.IsWhole.read_unread]
    rfl
  unfold owns; iexists _; isplitr
  swap; · iexact H16
  ipureintro; apply later16_reads

set_option maxHeartbeats 4000000 in
theorem sound_first (c : Dev nD) (t : Fin cfg0.N) (ht : t.val = 0) :
    bodyPre m c t ⊢ wp frame (wpE (defs₀ (F := Ideal)) Variants.none c none) Set.univ (bodyAt0 t) (fun _ => bodyPost m c t) := by
  have hc0 : firstStep (grid0.coords t) := (first_iff t).2 ht
  obtain rfl : t = t₀ := Fin.ext ht
  unfold bodyPre bodyPost bodyAt0
  simp only [before0, before1, before2, before3, before4, before5, before6, before7, before8, before9]
  rw [show (dats m 0 c).owesAt () t₀.succ = (dats m 0 c).owesAt () t₀.castSucc from rfl]
  rw [phi_first m c t₀.castSucc ht, phi_later m c t₀.succ (Nat.succ_ne_zero _), phi_eq]
  dsimp only [dats]
  iintro ⟨⟨⟨H17, H18⟩, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, H11, H12, H13, H14, ⟨%Y, %hY, H15⟩, ⟨%d15, H16⟩⟩
  iapply ((runFirst (F := Ideal) c (grid0.coords t₀) _ _ _ _ _ _ _ _ _ _ _ _ _ _ _ _ _ _ _ _ _ _ _ _ _ _ _ _ _ _ _ _ _ _ _ _ hc0 (iblk m c 0 t₀) (iblk m c 1 t₀) (iblk m c 2 t₀) (iblk m c 3 t₀) (iblk m c 4 t₀) (iblk m c 5 t₀) (iblk m c 6 t₀) (iblk m c 7 t₀) (iblk m c 8 t₀) (iblk m c 9 t₀) Y ).2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · icases H11 with ⟨%e, H11⟩; iexists _; iexact H11
  isplitl [H12]; · icases H12 with ⟨%e, H12⟩; iexists _; iexact H12
  isplitl [H13]; · icases H13 with ⟨%e, H13⟩; iexists _; iexact H13
  isplitl [H14]; · icases H14 with ⟨%e, H14⟩; iexists _; iexact H14
  isplitl [H15]; · iexact H15
  isplitl [H16]; · iexists _; iexact H16
  isplitl [H17]; · iexact H17
  isplitl [H18]; · iexact H18
  iintro ⟨H1, H2, H3, H4, H5, H6, H7, H8, H9, H10, ⟨%e11, H11⟩, ⟨%e12, H12⟩, ⟨%e13, H13⟩, ⟨%e14, H14⟩, H15, ⟨%e16, H16⟩, ⟨%e17, H17⟩, ⟨%e18, H18⟩⟩
  isplitl [H17 H18 Hg]
  · isplitl [H17 H18]
    · isplitl [H17]
      · unfold owns; iexists _; isplitr
        swap; · iexact H17
        ipureintro; apply first17_reads
      unfold owns; iexists _; isplitr
      swap; · iexact H18
      ipureintro; apply first18_reads
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; apply first11_reads
  isplitl [H12]
  · unfold owns; iexists _; isplitr
    swap; · iexact H12
    ipureintro; apply first12_reads
  isplitl [H13]
  · unfold owns; iexists _; isplitr
    swap; · iexact H13
    ipureintro; apply first13_reads
  isplitl [H14]
  · unfold owns; iexists _; isplitr
    swap; · iexact H14
    ipureintro; apply first14_reads
  isplitl [H15]
  · iexists _; isplitr
    swap
    · unfold owns; iexists _; isplitr
      swap; · iexact H15
      ipureintro; rfl
    ipureintro
    refine rows_step m c _ Y _ hY fun y => ?_
    refine Eq.trans (by apply first15_reads) ?_
    rw [Memref.IsWhole.read_unread]
    rfl
  unfold owns; iexists _; isplitr
  swap; · iexact H16
  ipureintro; apply first16_reads

theorem sound_body (c : Dev nD) (t : Fin cfg0.N) :
    bodyPre m c t ⊢ wp frame (wpE (defs₀ (F := Ideal)) Variants.none c none) Set.univ (bodyAt0 t) (fun _ => bodyPost m c t) := by
  by_cases ht : t.val = 0
  · exact sound_first m c t ht
  · exact sound_later m c t ht

theorem row (t : Fin cfg0.N) : defs₀ (F := Ideal) .tc cfg0.body (cfg0.bodyArgs t (cfg0.slots t)) = bodyAt0 t := by
  unfold defs₀; rw [Defs.onTc_tc]

theorem body_obligation (c : Dev nD) : Pipeline.BodyObligationRel (dats m 0 c) (defs₀ (F := Ideal)) Variants.none () Set.univ fgt (Rl m c) := fun t => by
  rw [bigSep_W0, bigSep_W0, row]
  exact triple_restated (sound_body m c t) rfl .rfl fun _ => .rfl

theorem phi_out (c : Dev nD) : (dats m 0 c).Φ (Fin.last cfg0.N) ⊢ Pipeline.ΦA spec0 c := by
  rw [phi_later m c (Fin.last cfg0.N) (by decide), phi_eq]
  iintro ⟨⟨H17, H18⟩, Hg⟩
  isplitl [H17 H18]
  · isplitl [H17]
    · iexists _; iexact H17
    iexists _; iexact H18
  iexact Hg

set_option backward.isDefEq.respectTransparency.types false in
theorem run_main : θ_run defs (onTc (τ := τ) (main (F := Ideal))) (s₀ m ρ)
    (fun r => Pipeline.RDat.FramePost cfg0 (fun c => (dats m 0 c).toRRel fgt (Rl m c)) (V m) r ∧ r.2.sem = fun _ => 0) :=
  Pipeline.RDat.θ_run_frame_track (Q' := _) cfgs (0 : Fin 1) launch0 defs₀ Variants.none (fun c => (dats m 0 c).toRRel fgt (Rl m c)) m ρ main
    (hbody := fun c => (body_obligation m c).toRRel) (hshare := fun c => (dats m 0 c).share_full fun _ => rfl)
    (howed := fun _ _ => rfl) (V := V m) (hmain := hmain m Variants.none) (hA := A_eq m)
    (hin := fun c => by rw [Pipeline.Dat.toRRel_Φ, phi_first m c 0 rfl]) (hout := phi_out m) (hQ' := fun _ h => h)

/-- The argument arrays end as they were. -/
theorem kept {r : PUnit × MemSt nD τ sig (Elt Ideal)} (h : Pipeline.RDat.FramePost cfg0 (fun c => (dats m 0 c).toRRel fgt (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (h.arr_in c 9 rfl).trans ((A_eq m c 9).trans (V_main_arg7 m c))⟩

/-- The frame: the argument arrays end as they were and every counter is zero. -/
theorem frame : θ_run defs (onTc (τ := τ) (main (F := Ideal))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨kept m h.1, h.2⟩) (run_main m ρ)

end Cert.Kernel4Ideal.Hand

end
-- ==== Proof.InMath.lean ====
module

public import proofs.«01_k».proof.Proof.InSpec

/-! The sample step with the decay folded into the query and the key, against the plain form. -/

@[expose] public section

noncomputable section

namespace Cert.InSpec

open Idealize.ShloMosaic Cert.Model

/-- The logarithm of the decay of head `h`, the decay being one less a power of two. -/
def lg (h : Fin 4) : ℝ := Real.log (1 + -(2 : ℝ) ^ (-5 - (h.val : ℝ)))

theorem pow_lt (h : Fin 4) : (2 : ℝ) ^ (-5 - (h.val : ℝ)) < 1 :=
  Real.rpow_lt_one_of_one_lt_of_neg (by norm_num) (by linarith [Nat.cast_nonneg (α := ℝ) h.val])

theorem exp_lg (h : Fin 4) : Real.exp (lg h) = 1 + -(2 : ℝ) ^ (-5 - (h.val : ℝ)) :=
  Real.exp_log (by linarith [pow_lt h])

theorem ofBits_two : Ideal.ofBits .f32 1073741824#32 = ((2 : ℝ) : EReal) := by
  simp [Ideal.ofBits, Ideal.ieee, -EReal.coe_mul]; norm_num

/-- The programs' logarithm of the decay. -/
theorem lg_coe (h : Fin 4) : Ideal.log1p (-Ideal.pow (Ideal.ofBits .f32 1073741824#32)
    (Ideal.ofBits .f32 3231711232#32 - (FloatOps.sitofp .f32 (BitVec.ofNat 32 h.val) : Ideal .f32))) = ((lg h : ℝ) : EReal) := by
  rw [ofBits_two, Spec.ofBits_m5, Spec.sitofp_nat _ (by omega), ← EReal.coe_sub]
  show Ideal.log (1 + -(((2 : ℝ) ^ (-5 - (h.val : ℝ)) : ℝ) : EReal)) = _
  rw [← EReal.coe_neg, ← EReal.coe_one, ← EReal.coe_add]
  show (if _ then _ else _) = _
  rw [if_neg (by linarith [pow_lt h])]
  rfl

/-- The decay as the kernel holds it. -/
def decayW : ℕ → BitVec 32
  | 0 => 0x3F780000#32
  | 1 => 0x3F7C0000#32
  | 2 => 0x3F7E0000#32
  | _ => 0x3F7F0000#32

theorem decayW_coe (h : Fin 4) : Ideal.ofBits .f32 (decayW h.val) = ((Real.exp (lg h) : ℝ) : EReal) := by
  have p (n : ℕ) : (2 : ℝ) ^ (-(n : ℝ)) = (2 ^ n)⁻¹ := by rw [Real.rpow_neg (by norm_num), Real.rpow_natCast]
  rw [exp_lg]
  fin_cases h
  · rw [show (-5 - ((0 : ℕ) : ℝ)) = -((5 : ℕ) : ℝ) by norm_num, p]; simp [decayW, Ideal.ofBits, Ideal.ieee, -EReal.coe_mul, -EReal.coe_add, -EReal.coe_neg]; norm_num
  · rw [show (-5 - ((1 : ℕ) : ℝ)) = -((6 : ℕ) : ℝ) by norm_num, p]; simp [decayW, Ideal.ofBits, Ideal.ieee, -EReal.coe_mul, -EReal.coe_add, -EReal.coe_neg]; norm_num
  · rw [show (-5 - ((2 : ℕ) : ℝ)) = -((7 : ℕ) : ℝ) by norm_num, p]; simp [decayW, Ideal.ofBits, Ideal.ieee, -EReal.coe_mul, -EReal.coe_add, -EReal.coe_neg]; norm_num
  · rw [show (-5 - ((3 : ℕ) : ℝ)) = -((8 : ℕ) : ℝ) by norm_num, p]; simp [decayW, Ideal.ofBits, Ideal.ieee, -EReal.coe_mul, -EReal.coe_add, -EReal.coe_neg]; norm_num

/-- A factor that is a real number and not negative goes into a sum. -/
theorem add_mul_coe (c : ℝ) (hc : 0 ≤ c) (x y : EReal) : (x + y) * (c : EReal) = x * c + y * c :=
  EReal.right_distrib_of_nonneg_of_ne_top (EReal.coe_nonneg.mpr hc) (EReal.coe_ne_top c) x y

theorem sum_mul_coe {n : ℕ} (c : ℝ) (hc : 0 ≤ c) (f : Fin n → EReal) : (∑ d, f d) * (c : EReal) = ∑ d, f d * c :=
  let g : EReal →+ EReal := ⟨⟨fun x => x * (c : EReal), zero_mul _⟩, add_mul_coe c hc⟩
  map_sum g f Finset.univ

theorem exp_cancel (l : ℝ) : ((Real.exp l : ℝ) : EReal) * ((Real.exp (-l) : ℝ) : EReal) = 1 := by
  rw [← EReal.coe_mul, ← Real.exp_add, add_neg_cancel, Real.exp_zero, EReal.coe_one]

/-- The folded output is the plain one. -/
theorem raw_eq (l : ℝ) (s : EReal) (q k : Fin 256 → EReal) (v : Fin 512 → EReal) (st : Fin 256 → Fin 512 → EReal) (e : Fin 512) :
    raw (fun d => q d * ((Real.exp l : ℝ) : EReal)) (fun d => k d * (((Real.exp (-l) : ℝ) : EReal) * s)) v st e
      = v e * ∑ d, q d * (k d * s) + (∑ d, st d e * q d) * ((Real.exp l : ℝ) : EReal) := by
  rw [sum_mul_coe _ (Real.exp_pos l).le, raw, add_comm, mul_comm _ (v e)]
  refine congrArg₂ (· + ·) (congrArg (v e * ·) (Finset.sum_congr rfl fun d _ => ?_)) (Finset.sum_congr rfl fun d _ => ?_)
  · calc _ = q d * (k d * s) * (((Real.exp l : ℝ) : EReal) * ((Real.exp (-l) : ℝ) : EReal)) := by ac_rfl
      _ = _ := by rw [exp_cancel, mul_one]
  · ac_rfl

/-- The folded state is the plain one. -/
theorem state_eq (l : ℝ) (s k v x : EReal) :
    ((Real.exp l : ℝ) : EReal) * (x + k * (((Real.exp (-l) : ℝ) : EReal) * s) * v) = ((Real.exp l : ℝ) : EReal) * x + k * s * v := by
  rw [mul_comm, add_mul_coe _ (Real.exp_pos l).le, mul_comm x]
  congr 1
  calc _ = k * s * v * (((Real.exp l : ℝ) : EReal) * ((Real.exp (-l) : ℝ) : EReal)) := by ac_rfl
    _ = _ := by rw [exp_cancel, mul_one]

/-- The gate through the hyperbolic tangent is the gate through the exponential. -/
theorem gateT_coe (r : ℝ) : gateT (r : EReal) = (r : EReal) * Ideal.div 1 (1 + Ideal.exp (-(r : EReal))) := by
  rw [gateT, Spec.ofBits_half]
  exact silu_coe _

/-- The entries of the arguments, on one device. -/
structure Inp where
  x : Fin 16 → Fin 2048 → Fin 1024 → EReal
  g : Fin 1024 → EReal
  w : Fin 1024 → Fin 6144 → EReal
  q : Fin 128 → Fin 4 → Fin 256 → EReal
  k : Fin 128 → Fin 4 → Fin 256 → EReal
  v : Fin 128 → Fin 4 → Fin 512 → EReal
  gt : Fin 128 → Fin 2048 → EReal
  st : Fin 128 → Fin 4 → Fin 256 → Fin 512 → EReal

/-- The angle of position `t` in lane `l`. -/
def ang (t : ℕ) (l : Fin 128) : EReal :=
  (FloatOps.sitofp .f32 (BitVec.ofNat 32 t) : Ideal .f32) * Ideal.pow (Ideal.ofBits .f32 1176256512#32)
    (Ideal.div (-(FloatOps.sitofp .f32 (BitVec.ofNat 32 l.val) : Ideal .f32)) (Ideal.ofBits .f32 1124073472#32))

variable (I : Inp)

/-- Column `j` of the projected row `r`, rows numbered through the batch. -/
def Inp.pr (r : Fin 32768) (j : ℕ) : EReal :=
  if h : j < 6144 then proj (I.x ⟨r / 2048, by omega⟩ ⟨r % 2048, by omega⟩) I.g (fun k => I.w k ⟨j, h⟩) else 0

/-- Column `j` of the rotated row `r`, the columns counted from `base`. -/
def Inp.rotated (base : ℕ) (r : Fin 32768) (j : ℕ) : EReal :=
  rot (fun j => I.pr r (base + j)) (fun l => Ideal.cos (ang (r % 2048) l)) (fun l => Ideal.sin (ang (r % 2048) l)) j

/-- The sample's query and key of head `h`, with the decay folded in. -/
def Inp.qd (b : Fin 128) (h : Fin 4) (d : Fin 256) : EReal := I.q b h d * ((Real.exp (lg h) : ℝ) : EReal)
def Inp.kd (b : Fin 128) (h : Fin 4) (d : Fin 256) : EReal :=
  I.k b h d * (((Real.exp (-lg h) : ℝ) : EReal) * Ideal.ofBits .f32 1031798784#32)

/-- The sample's gated output. -/
def Inp.og (b : Fin 128) (h : Fin 4) (e : Fin 512) : EReal :=
  rowF (I.qd b h) (I.kd b h) (I.v b h) (I.st b h) (fun e => I.gt b (Spec.col h e)) e

/-- The sample's new state. -/
def Inp.next (b : Fin 128) (h : Fin 4) (d : Fin 256) (e : Fin 512) : EReal :=
  ((Real.exp (lg h) : ℝ) : EReal) * (I.st b h d e + I.kd b h d * I.v b h e)

/-- The results as arrays. -/
def Inp.rotA (base : ℕ) : (⟨2, ![32768, 1024]⟩ : Shape).Idx → EReal := fun z => I.rotated base (z 0) (z 1).val
def Inp.plA (base : ℕ) : (⟨2, ![32768, 2048]⟩ : Shape).Idx → EReal := fun z => I.pr (z 0) (base + (z 1).val)
def Inp.ogA : (⟨2, ![128, 2048]⟩ : Shape).Idx → EReal := fun z =>
  I.og (z 0) ⟨(z 1).val / 512, by have : (z 1).val < 2048 := (z 1).isLt; omega⟩ ⟨(z 1).val % 512, by omega⟩
def Inp.stA : (⟨4, ![128, 4, 256, 512]⟩ : Shape).Idx → EReal := fun z => I.next (z 0) (z 1) (z 2) (z 3)

end Cert.InSpec

end
-- ==== Proof.InHost.lean ====
module

public import proofs.«01_k».proof.Proof.Gen.Kernel4Ideal.Frame
public import proofs.«01_k».proof.Proof.InMath
public import Idealize.ShloMosaic.Lib.Pipeline.ValueKit
public import Idealize.ShloMosaic.Lib.Pointwise
public import Idealize.ShloMosaic.Lib.StableHlo.RunRead

/-! The arrays that the host part of the projection's program prepares, entry by entry. -/

@[expose] public section

set_option maxRecDepth 16384

noncomputable section

namespace Cert.Kernel4Ideal.Host

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The arguments' entries on a device. -/
def inp : InSpec.Inp where
  x b t j := m (c, Proc.tc.devRef main_arg0) (ix3 b t j)
  g j := m (c, Proc.tc.devRef main_arg1) (ix1 j)
  w i j := m (c, Proc.tc.devRef main_arg2) (ix2 i j)
  q b h d := m (c, Proc.tc.devRef main_arg3) (ix4 b 0 h d)
  k b h d := m (c, Proc.tc.devRef main_arg4) (ix4 b 0 h d)
  v b h e := m (c, Proc.tc.devRef main_arg5) (ix4 b 0 h e)
  gt b j := m (c, Proc.tc.devRef main_arg6) (ix3 b 0 j)
  st b h d e := m (c, Proc.tc.devRef main_arg7) (ix4 b h d e)

theorem q_entry (b : Fin 128) (j : Fin 1024) : (V m c main_v30 : Vec Ideal S128x1024 .f32) (ix2 b j)
    = (inp m c).qd b ⟨j / 256, by omega⟩ ⟨j % 256, by omega⟩ := by
  simp only [V, hostOps0, List.flatten_cons, List.flatten_nil, List.append_nil, List.cons_append, List.nil_append]
  after_reads_simp
  pointwise
  exact congrArg (_ * Ideal.exp ·) (InSpec.lg_coe ⟨j / 256, by omega⟩)

theorem k_entry (b : Fin 128) (j : Fin 1024) : (V m c main_v34 : Vec Ideal S128x1024 .f32) (ix2 b j)
    = (inp m c).kd b ⟨j / 256, by omega⟩ ⟨j % 256, by omega⟩ := by
  simp only [V, hostOps0, List.flatten_cons, List.flatten_nil, List.append_nil, List.cons_append, List.nil_append]
  after_reads_simp
  pointwise
  exact congrArg (fun l => _ * (Ideal.exp (-l) * Ideal.ofBits .f32 1031798784#32)) (InSpec.lg_coe ⟨j / 256, by omega⟩)

theorem v_entry (b : Fin 128) (j : Fin 2048) : (V m c main_v35 : Vec Ideal S128x2048 .f32) (ix2 b j)
    = m (c, Proc.tc.devRef main_arg5) (ix4 b 0 ⟨j / 512, by omega⟩ ⟨j % 512, by omega⟩) := by
  simp only [V, hostOps0, List.flatten_cons, List.flatten_nil, List.append_nil, List.cons_append, List.nil_append]
  after_reads_simp
  pointwise

theorem gt_entry (b : Fin 128) (j : Fin 2048) : (V m c main_v36 : Vec Ideal S128x2048 .f32) (ix2 b j)
    = m (c, Proc.tc.devRef main_arg6) (ix3 b 0 j) := by
  simp only [V, hostOps0, List.flatten_cons, List.flatten_nil, List.append_nil, List.cons_append, List.nil_append]
  after_reads_simp
  pointwise

theorem x_entry (r : Fin 32768) (j : Fin 1024) : (V m c main_v37 : Vec Ideal S32768x1024 .f32) (ix2 r j)
    = m (c, Proc.tc.devRef main_arg0) (ix3 ⟨r / 2048, by omega⟩ ⟨r % 2048, by omega⟩ j) := by
  simp only [V, hostOps0, List.flatten_cons, List.flatten_nil, List.append_nil, List.cons_append, List.nil_append]
  after_reads_simp
  pointwise

theorem g_entry (j : Fin 1024) : (V m c main_v38 : Vec Ideal S1x1024 .f32) (ix2 0 j) = m (c, Proc.tc.devRef main_arg1) (ix1 j) := by
  simp only [V, hostOps0, List.flatten_cons, List.flatten_nil, List.append_nil, List.cons_append, List.nil_append]
  after_reads_simp
  pointwise

theorem w_entry (i : Fin 1024) (j : Fin 6144) : (V m c main_v39 : Vec Ideal S1024x6144 .bf16) (ix2 i j)
    = m (c, Proc.tc.devRef main_arg2) (ix2 i j) := by
  simp only [V, hostOps0, List.flatten_cons, List.flatten_nil, List.append_nil, List.cons_append, List.nil_append]
  after_reads_simp
  pointwise

theorem cos_entry (t : Fin 2048) (l : Fin 128) : (V m c main_v40 : Vec Ideal S2048x128 .f32) (ix2 t l) = Ideal.cos (InSpec.ang t l) := by
  simp only [V, hostOps0, List.flatten_cons, List.flatten_nil, List.append_nil, List.cons_append, List.nil_append]
  after_reads_simp
  pointwise
  rfl

theorem sin_entry (t : Fin 2048) (l : Fin 128) : (V m c main_v41 : Vec Ideal S2048x128 .f32) (ix2 t l) = Ideal.sin (InSpec.ang t l) := by
  simp only [V, hostOps0, List.flatten_cons, List.flatten_nil, List.append_nil, List.cons_append, List.nil_append]
  after_reads_simp
  pointwise
  rfl

end Cert.Kernel4Ideal.Host

end
-- ==== Proof.InVal.lean ====
module

public import proofs.«01_k».proof.Proof.InBody
public import proofs.«01_k».proof.Proof.InHost
public import Idealize.ShloMosaic.Lib.Pipeline.ValueKit
public import Idealize.ShloMosaic.Lib.Pipeline.ArrRel

/-! The six arrays that the projection's program leaves, of the arguments' entries. -/

@[expose] public section

set_option maxRecDepth 16384

noncomputable section

namespace Cert.Kernel4Ideal.Hand

open Cert.Kernel4Ideal Cert.Kernel4Ideal.Gen Idealize.ShloMosaic Idealize.ShloMosaic.TcCoe Idealize.SL.Sem Cert.Kernel4Ideal.Host

section pieces

variable {I : InSpec.Inp}

/-- A row of the projection is the specification's row. -/
theorem P_of {x1 : Vec Ideal S512x1024 .f32} {x2 : Vec Ideal S1x1024 .f32} {x3 : Vec Ideal S1024x6144 .bf16} {R : Fin 32768} {r : Fin 512}
    (h1 : ∀ k, x1 (ix2 r k) = I.x ⟨R / 2048, by omega⟩ ⟨R % 2048, by omega⟩ k) (h2 : ∀ k, x2 (ix2 0 k) = I.g k)
    (h3 : ∀ k j, x3 (ix2 k j) = I.w k j) (n : ℕ) : P x1 x2 x3 r n = I.pr R n := by
  rw [P, InSpec.Inp.pr, funext h1, funext h2]
  simp only [h3]

/-- A rotated row is the specification's. -/
theorem Grot_of {x1 : Vec Ideal S512x1024 .f32} {x2 : Vec Ideal S1x1024 .f32} {x3 : Vec Ideal S1024x6144 .bf16}
    {x4 x5 : Vec Ideal S512x128 .f32} {R : Fin 32768} {r : Fin 512} (hP : ∀ n, P x1 x2 x3 r n = I.pr R n)
    (h4 : ∀ l, x4 (ix2 r l) = Ideal.cos (InSpec.ang (R % 2048) l)) (h5 : ∀ l, x5 (ix2 r l) = Ideal.sin (InSpec.ang (R % 2048) l))
    (base : ℕ) (j : Fin 1024) : Grot x1 x2 x3 x4 x5 base (ix2 r j) = I.rotated base R j.val := by
  show InSpec.rot (fun j => P x1 x2 x3 r (base + j)) (fun l => x4 (ix2 r l)) (fun l => x5 (ix2 r l)) j.val = _
  rw [InSpec.Inp.rotated, funext h4, funext h5]
  simp only [hP]

theorem γw_coe (h : Fin 4) : Ideal.ofBits .f32 (γw h.val) = ((Real.exp (InSpec.lg h) : ℝ) : EReal) := by
  rw [← InSpec.decayW_coe]
  fin_cases h <;> rfl

/-- A new state is the specification's. -/
theorem Gst_of {x8 : Vec Ideal S128x2048 .f32} {x10 : Vec Ideal S2x4x256x512 .f32} {s18 : Vec Ideal S1024x128 .f32} {i : grid0.Coords}
    {s : Fin 2} {b : Fin 128} (hb : smp i s = b) (h8 : ∀ j : Fin 2048, x8 (ix2 b j) = I.v b ⟨j / 512, by omega⟩ ⟨j % 512, by omega⟩)
    (h10 : ∀ h d e, x10 (ix4 s h d e) = I.st b h d e)
    (h18 : ∀ j : Fin 1024, s18 (ix2 j b) = I.kd b ⟨j / 256, by omega⟩ ⟨j % 256, by omega⟩) (h : Fin 4) (d : Fin 256) (e : Fin 512) :
    Gst x8 x10 s18 i (ix4 s h d e) = I.next b h d e := by
  subst hb
  show Ideal.ofBits .f32 (γw h.val) * (x10 (ix4 s h d e) + s18 (ix2 (⟨256 * h.val + d.val, by omega⟩ : Fin 1024) (smp i s))
    * x8 (ix2 (smp i s) (⟨512 * h.val + e.val, by omega⟩ : Fin 2048))) = _
  have e1 : (⟨(256 * h.val + d.val) / 256, by omega⟩ : Fin 4) = h := Fin.ext (by simp only; omega)
  have e2 : (⟨(256 * h.val + d.val) % 256, by omega⟩ : Fin 256) = d := Fin.ext (by simp only; omega)
  have e3 : (⟨(512 * h.val + e.val) / 512, by omega⟩ : Fin 4) = h := Fin.ext (by simp only; omega)
  have e4 : (⟨(512 * h.val + e.val) % 512, by omega⟩ : Fin 512) = e := Fin.ext (by simp only; omega)
  rw [γw_coe, h10, h18, h8, e1, e2, e3, e4]
  rfl

/-- A sample row is the specification's. -/
theorem Trow_of {x8 x9 : Vec Ideal S128x2048 .f32} {x10 : Vec Ideal S2x4x256x512 .f32} {s17 s18 : Vec Ideal S1024x128 .f32}
    {i : grid0.Coords} {s : Fin 2} {b : Fin 128} (hb : smp i s = b)
    (h8 : ∀ j : Fin 2048, x8 (ix2 b j) = I.v b ⟨j / 512, by omega⟩ ⟨j % 512, by omega⟩)
    (h9 : ∀ j : Fin 2048, x9 (ix2 b j) = I.gt b j) (h10 : ∀ h d e, x10 (ix4 s h d e) = I.st b h d e)
    (h17 : ∀ j : Fin 1024, s17 (ix2 j b) = I.qd b ⟨j / 256, by omega⟩ ⟨j % 256, by omega⟩)
    (h18 : ∀ j : Fin 1024, s18 (ix2 j b) = I.kd b ⟨j / 256, by omega⟩ ⟨j % 256, by omega⟩) (h : Fin 4) (e : Fin 512) :
    Trow x8 x9 x10 s17 s18 i s h e = I.og b h e := by
  subst hb
  have e1 (d : Fin 256) : (⟨(256 * h.val + d.val) / 256, by omega⟩ : Fin 4) = h := Fin.ext (by simp only; omega)
  have e2 (d : Fin 256) : (⟨(256 * h.val + d.val) % 256, by omega⟩ : Fin 256) = d := Fin.ext (by simp only; omega)
  have e3 (e : Fin 512) : (⟨(512 * h.val + e.val) / 512, by omega⟩ : Fin 4) = h := Fin.ext (by simp only; omega)
  have e4 (e : Fin 512) : (⟨(512 * h.val + e.val) % 512, by omega⟩ : Fin 512) = e := Fin.ext (by simp only; omega)
  have e5 (e : Fin 512) : (⟨512 * h.val + e.val, by omega⟩ : Fin 2048) = Spec.col h e := Fin.ext (by simp only [Spec.col]; omega)
  rw [Trow, InSpec.Inp.og]
  simp only [h8, h9, h10, h17, h18, e1, e2, e3, e4]
  simp only [e5]

end pieces

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![0, 0] ∧ win0_6.index t = ![0, 0]
    ∧ win0_7.index t = ![0, 0] ∧ win0_8.index t = ![0, 0] ∧ win0_9.index t = ![t.val, 0, 0, 0] ∧ win0_10.index t = ![t.val, 0]
    ∧ win0_11.index t = ![t.val, 0] ∧ win0_12.index t = ![t.val, 0] ∧ win0_13.index t = ![t.val, 0] ∧ win0_15.index t = ![t.val, 0, 0, 0] :=
  (by decide +kernel : ∀ t : Fin grid0.N, _)

theorem tlt (t : Fin cfg0.N) : t.val < 64 := t.isLt

/-- Row `r` of point `t` among all rows, its position in the table of angles, and sample `s` of point `t`. -/
def ptRow (t : Fin cfg0.N) (r : Fin 512) : Fin 32768 := ⟨t.val * 512 + r.val, by have := tlt t; omega⟩
def ptPos (t : Fin cfg0.N) (r : Fin 512) : Fin 2048 := ⟨t.val % 4 * 512 + r.val, by omega⟩
def ptSmp (t : Fin cfg0.N) (s : Fin 2) : Fin 128 := ⟨t.val * 2 + s.val, by have := tlt t; omega⟩

variable (t : Fin cfg0.N)

theorem blk0 (r : Fin 512) (j : Fin 1024) : iblk m c 0 t (ix2 r j) = (V m c main_v37 : Vec Ideal S32768x1024 .f32) (ix2 (ptRow t r) j) := by
  blk_ext [iblk, idx t, ptRow]
theorem blk1 (j : Fin 1024) : iblk m c 1 t (ix2 0 j) = (V m c main_v38 : Vec Ideal S1x1024 .f32) (ix2 0 j) := by
  blk_ext [iblk, idx t]
theorem blk2 (k : Fin 1024) (j : Fin 6144) : iblk m c 2 t (ix2 k j) = (V m c main_v39 : Vec Ideal S1024x6144 .bf16) (ix2 k j) := by
  blk_ext [iblk, idx t]
theorem blk3 (r : Fin 512) (l : Fin 128) : iblk m c 3 t (ix2 r l) = (V m c main_v40 : Vec Ideal S2048x128 .f32) (ix2 (ptPos t r) l) := by
  blk_ext [iblk, idx t, ptPos]
theorem blk4 (r : Fin 512) (l : Fin 128) : iblk m c 4 t (ix2 r l) = (V m c main_v41 : Vec Ideal S2048x128 .f32) (ix2 (ptPos t r) l) := by
  blk_ext [iblk, idx t, ptPos]
theorem blk5 (b : Fin 128) (j : Fin 1024) : iblk m c 5 t (ix2 b j) = (V m c main_v30 : Vec Ideal S128x1024 .f32) (ix2 b j) := by
  blk_ext [iblk, idx t]
theorem blk6 (b : Fin 128) (j : Fin 1024) : iblk m c 6 t (ix2 b j) = (V m c main_v34 : Vec Ideal S128x1024 .f32) (ix2 b j) := by
  blk_ext [iblk, idx t]
theorem blk7 (b : Fin 128) (j : Fin 2048) : iblk m c 7 t (ix2 b j) = (V m c main_v35 : Vec Ideal S128x2048 .f32) (ix2 b j) := by
  blk_ext [iblk, idx t]
theorem blk8 (b : Fin 128) (j : Fin 2048) : iblk m c 8 t (ix2 b j) = (V m c main_v36 : Vec Ideal S128x2048 .f32) (ix2 b j) := by
  blk_ext [iblk, idx t]
theorem blk9 (s : Fin 2) (h : Fin 4) (d : Fin 256) (e : Fin 512) :
    iblk m c 9 t (ix4 s h d e) = (V m c main_arg7 : Vec Ideal S128x4x256x512 .f32) (ix4 (ptSmp t s) h d e) := by
  blk_ext [iblk, idx t, ptSmp]
theorem emb10 (r : Fin 512) (j : Fin 1024) : ((cfg0.win 10).blk t).view.emb (ix2 r j) = (ix2 (ptRow t r) j : S32768x1024.Idx) := by
  blk_ext [idx t, ptRow]
theorem emb11 (r : Fin 512) (j : Fin 1024) : ((cfg0.win 11).blk t).view.emb (ix2 r j) = (ix2 (ptRow t r) j : S32768x1024.Idx) := by
  blk_ext [idx t, ptRow]
theorem emb12 (r : Fin 512) (j : Fin 2048) : ((cfg0.win 12).blk t).view.emb (ix2 r j) = (ix2 (ptRow t r) j : S32768x2048.Idx) := by
  blk_ext [idx t, ptRow]
theorem emb13 (r : Fin 512) (j : Fin 2048) : ((cfg0.win 13).blk t).view.emb (ix2 r j) = (ix2 (ptRow t r) j : S32768x2048.Idx) := by
  blk_ext [idx t, ptRow]
theorem emb15 (s : Fin 2) (h : Fin 4) (d : Fin 256) (e : Fin 512) :
    ((cfg0.win 15).blk t).view.emb (ix4 s h d e) = (ix4 (ptSmp t s) h d e : S128x4x256x512.Idx) := by
  blk_ext [idx t, ptSmp]

theorem smp_eq (s : Fin 2) : smp (grid0.coords t) s = ptSmp t s :=
  Fin.ext (by show 2 * (grid0.coords t 0).val + s.val = t.val * 2 + s.val; rw [coords_val]; omega)

theorem P_row (r : Fin 512) (n : ℕ) : P (iblk m c 0 t) (iblk m c 1 t) (iblk m c 2 t) r n = (inp m c).pr (ptRow t r) n :=
  P_of (fun k => (blk0 m c t r k).trans (x_entry m c _ k)) (fun k => (blk1 m c t k).trans (g_entry m c k))
    (fun k j => (blk2 m c t k j).trans (w_entry m c k j)) n

theorem pos_row (r : Fin 512) : (ptPos t r).val = (ptRow t r).val % 2048 := by
  have := tlt t
  simp only [ptPos, ptRow]
  omega

theorem Grot_row (base : ℕ) (r : Fin 512) (j : Fin 1024) :
    Grot (iblk m c 0 t) (iblk m c 1 t) (iblk m c 2 t) (iblk m c 3 t) (iblk m c 4 t) base (ix2 r j) = (inp m c).rotated base (ptRow t r) j.val :=
  Grot_of (P_row m c t r) (fun l => by rw [← pos_row]; exact (blk3 m c t r l).trans (cos_entry m c _ l))
    (fun l => by rw [← pos_row]; exact (blk4 m c t r l).trans (sin_entry m c _ l)) base j

theorem st_blk (s : Fin 2) (h : Fin 4) (d : Fin 256) (e : Fin 512) : iblk m c 9 t (ix4 s h d e) = (inp m c).st (ptSmp t s) h d e :=
  (blk9 m c t s h d e).trans (congrFun (V_main_arg7 m c) _)

theorem scrQ_at (b : Fin 128) (j : Fin 1024) : scrQ m c (ix2 j b) = (inp m c).qd b ⟨j / 256, by omega⟩ ⟨j % 256, by omega⟩ :=
  (pay2_at _ j b).trans ((blk5 m c t₀ b j).trans (q_entry m c b j))
theorem scrK_at (b : Fin 128) (j : Fin 1024) : scrK m c (ix2 j b) = (inp m c).kd b ⟨j / 256, by omega⟩ ⟨j % 256, by omega⟩ :=
  (pay3_at _ j b).trans ((blk6 m c t₀ b j).trans (k_entry m c b j))

theorem final10 : (dats m 0 c).arrAt 10 cfg0.N = (inp m c).rotA 0 := by
  refine (dats m 0 c).arrAt_eq_of_covers 10 _ (by decide +kernel) fun t _ y => ?_
  blk_simp
  idx_vars y
  refine Eq.trans ?_ (congrArg ((inp m c).rotA 0) (emb10 t y0 y1)).symm
  exact Grot_row m c t 0 y0 y1

theorem final11 : (dats m 0 c).arrAt 11 cfg0.N = (inp m c).rotA 1024 := by
  refine (dats m 0 c).arrAt_eq_of_covers 11 _ (by decide +kernel) fun t _ y => ?_
  blk_simp
  idx_vars y
  refine Eq.trans ?_ (congrArg ((inp m c).rotA 1024) (emb11 t y0 y1)).symm
  exact Grot_row m c t 1024 y0 y1

theorem final12 : (dats m 0 c).arrAt 12 cfg0.N = (inp m c).plA 2048 := by
  refine (dats m 0 c).arrAt_eq_of_covers 12 _ (by decide +kernel) fun t _ y => ?_
  blk_simp
  idx_vars y
  refine Eq.trans ?_ (congrArg ((inp m c).plA 2048) (emb12 t y0 y1)).symm
  exact P_row m c t y0 (2048 + y1.val)

theorem final13 : (dats m 0 c).arrAt 13 cfg0.N = (inp m c).plA 4096 := by
  refine (dats m 0 c).arrAt_eq_of_covers 13 _ (by decide +kernel) fun t _ y => ?_
  blk_simp
  idx_vars y
  refine Eq.trans ?_ (congrArg ((inp m c).plA 4096) (emb13 t y0 y1)).symm
  exact P_row m c t y0 (4096 + y1.val)

theorem final15 : (dats m 0 c).arrAt 15 cfg0.N = (inp m c).stA := by
  refine (dats m 0 c).arrAt_eq_of_covers 15 _ (by decide +kernel) fun t _ y => ?_
  blk_simp
  idx_vars y
  refine Eq.trans ?_ (congrArg (inp m c).stA (emb15 t y0 y1 y2 y3)).symm
  exact Gst_of (smp_eq t y0) (fun j => (blk7 m c t _ j).trans (v_entry m c _ j)) (st_blk m c t y0) (scrK_at m c _) y1 y2 y3

/-- The sample rows of the point that writes row `b`. -/
theorem Tsmp_at (b : Fin 128) (j : Fin 2048) (ht : b.val / 2 = t.val) : Tsmp m c t (ix2 b j) = (inp m c).ogA (ix2 b j) := by
  have hb : ptSmp t ⟨b.val % 2, by omega⟩ = b := Fin.ext (by simp only [ptSmp]; omega)
  exact Trow_of ((smp_eq t ⟨b.val % 2, by omega⟩).trans hb) (fun j => (blk7 m c t _ j).trans (v_entry m c _ j))
    (fun j => (blk8 m c t _ j).trans (gt_entry m c _ j)) (fun h d e => (st_blk m c t _ h d e).trans (by rw [hb])) (scrQ_at m c _) (scrK_at m c _)
    ⟨j / 512, by omega⟩ ⟨j % 512, by omega⟩

/-- The grid's last point. -/
def tLast : Fin cfg0.N := ⟨63, by decide⟩

theorem final14 {G : S128x2048.Idx → EReal} (hG : ((dats m 0 c).toRRel fgt (Rl m c)).ArrAt 14 cfg0.N G) : G = (inp m c).ogA := by
  obtain ⟨X, hl, hX⟩ := Pipeline.RDat.ArrAt.emb_eq_of_wholeAt hG (t₀ := tLast) (by decide +kernel)
  have hR : Rl m c 14 tLast X := (dats m 0 c).toRRel_leaves rfl hl
  funext z
  obtain ⟨b, j, rfl⟩ := ix2_of z
  have ht : b.val / 2 < cfg0.N := by show b.val / 2 < 64; omega
  refine (hX (ix2 b j)).trans ((hR ⟨b.val / 2, ht⟩ (by show b.val / 2 ≤ 63; omega) (ix2 b j) rfl).trans (Tsmp_at m c ⟨b.val / 2, ht⟩ b j rfl))

variable (ρ : Dev nD → PrngReg)

/-- What the whole program leaves. -/
theorem run_value : θ_run defs (onTc (τ := τ) (main (F := Ideal))) ⟨m, fun _ => 0, ρ⟩ (fun r => ∀ c : Dev nD,
    r.2.mem ((c.tc : Thread nD τ).loc main_v42_0) = (inp m c).rotA 0
      ∧ r.2.mem ((c.tc : Thread nD τ).loc main_v42_1) = (inp m c).rotA 1024
      ∧ r.2.mem ((c.tc : Thread nD τ).loc main_v42_2) = (inp m c).plA 2048
      ∧ r.2.mem ((c.tc : Thread nD τ).loc main_v42_3) = (inp m c).plA 4096
      ∧ r.2.mem ((c.tc : Thread nD τ).loc main_v42_4) = (inp m c).ogA
      ∧ r.2.mem ((c.tc : Thread nD τ).loc main_v42_5) = (inp m c).stA
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_main m ρ)
  have e (w : Fin cfg0.W) (hf : fgt w = false) : r.2.mem ((cfg0.spec w).arr.view.loc (c.tc : Thread nD τ)) = (dats m 0 c).arrAt w cfg0.N :=
    ((dats m 0 c).toR_arrAt_iff w _ _).mp (((dats m 0 c).toR.override_arrAt (by simp only [hf]) _ _).mp ((h.1 c).1 w))
  exact ⟨(e 10 rfl).trans (final10 m c), (e 11 rfl).trans (final11 m c), (e 12 rfl).trans (final12 m c), (e 13 rfl).trans (final13 m c),
    final14 m c ((h.1 c).1 14), (e 15 rfl).trans (final15 m c), kept m h.1 c⟩

end Cert.Kernel4Ideal.Hand

end
-- ==== Proof.InRef.lean ====
module

public import proofs.«01_k».proof.Proof.Gen.Reference4Ideal.Run
public import proofs.«01_k».proof.Proof.InMath
public import Idealize.ShloMosaic.Lib.Pointwise

/-! What the reference of the projection with the sample retention step leaves, entry by entry. -/

@[expose] public section

set_option maxRecDepth 16384

noncomputable section

namespace Cert.Reference4Ideal.Ent

open Cert.Reference4Ideal Cert.Reference4Ideal.Gen Cert.Reference4Ideal.Value Idealize.ShloMosaic Idealize.ShloMosaic.TcCoe Idealize.SL.Sem

variable (V0 : Valuation τ sig (Elt Ideal))

/-- The arguments' entries. -/
def inp : InSpec.Inp where
  x b t j := V0 (Proc.devRef .tc main_arg0) (ix3 b t j)
  g j := V0 (Proc.devRef .tc main_arg1) (ix1 j)
  w i j := V0 (Proc.devRef .tc main_arg2) (ix2 i j)
  q b h d := V0 (Proc.devRef .tc main_arg3) (ix4 b 0 h d)
  k b h d := V0 (Proc.devRef .tc main_arg4) (ix4 b 0 h d)
  v b h e := V0 (Proc.devRef .tc main_arg5) (ix4 b 0 h e)
  gt b j := V0 (Proc.devRef .tc main_arg6) (ix3 b 0 j)
  st b h d e := V0 (Proc.devRef .tc main_arg7) (ix4 b h d e)

theorem v13_at (b : Fin 16) (t : Fin 2048) (j : Fin 6144) : (res_main_v13 V0 : FVec Ideal S16x2048x6144 .f32) (ix3 b t j)
    = InSpec.proj ((inp V0).x b t) (inp V0).g (fun k => (inp V0).w k j) := by
  pointwise [res_main_v13]
  rfl

theorem v13_pr (r : Fin 32768) (a : Fin 6144) (n : ℕ) (hn : n = a.val) :
    (res_main_v13 V0 : FVec Ideal S16x2048x6144 .f32) (ix3 ⟨r / 2048, by omega⟩ ⟨r % 2048, by omega⟩ a) = (inp V0).pr r n := by
  subst hn
  rw [InSpec.Inp.pr, dif_pos a.isLt]
  exact v13_at V0 _ _ _

/-- A rotated column out of the columns of the projected row, told by their numbers. -/
theorem rotated_of {I : InSpec.Inp} {r : Fin 32768} {j base : ℕ} {A : Fin 6144 → EReal} (hp : ∀ a n, n = a.val → A a = I.pr r n)
    (a1 a2 : j % 256 < 128 → Fin 6144) (a3 a4 : ¬ j % 256 < 128 → Fin 6144) (h1 : ∀ h, base + j = (a1 h).val)
    (h2 : ∀ h, base + (j + 128) = (a2 h).val) (h3 : ∀ h, base + (j - 128) = (a3 h).val) (h4 : ∀ h, base + j = (a4 h).val) :
    (if h : j % 256 < 128 then A (a1 h) * Ideal.cos (InSpec.ang (r % 2048) ⟨j % 256, h⟩) - A (a2 h) * Ideal.sin (InSpec.ang (r % 2048) ⟨j % 256, h⟩)
      else A (a3 h) * Ideal.sin (InSpec.ang (r % 2048) ⟨j % 256 - 128, by omega⟩)
        + A (a4 h) * Ideal.cos (InSpec.ang (r % 2048) ⟨j % 256 - 128, by omega⟩)) = I.rotated base r j := by
  rw [InSpec.Inp.rotated, InSpec.rot]
  by_cases h : j % 256 < 128
  · rw [dif_pos h, dif_pos h, hp _ _ (h1 h), hp _ _ (h2 h)]
  · rw [dif_neg h, dif_neg h, hp _ _ (h3 h), hp _ _ (h4 h)]

theorem v_at (r : Fin 32768) (j : Fin 2048) : (val4 V0 (Proc.devRef .tc main_v165) : FVec Ideal S32768x2048 .bf16) (ix2 r j)
    = (inp V0).pr r (2048 + j.val) := by
  rw [val4_main_v165]
  pointwise
  exact v13_pr V0 r _ _ rfl

theorem g_at (r : Fin 32768) (j : Fin 2048) : (val4 V0 (Proc.devRef .tc main_v167) : FVec Ideal S32768x2048 .bf16) (ix2 r j)
    = (inp V0).pr r (4096 + j.val) := by
  rw [val4_main_v167]
  pointwise
  exact v13_pr V0 r _ _ rfl

theorem q_at (r : Fin 32768) (j : Fin 1024) : (val4 V0 (Proc.devRef .tc main_v161) : FVec Ideal S32768x1024 .bf16) (ix2 r j)
    = (inp V0).rotated 0 r j.val := by
  rw [val4_main_v161]
  pointwise [res_main_v36, res_main_v37, res_main_v19, res_main_v33, res_main_v35, res_main_v31, res_main_v18]
  exact rotated_of (A := fun a => res_main_v13 V0 (ix3 ⟨r / 2048, by omega⟩ ⟨r % 2048, by omega⟩ a)) (fun a n => v13_pr V0 r a n)
    _ _ _ _ (fun _ => by simp only; omega) (fun _ => by simp only; omega) (fun _ => by simp only; omega) (fun _ => by simp only; omega)

theorem k_at (r : Fin 32768) (j : Fin 1024) : (val4 V0 (Proc.devRef .tc main_v163) : FVec Ideal S32768x1024 .bf16) (ix2 r j)
    = (inp V0).rotated 1024 r j.val := by
  rw [val4_main_v163]
  pointwise [res_main_v66, res_main_v67, res_main_v49, res_main_v63, res_main_v65, res_main_v61, res_main_v18]
  exact rotated_of (A := fun a => res_main_v13 V0 (ix3 ⟨r / 2048, by omega⟩ ⟨r % 2048, by omega⟩ a)) (fun a n => v13_pr V0 r a n)
    _ _ _ _ (fun _ => rfl) (fun _ => by simp only; omega) (fun _ => by simp only; omega) (fun _ => by simp only; omega)

theorem lg_at (h : Fin 4) : (res_main_v87 V0 : FVec Ideal S4 .f32) (ix1 h) = ((InSpec.lg h : ℝ) : EReal) := by
  pointwise [res_main_v87]
  exact InSpec.lg_coe h

theorem idx_zero : (FloatOps.sitofp .f32 0#32 : Ideal .f32) = (0 : EReal) := by
  have := Spec.sitofp_nat 0 (by norm_num)
  simpa using this

theorem exp_zero : Ideal.exp 0 = 1 := by
  show ((Real.exp 0 : ℝ) : EReal) = 1
  rw [Real.exp_zero, EReal.coe_one]

theorem st_at (b : Fin 128) (h : Fin 4) (d : Fin 256) (e : Fin 512) :
    (val4 V0 (Proc.devRef .tc main_v138) : FVec Ideal S128x4x256x512 .f32) (ix4 b h d e) = (inp V0).next b h d e := by
  rw [val4_main_v138]
  pointwise [res_main_v80, res_main_v88]
  rw [lg_at]
  simp only [idx_zero, Fin.sum_univ_one, sub_zero, zero_mul, exp_zero, mul_one]
  exact (InSpec.state_eq _ _ _ _ _).symm

theorem o_at (b : Fin 128) (h : Fin 4) (e : Fin 512) : (res_main_v120 V0 : FVec Ideal S128x1x4x512 .f32) (ix4 b 0 h e)
    = InSpec.raw ((inp V0).qd b h) ((inp V0).kd b h) ((inp V0).v b h) ((inp V0).st b h) e := by
  pointwise [res_main_v120, res_main_v80, res_main_v91, res_main_v88]
  rw [lg_at]
  simp only [idx_zero, Fin.sum_univ_one, sub_zero, le_refl, if_true, max_self, zero_mul, exp_zero, mul_one, zero_add, one_mul]
  exact (InSpec.raw_eq (InSpec.lg h) (Ideal.ofBits .f32 1031798784#32) ((inp V0).q b h) ((inp V0).k b h) ((inp V0).v b h) ((inp V0).st b h) e).symm

/-- The normalised output times the gate. -/
theorem og_of {I : InSpec.Inp} {b : Fin 128} {j : Fin 2048} (hg : I.gt b j = ((I.gt b j).toReal : EReal)) {O : Fin 512 → EReal}
    (ho : ∀ e, O e = InSpec.raw (I.qd b ⟨j / 512, by omega⟩) (I.kd b ⟨j / 512, by omega⟩) (I.v b ⟨j / 512, by omega⟩)
      (I.st b ⟨j / 512, by omega⟩) e) :
    I.gt b j * Ideal.div 1 (1 + Ideal.exp (-I.gt b j)) * Spec.norm O ⟨j % 512, by omega⟩
      = I.og b ⟨j / 512, by omega⟩ ⟨j % 512, by omega⟩ := by
  have hj : Spec.col ⟨j / 512, by omega⟩ ⟨j % 512, by omega⟩ = j := Fin.ext (by simp only [Spec.col]; omega)
  have hs : InSpec.gateT (I.gt b j) = I.gt b j * Ideal.div 1 (1 + Ideal.exp (-I.gt b j)) := by
    rw [hg]; exact InSpec.gateT_coe _
  rw [InSpec.Inp.og, InSpec.rowF, hj, hs, mul_comm (Spec.norm _ _), funext ho]

theorem og_at (b : Fin 128) (j : Fin 2048) (hg : (inp V0).gt b j = (((inp V0).gt b j).toReal : EReal)) :
    (val4 V0 (Proc.devRef .tc main_v168) : FVec Ideal S128x2048 .f32) (ix2 b j) = (inp V0).og b ⟨j / 512, by omega⟩ ⟨j % 512, by omega⟩ := by
  rw [val4_main_v168]
  pointwise [res_main_v142, res_main_v144]
  have ho := o_at V0 b ⟨j / 512, by omega⟩
  exact og_of (I := inp V0) hg (O := fun e => res_main_v120 V0 (ix4 b 0 ⟨j / 512, by omega⟩ e)) fun e => ho e

end Cert.Reference4Ideal.Ent

end
-- ==== Proof.InAlg.lean ====
module

public import proofs.«01_k».proof.Defs
public import proofs.«01_k».proof.Proof.Real
public import proofs.«01_k».proof.Proof.InVal
public import proofs.«01_k».proof.Proof.InRef

/-! The projection with the sample retention step: both programs leave the same six arrays. -/

@[expose] public section

noncomputable section

namespace Cert.InAlg

open Idealize.ShloMosaic Idealize.SL.Sem Idealize.ShloMosaic.StableHlo

instance facts : Cert.Pre_finite_gate.Facts where
  bcast_S_S128x1x2048 := by decide

/-- The sample's gates are real numbers. -/
theorem gate_finite (m : (ℓ : Loc Cert.Kernel4Ideal.nD Cert.Kernel4Ideal.τ Cert.Kernel4Ideal.sig) → Buf (Elt Ideal) ℓ)
    (h : Cert.Pre_Kernel4Ideal_finite_gate m) (c : Dev Cert.Kernel4Ideal.nD) (b : Fin 128) (j : Fin 2048) :
    (Cert.Kernel4Ideal.Host.inp m c).gt b j = (((Cert.Kernel4Ideal.Host.inp m c).gt b j).toReal : EReal) :=
  Cert.Real.coe_of_lt (congrFun (h c) (ix3 b 0 j))

section reference

open Cert.Reference4Ideal Cert.Reference4Ideal.Value Cert.Reference4Ideal.Ent

variable (V0 : Valuation τ sig (Elt Ideal))

theorem q_arr : (val4 V0 (Proc.devRef .tc main_v161) : FVec Ideal S32768x1024 .bf16) = (inp V0).rotA 0 := by
  funext z
  obtain ⟨r, j, rfl⟩ := Cert.Kernel4Ideal.Hand.ix2_of z
  exact q_at V0 r j

theorem k_arr : (val4 V0 (Proc.devRef .tc main_v163) : FVec Ideal S32768x1024 .bf16) = (inp V0).rotA 1024 := by
  funext z
  obtain ⟨r, j, rfl⟩ := Cert.Kernel4Ideal.Hand.ix2_of z
  exact k_at V0 r j

theorem v_arr : (val4 V0 (Proc.devRef .tc main_v165) : FVec Ideal S32768x2048 .bf16) = (inp V0).plA 2048 := by
  funext z
  obtain ⟨r, j, rfl⟩ := Cert.Kernel4Ideal.Hand.ix2_of z
  exact v_at V0 r j

theorem g_arr : (val4 V0 (Proc.devRef .tc main_v167) : FVec Ideal S32768x2048 .bf16) = (inp V0).plA 4096 := by
  funext z
  obtain ⟨r, j, rfl⟩ := Cert.Kernel4Ideal.Hand.ix2_of z
  exact g_at V0 r j

theorem og_arr (hg : ∀ b j, (inp V0).gt b j = (((inp V0).gt b j).toReal : EReal)) :
    (val4 V0 (Proc.devRef .tc main_v168) : FVec Ideal S128x2048 .f32) = (inp V0).ogA := by
  funext z
  obtain ⟨r, j, rfl⟩ := Cert.Kernel4Ideal.Hand.ix2_of z
  exact og_at V0 r j (hg r j)

theorem st_arr : (val4 V0 (Proc.devRef .tc main_v138) : FVec Ideal S128x4x256x512 .f32) = (inp V0).stA := by
  funext z
  obtain ⟨b, h, d, e, rfl⟩ : ∃ b h d e, z = ix4 b h d e := ⟨z 0, z 1, z 2, z 3, by funext a; fin_cases a <;> rfl⟩
  exact st_at V0 b h d e

end reference

/-- Memories that agree on the arguments give the specification the same inputs. -/
theorem inp_eq (m : (ℓ : Loc Cert.Kernel4Ideal.nD Cert.Kernel4Ideal.τ Cert.Kernel4Ideal.sig) → Buf (Elt Ideal) ℓ)
    (V0 : Valuation Cert.Reference4Ideal.τ Cert.Reference4Ideal.sig (Elt Ideal)) (c : Dev Cert.Kernel4Ideal.nD)
    (h0 : V0 (Proc.devRef .tc Cert.Reference4Ideal.main_arg0) = m ((c.tc : Thread Cert.Kernel4Ideal.nD Cert.Kernel4Ideal.τ).loc Cert.Kernel4Ideal.main_arg0))
    (h1 : V0 (Proc.devRef .tc Cert.Reference4Ideal.main_arg1) = m ((c.tc : Thread Cert.Kernel4Ideal.nD Cert.Kernel4Ideal.τ).loc Cert.Kernel4Ideal.main_arg1))
    (h2 : V0 (Proc.devRef .tc Cert.Reference4Ideal.main_arg2) = m ((c.tc : Thread Cert.Kernel4Ideal.nD Cert.Kernel4Ideal.τ).loc Cert.Kernel4Ideal.main_arg2))
    (h3 : V0 (Proc.devRef .tc Cert.Reference4Ideal.main_arg3) = m ((c.tc : Thread Cert.Kernel4Ideal.nD Cert.Kernel4Ideal.τ).loc Cert.Kernel4Ideal.main_arg3))
    (h4 : V0 (Proc.devRef .tc Cert.Reference4Ideal.main_arg4) = m ((c.tc : Thread Cert.Kernel4Ideal.nD Cert.Kernel4Ideal.τ).loc Cert.Kernel4Ideal.main_arg4))
    (h5 : V0 (Proc.devRef .tc Cert.Reference4Ideal.main_arg5) = m ((c.tc : Thread Cert.Kernel4Ideal.nD Cert.Kernel4Ideal.τ).loc Cert.Kernel4Ideal.main_arg5))
    (h6 : V0 (Proc.devRef .tc Cert.Reference4Ideal.main_arg6) = m ((c.tc : Thread Cert.Kernel4Ideal.nD Cert.Kernel4Ideal.τ).loc Cert.Kernel4Ideal.main_arg6))
    (h7 : V0 (Proc.devRef .tc Cert.Reference4Ideal.main_arg7) = m ((c.tc : Thread Cert.Kernel4Ideal.nD Cert.Kernel4Ideal.τ).loc Cert.Kernel4Ideal.main_arg7)) :
    Cert.Reference4Ideal.Ent.inp V0 = Cert.Kernel4Ideal.Host.inp m c := by
  rw [Cert.Reference4Ideal.Ent.inp, Cert.Kernel4Ideal.Host.inp, Cert.InSpec.Inp.mk.injEq]
  exact ⟨funext fun b => funext fun t => funext fun j => congrFun h0 (ix3 b t j), funext fun j => congrFun h1 (ix1 j),
    funext fun i => funext fun j => congrFun h2 (ix2 i j), funext fun b => funext fun h => funext fun d => congrFun h3 (ix4 b 0 h d),
    funext fun b => funext fun h => funext fun d => congrFun h4 (ix4 b 0 h d),
    funext fun b => funext fun h => funext fun e => congrFun h5 (ix4 b 0 h e), funext fun b => funext fun j => congrFun h6 (ix3 b 0 j),
    funext fun b => funext fun h => funext fun d => funext fun e => congrFun h7 (ix4 b h d e)⟩

/-- From memories that agree on the arguments, both programs leave the specification's six arrays. -/
theorem algebraic : Cert.algebraic_Kernel4Ideal_Reference4Ideal_pre_finite_gate (hKernel4Ideal := Cert.Kernel4Ideal.Gen.facts)
    (hReference4Ideal := Cert.Reference4Ideal.Gen.facts) (hPre_finite_gate := facts) := fun m g m' g' hpre hag => by
  have hi : ∀ c, Cert.Reference4Ideal.Ent.inp (launchContents m' c) = Cert.Kernel4Ideal.Host.inp m c := fun c =>
    inp_eq m _ c (hag c).1 (hag c).2.1 (hag c).2.2.1 (hag c).2.2.2.1 (hag c).2.2.2.2.1 (hag c).2.2.2.2.2.1 (hag c).2.2.2.2.2.2.1 (hag c).2.2.2.2.2.2.2
  refine ⟨fun c => (Cert.Kernel4Ideal.Host.inp m c).rotA 0, fun c => (Cert.Kernel4Ideal.Host.inp m c).rotA 1024,
    fun c => (Cert.Kernel4Ideal.Host.inp m c).plA 2048, fun c => (Cert.Kernel4Ideal.Host.inp m c).plA 4096,
    fun c => (Cert.Kernel4Ideal.Host.inp m c).ogA, fun c => (Cert.Kernel4Ideal.Host.inp m c).stA, Cert.Kernel4Ideal.Hand.run_value m g,
    (θ_run _ _ _).mono (fun r h c => ?_) (Cert.Reference4Ideal.Value.run m' g')⟩
  obtain ⟨h0, h1, h2, h3, h4, h5, ha⟩ := h c
  exact ⟨h0.trans ((Cert.Reference4Ideal.Value.val4_main_v161 _).symm.trans ((q_arr _).trans (congrArg (fun I => I.rotA 0) (hi c)))),
    h1.trans ((Cert.Reference4Ideal.Value.val4_main_v163 _).symm.trans ((k_arr _).trans (congrArg (fun I => I.rotA 1024) (hi c)))),
    h2.trans ((Cert.Reference4Ideal.Value.val4_main_v165 _).symm.trans ((v_arr _).trans (congrArg (fun I => I.plA 2048) (hi c)))),
    h3.trans ((Cert.Reference4Ideal.Value.val4_main_v167 _).symm.trans ((g_arr _).trans (congrArg (fun I => I.plA 4096) (hi c)))),
    h4.trans ((Cert.Reference4Ideal.Value.val4_main_v168 _).symm.trans ((og_arr _ fun b j => by rw [hi c]; exact gate_finite m hpre c b j).trans (congrArg (fun I => I.ogA) (hi c)))),
    h5.trans ((Cert.Reference4Ideal.Value.val4_main_v138 _).symm.trans ((st_arr _).trans (congrArg (fun I => I.stA) (hi c)))), ha⟩

end Cert.InAlg

end
-- ==== Proof.AtFrame.lean ====
module

public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5 Cert.Kernel5.Gen

variable {F : FTy → Type} [FloatOps F]

local notation "𝕄" => MT nD τ sig Unit (Elt F) ℕ (UR sig nD τ) ℕ

/-- The grid's first point, in the words of the body's own test. -/
abbrev firstStep (i : grid0.Coords) : Prop := (Scalar.cmpi .ne (Scalar.extui (Scalar.cmpi .eq (BitVec.ofNat 32 (i 0).val) 0#32)) 0#32) = 1#1

set_option maxHeartbeats 4000000 in
/-- The body at any point: its inputs stay as they are, its outputs and the scratch buffer hold something. -/
theorem run (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S128x16x128 .f32) (harg4 : arg4.IsWhole) (arg5 : Memref sig .tc .vmem S128x512 .f32) (harg5 : arg5.IsWhole) (arg6 : Memref sig .tc .vmem S4x256x128 .f32) (harg6 : arg6.IsWhole) (arg7 : Memref sig .tc .vmem S4x256x128 .f32) (harg7 : arg7.IsWhole) (arg8 : Memref sig .tc .vmem S128x16x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S1024x2048 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S128x16x128 .f32) (harg15 : arg15.IsWhole) (arg16 : Memref sig .tc .vmem S4x256x128 .f32) (harg16 : arg16.IsWhole) (arg17 : Memref sig .tc .vmem S4x256x128 .f32) (harg17 : arg17.IsWhole) (arg18 : Memref sig .tc .vmem S512x128 .f32) (harg18 : arg18.IsWhole)
    (x1 : Vec F S1024x1024 .f32) (x2 : Vec F S1x1024 .f32) (x3 : Vec F S1024x4608 .bf16) (x4 : Vec F S128x16x128 .f32) (x5 : Vec F S128x512 .f32) (x6 : Vec F S4x256x128 .f32) (x7 : Vec F S4x256x128 .f32) (x8 : Vec F S128x16x128 .f32) (x9 : Vec F S32x128 .f32) (x10 : Vec F S32x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f)) -∗ K ⟨⟩))
      ⊢ wp frame (wpE (defs₀ (F := F)) Variants.none c none) E (cc0_attn_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_attn_inproj_eq_skeleton]; unfold cc0_attn_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  by_cases hc0 : firstStep i
  all_goals
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

variable (m : (ℓ : Loc nD τ sig) → Buf (Elt F) ℓ) (ρ : Dev nD → PrngReg)

/-- The windows of which the frame says nothing: the outputs. -/
def fgt (w : Fin cfg0.W) : Bool := Nat.ble 10 w.val

/-- The proof data: every input's buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.arbitrary _
    | ⟨11, _⟩ => fun _ => Classical.arbitrary _
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨16, _⟩ => fun _ => Classical.arbitrary _
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x4608 .bf16 := win0_2.stage (cfg0.slots t 2)
abbrev ms3 (t : Fin cfg0.N) : Memref sig .tc .vmem S128x16x128 .f32 := win0_3.stage (cfg0.slots t 3)
abbrev ms4 (t : Fin cfg0.N) : Memref sig .tc .vmem S128x512 .f32 := win0_4.stage (cfg0.slots t 4)
abbrev ms5 (t : Fin cfg0.N) : Memref sig .tc .vmem S4x256x128 .f32 := win0_5.stage (cfg0.slots t 5)
abbrev ms6 (t : Fin cfg0.N) : Memref sig .tc .vmem S4x256x128 .f32 := win0_6.stage (cfg0.slots t 6)
abbrev ms7 (t : Fin cfg0.N) : Memref sig .tc .vmem S128x16x128 .f32 := win0_7.stage (cfg0.slots t 7)
abbrev ms8 (t : Fin cfg0.N) : Memref sig .tc .vmem S32x128 .f32 := win0_8.stage (cfg0.slots t 8)
abbrev ms9 (t : Fin cfg0.N) : Memref sig .tc .vmem S32x128 .f32 := win0_9.stage (cfg0.slots t 9)
abbrev ms10 (t : Fin cfg0.N) : Memref sig .tc .vmem S1024x2048 .bf16 := win0_10.stage (cfg0.slots t 10)
abbrev ms11 (t : Fin cfg0.N) : Memref sig .tc .vmem S1024x512 .f32 := win0_11.stage (cfg0.slots t 11)
abbrev ms12 (t : Fin cfg0.N) : Memref sig .tc .vmem S1024x2048 .bf16 := win0_12.stage (cfg0.slots t 12)
abbrev ms13 (t : Fin cfg0.N) : Memref sig .tc .vmem S1024x2048 .bf16 := win0_13.stage (cfg0.slots t 13)
abbrev ms14 (t : Fin cfg0.N) : Memref sig .tc .vmem S128x16x128 .f32 := win0_14.stage (cfg0.slots t 14)
abbrev ms15 (t : Fin cfg0.N) : Memref sig .tc .vmem S4x256x128 .f32 := win0_15.stage (cfg0.slots t 15)
abbrev ms16 (t : Fin cfg0.N) : Memref sig .tc .vmem S4x256x128 .f32 := win0_16.stage (cfg0.slots t 16)

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d
theorem before9 (c : Dev nD) (t : Fin cfg0.N) (d) : (dats m 0 c).before 9 t d = iblk m c 9 t :=
  before0_9_of m (dats m 0 c) (A_eq m c 9) (fun _ => by dsimp only [dats]) t d

/-- The buffers the pipeline leaves to the body, spelled as the body takes them, and the generator register. -/
theorem phi_eq (c : Dev nD) : (Pipeline.ΦA spec0 c : sProp 𝕄)
    = iprop((∃ d : Vec F S512x128 .f32, owns (c : Thread nD τ) (Memref.whole cc0_scratch0) fullShare d) ∗ (∃ g, prngReg c g)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ X, owns (c : Thread nD τ) (ms10 t) fullShare X) ∗ (∃ X, owns (c : Thread nD τ) (ms11 t) fullShare X) ∗ (∃ X, owns (c : Thread nD τ) (ms12 t) fullShare X) ∗ (∃ X, owns (c : Thread nD τ) (ms13 t) fullShare X) ∗ (∃ X, owns (c : Thread nD τ) (ms14 t) fullShare X) ∗ (∃ X, owns (c : Thread nD τ) (ms15 t) fullShare X) ∗ (∃ X, owns (c : Thread nD τ) (ms16 t) fullShare X))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ (∃ X, owns (c : Thread nD τ) (ms10 t) fullShare X) ∗ (∃ X, owns (c : Thread nD τ) (ms11 t) fullShare X) ∗ (∃ X, owns (c : Thread nD τ) (ms12 t) fullShare X) ∗ (∃ X, owns (c : Thread nD τ) (ms13 t) fullShare X) ∗ (∃ X, owns (c : Thread nD τ) (ms14 t) fullShare X) ∗ (∃ X, owns (c : Thread nD τ) (ms15 t) fullShare X) ∗ (∃ X, owns (c : Thread nD τ) (ms16 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, phi_eq]
  dsimp only [dats]
  iintro ⟨⟨H18, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, H11, H12, H13, H14, H15, H16, H17⟩
  iapply (run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩⟩
  isplitl [H18 Hg]
  · isplitl [H18]
    · iexists _; unfold owns; iexists _; isplitr
      swap; · iexact H18
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; unfold owns; iexists _; isplitr
    swap; · iexact H11
    ipureintro; rfl
  isplitl [H12]
  · iexists _; unfold owns; iexists _; isplitr
    swap; · iexact H12
    ipureintro; rfl
  isplitl [H13]
  · iexists _; unfold owns; iexists _; isplitr
    swap; · iexact H13
    ipureintro; rfl
  isplitl [H14]
  · iexists _; unfold owns; iexists _; isplitr
    swap; · iexact H14
    ipureintro; rfl
  isplitl [H15]
  · iexists _; unfold owns; iexists _; isplitr
    swap; · iexact H15
    ipureintro; rfl
  isplitl [H16]
  · iexists _; unfold owns; iexists _; isplitr
    swap; · iexact H16
    ipureintro; rfl
  iexists _; unfold owns; iexists _; isplitr
  swap; · iexact H17
  ipureintro; rfl

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame: the argument arrays end as they were and every counter is zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (h.1.arr_in c 8 rfl).trans ((A_eq m c 8).trans (V_main_arg8 m c)),
      ((h.1 c).2 main_arg9 (Pipeline.mem_restRefs_of main_arg9 (by decide) (by decide))).trans (V_main_arg9 m c)⟩, h.2⟩) (run_main m ρ)

end Cert.Kernel5.Hand

end
-- ==== Proof.AtRun.lean ====
module

public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-- The grid's first point, in the words of the body's own test. -/
abbrev firstStep (i : grid0.Coords) : Prop := (Scalar.cmpi .ne (Scalar.extui (Scalar.cmpi .eq (BitVec.ofNat 32 (i 0).val) 0#32)) 0#32) = 1#1

set_option maxHeartbeats 4000000 in
/-- A later point of the grid: the pieces the body leaves in each output block but the sample's attention, the scratch buffer held at what the first point left in it. -/
def runLater (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S128x16x128 .f32) (harg4 : arg4.IsWhole) (arg5 : Memref sig .tc .vmem S128x512 .f32) (harg5 : arg5.IsWhole) (arg6 : Memref sig .tc .vmem S4x256x128 .f32) (harg6 : arg6.IsWhole) (arg7 : Memref sig .tc .vmem S4x256x128 .f32) (harg7 : arg7.IsWhole) (arg8 : Memref sig .tc .vmem S128x16x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S1024x2048 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S128x16x128 .f32) (harg15 : arg15.IsWhole) (arg16 : Memref sig .tc .vmem S4x256x128 .f32) (harg16 : arg16.IsWhole) (arg17 : Memref sig .tc .vmem S4x256x128 .f32) (harg17 : arg17.IsWhole) (arg18 : Memref sig .tc .vmem S512x128 .f32) (harg18 : arg18.IsWhole) (hc0 : ¬firstStep i)
    (x1 : Vec F S1024x1024 .f32) (x2 : Vec F S1x1024 .f32) (x3 : Vec F S1024x4608 .bf16) (x4 : Vec F S128x16x128 .f32) (x5 : Vec F S128x512 .f32) (x6 : Vec F S4x256x128 .f32) (x7 : Vec F S4x256x128 .f32) (x8 : Vec F S128x16x128 .f32) (x9 : Vec F S32x128 .f32) (x10 : Vec F S32x128 .f32) (s18 : Vec F S512x128 .f32) :
    Σ' (L11 : List (View.Piece (Elt F) S1024x2048 .bf16)), Σ' (L12 : List (View.Piece (Elt F) S1024x512 .f32)), Σ' (L13 : List (View.Piece (Elt F) S1024x2048 .bf16)), Σ' (L14 : List (View.Piece (Elt F) S1024x2048 .bf16)), Σ' (L16 : List (View.Piece (Elt F) S4x256x128 .f32)), { L17 : List (View.Piece (Elt F) S4x256x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare s18
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} f) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ owns (c : Thread nD τ) arg18 fullShare s18) -∗ K ⟨⟩))
          ⊢ wp frame (wpE (defs₀ (F := F)) Variants.none c none) E (cc0_attn_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_attn_inproj_eq_skeleton]; unfold cc0_attn_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg18.eq_unread hf18
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; isplitr; · ipureintro; exact harg18.read_unread _
    iexact H18

end Cert.Kernel5Ideal.Hand

end
-- ==== Proof.AtRunA.lean ====
module

public import proofs.«01_k».proof.Proof.AtRun

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

set_option maxHeartbeats 4000000 in
/-- The first point of the grid: the pieces the body leaves in each output block but the sample's attention, and in the scratch buffer. -/
def runFirst (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S128x16x128 .f32) (harg4 : arg4.IsWhole) (arg5 : Memref sig .tc .vmem S128x512 .f32) (harg5 : arg5.IsWhole) (arg6 : Memref sig .tc .vmem S4x256x128 .f32) (harg6 : arg6.IsWhole) (arg7 : Memref sig .tc .vmem S4x256x128 .f32) (harg7 : arg7.IsWhole) (arg8 : Memref sig .tc .vmem S128x16x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S1024x2048 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S128x16x128 .f32) (harg15 : arg15.IsWhole) (arg16 : Memref sig .tc .vmem S4x256x128 .f32) (harg16 : arg16.IsWhole) (arg17 : Memref sig .tc .vmem S4x256x128 .f32) (harg17 : arg17.IsWhole) (arg18 : Memref sig .tc .vmem S512x128 .f32) (harg18 : arg18.IsWhole) (hc0 : firstStep i)
    (x1 : Vec F S1024x1024 .f32) (x2 : Vec F S1x1024 .f32) (x3 : Vec F S1024x4608 .bf16) (x4 : Vec F S128x16x128 .f32) (x5 : Vec F S128x512 .f32) (x6 : Vec F S4x256x128 .f32) (x7 : Vec F S4x256x128 .f32) (x8 : Vec F S128x16x128 .f32) (x9 : Vec F S32x128 .f32) (x10 : Vec F S32x128 .f32) :
    Σ' (L11 : List (View.Piece (Elt F) S1024x2048 .bf16)), Σ' (L12 : List (View.Piece (Elt F) S1024x512 .f32)), Σ' (L13 : List (View.Piece (Elt F) S1024x2048 .bf16)), Σ' (L14 : List (View.Piece (Elt F) S1024x2048 .bf16)), Σ' (L16 : List (View.Piece (Elt F) S4x256x128 .f32)), Σ' (L17 : List (View.Piece (Elt F) S4x256x128 .f32)), { L18 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} f) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (cc0_attn_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_attn_inproj_eq_skeleton]; unfold cc0_attn_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.Kernel5Ideal.Hand

end
-- ==== Proof.AtPay.lean ====
module

public import proofs.«01_k».proof.Proof.Gen.Kernel5Ideal.Skeleton
public import proofs.«01_k».proof.Proof.InSpec
public import Idealize.ShloMosaic.Lib.Pipeline.ValueKit
public import Idealize.ShloMosaic.Lib.Pointwise

/-! The stored terms of one point of the attention's projection, entry by entry. -/

@[expose] public section

noncomputable section

namespace Cert.Kernel5Ideal.Hand

open Idealize.ShloMosaic Idealize.ShloMosaic.TcCoe
open Cert.Kernel5Ideal Cert.Kernel5Ideal.Gen

/-- One column of the sample's transposed keys and values, picked lane by lane. -/
def kcol (i : grid0.Coords) (n : BitVec 32) (s : Vec Ideal S512x128 .f32) : FVec Ideal S512x1 .f32 :=
  shapeCast S512x1 (multiReduction .add [1] S512
    (select (cmpi .eq (iota .tc S512x128 32 [1] iota_S512x128_d1_w32)
      (broadcast S512x128 (Scalar.addi (Scalar.muli (BitVec.ofNat 32 (i 0).val) 4#32) n))) s
      (broadcast S512x128 (Scalar.ofBits (F := Ideal) .f32 0x00000000#32)))
    0x00000000#32 reduces_S512x128_S512 (.inl rfl) rfl) shapeCasts_S512_S512x1

/-- One sample's window of keys or values, `k` its new column: every column one place to the left, the new one last. -/
def upd (k : FVec Ideal S256x1 .f32) (x : Vec Ideal S1x256x128 .f32) : FVec Ideal S1x256x128 .f32 :=
  shapeCast S1x256x128 (select k0_pay3
    (broadcastTo S256x128 (shapeCast S256x1 k shapeCasts_S256x1_S256x1) broadcasts_S256x1_S256x128)
    (dynamicRotate 1 127#32 none (shapeCast S256x128 x shapeCasts_S1x256x128_S256x128) rotates_S256x128_d1)) shapeCasts_S256x128_S1x256x128

/-- The new keys of one sample. -/
def updK (i : grid0.Coords) (n : BitVec 32) (s : Vec Ideal S512x128 .f32) (x : Vec Ideal S1x256x128 .f32) : FVec Ideal S1x256x128 .f32 :=
  upd (extractStridedSlice S256x1 ![0, 0] (kcol i n s) slices_S512x1_o0_0_S256x1) x

/-- The new values of one sample. -/
def updV (i : grid0.Coords) (n : BitVec 32) (s : Vec Ideal S512x128 .f32) (x : Vec Ideal S1x256x128 .f32) : FVec Ideal S1x256x128 .f32 :=
  upd (extractStridedSlice S256x1 ![256, 0] (kcol i n s) slices_S512x1_o256_0_S256x1) x

/-- The column picked is the one of the sample's row. -/
theorem kcol_at (i : grid0.Coords) (n : Fin 4) (b : Fin 128) (hb : b.val = 4 * (i 0).val + n.val) (s : Vec Ideal S512x128 .f32) (f : Fin 512) :
    kcol i (BitVec.ofNat 32 n.val) s (ix2 f (0 : Fin 1)) = s (ix2 f b) := by
  have hi : (i 0).val < 32 := (i 0).isLt
  have hsel : ∀ l : Fin 128, (BitVec.ofNat 32 l.val == (BitVec.ofNat 32 (i 0).val * 4#32 + BitVec.ofNat 32 n.val)) = decide (l.val = 4 * (i 0).val + n.val) := by
    intro l
    rw [← BitVec.ofNat_mul, ← BitVec.ofNat_add, Bool.eq_iff_iff]
    simp only [beq_iff_eq, decide_eq_true_eq]
    constructor
    · intro h
      have := congrArg BitVec.toNat h
      simp only [BitVec.toNat_ofNat] at this
      omega
    · intro h
      rw [h, Nat.mul_comm]
  have hc : ∀ l : Fin 128, cmpi .eq (iota .tc S512x128 32 [1] iota_S512x128_d1_w32)
      (broadcast S512x128 (Scalar.addi (Scalar.muli (BitVec.ofNat 32 (i 0).val) 4#32) (BitVec.ofNat 32 n.val))) (ix2 f l)
        = BitVec.ofBool (decide (l.val = 4 * (i 0).val + n.val)) := by
    intro l
    pointwise
    exact congrArg BitVec.ofBool (hsel l)
  have h : kcol i (BitVec.ofNat 32 n.val) s (ix2 f (0 : Fin 1)) = ∑ l : Fin 128, (if cmpi .eq (iota .tc S512x128 32 [1] iota_S512x128_d1_w32)
      (broadcast S512x128 (Scalar.addi (Scalar.muli (BitVec.ofNat 32 (i 0).val) 4#32) (BitVec.ofNat 32 n.val))) (ix2 f l) = 1#1 then s (ix2 f l) else Ideal.ofBits .f32 0#32) := by
    pointwise [kcol]
    rfl
  rw [h, Finset.sum_eq_single b]
  · rw [hc, decide_eq_true hb]; rfl
  · intro l _ hl
    rw [hc, decide_eq_false (fun h => hl (Fin.ext (by omega)))]
    exact Ideal.ofBits_zero_f32
  · intro h; exact absurd (Finset.mem_univ _) h

theorem last_at (f : Fin 256) (w : Fin 128) : k0_pay3 (ix2 f w) = BitVec.ofBool (decide (w.val = 127)) := by
  pointwise [k0_pay3]
  refine congrArg BitVec.ofBool ?_
  rw [Bool.eq_iff_iff]
  simp only [beq_iff_eq, decide_eq_true_eq]
  constructor
  · intro h
    have := congrArg BitVec.toNat h
    simp only [BitVec.toNat_ofNat] at this
    omega
  · intro h
    rw [h]

theorem upd_at (k : FVec Ideal S256x1 .f32) (x : Vec Ideal S1x256x128 .f32) (f : Fin 256) (w : Fin 128) :
    upd k x (ix3 (0 : Fin 1) f w) = if w.val = 127 then k (ix2 f (0 : Fin 1)) else x (ix3 (0 : Fin 1) f (⟨(w.val + 1) % 128, by omega⟩ : Fin 128)) := by
  pointwise [upd]
  rw [last_at]
  by_cases h : w.val = 127
  · rw [decide_eq_true h, if_pos h]; rfl
  · rw [decide_eq_false h, if_neg h]
    show x _ = x _
    refine congrArg x ?_
    exact congrArg (ix3 (0 : Fin 1) f) (Fin.ext (by show (w.val + 128 - 127) % 128 = (w.val + 1) % 128; omega))

theorem updK_at (i : grid0.Coords) (n : Fin 4) (b : Fin 128) (hb : b.val = 4 * (i 0).val + n.val) (s : Vec Ideal S512x128 .f32) (x : Vec Ideal S1x256x128 .f32)
    (f : Fin 256) (w : Fin 128) : updK i (BitVec.ofNat 32 n.val) s x (ix3 (0 : Fin 1) f w)
      = if w.val = 127 then s (ix2 (⟨f.val, by omega⟩ : Fin 512) b) else x (ix3 (0 : Fin 1) f (⟨(w.val + 1) % 128, by omega⟩ : Fin 128)) := by
  rw [updK, upd_at, ← kcol_at i n b hb s]
  pointwise

theorem updV_at (i : grid0.Coords) (n : Fin 4) (b : Fin 128) (hb : b.val = 4 * (i 0).val + n.val) (s : Vec Ideal S512x128 .f32) (x : Vec Ideal S1x256x128 .f32)
    (f : Fin 256) (w : Fin 128) : updV i (BitVec.ofNat 32 n.val) s x (ix3 (0 : Fin 1) f w)
      = if w.val = 127 then s (ix2 (⟨256 + f.val, by omega⟩ : Fin 512) b) else x (ix3 (0 : Fin 1) f (⟨(w.val + 1) % 128, by omega⟩ : Fin 128)) := by
  rw [updV, upd_at, ← kcol_at i n b hb s]
  pointwise

theorem pay2_at (x : Vec Ideal S128x512 .f32) (j : Fin 512) (b : Fin 128) : k0_pay2 x (ix2 j b) = x (ix2 b j) := by
  pointwise [k0_pay2]

theorem pay5_at (x : Vec Ideal S1024x1024 .f32) (g : Vec Ideal S1x1024 .f32) (r : Fin 1024) (k : Fin 1024) : k0_pay5 x g (ix2 r k)
    = Spec.rms (fun k => x (ix2 r k)) k * g (ix2 (0 : Fin 1) k) := by
  pointwise [k0_pay5]
  rfl

variable (h : FVec Ideal S1024x1024 .bf16) (w : Vec Ideal S1024x512 .bf16) (r : Fin 1024) (j : Fin 512)

/-- A product of a normed row and a column of the weights' chunk. -/
def dot (h : FVec Ideal S1024x1024 .bf16) (w : Vec Ideal S1024x512 .bf16) (r : Fin 1024) (j : Fin 512) : EReal :=
  ∑ x, h (ix2 r x) * w (ix2 x j)

theorem pay12_at : k0_pay12 h w (ix2 r j) = dot h w r j := by
  pointwise [k0_pay12]
  rfl

theorem pay40_at : k0_pay40 h w (ix2 r j) = dot h w r j := by
  pointwise [k0_pay40]
  rfl

theorem pay81_at : k0_pay81 h w (ix2 r j) = InSpec.gateT (dot h w r j) := by
  pointwise [k0_pay81]
  rfl

/-- The lanes of the lower half. -/
theorem low_at (r : Fin 1024) (l : Fin 128) : k0_pay41 (ix2 r l) = BitVec.ofBool (decide (l.val < 64)) := by
  have h : k0_pay41 (ix2 r l) = BitVec.ofBool ((BitVec.ofNat 32 l.val).slt 64#32) := by
    pointwise [k0_pay41]
    rfl
  rw [h]
  refine congrArg BitVec.ofBool ?_
  have hl := l.isLt
  rw [Bool.eq_iff_iff, BitVec.slt_iff_toInt_lt, decide_eq_true_eq, BitVec.toInt_eq_toNat_of_lt (by simp only [BitVec.toNat_ofNat]; omega)]
  have h64 : (64#32 : BitVec 32).toInt = 64 := rfl
  rw [h64, BitVec.toNat_ofNat]
  omega

variable (v : FVec Ideal S1024x512 .f32) (O : ℕ) (hO : O + 128 ≤ 512) (hs : S1024x512.Slices ![0, O] S1024x128) (l : Fin 128)

/-- A block of 128 columns. -/
def blk (v : FVec Ideal S1024x512 .f32) (O : ℕ) (hs : S1024x512.Slices ![0, O] S1024x128) : FVec Ideal S1024x128 .f32 :=
  extractStridedSlice S1024x128 ![0, O] v hs

/-- The same block, its halves changed over. -/
def blkR (v : FVec Ideal S1024x512 .f32) (O : ℕ) (hs : S1024x512.Slices ![0, O] S1024x128) : FVec Ideal S1024x128 .f32 :=
  dynamicRotate 1 64#32 none (blk v O hs) rotates_S1024x128_d1

/-- The lower half kept, the upper cleared. -/
def keepLo (b : FVec Ideal S1024x128 .f32) : FVec Ideal S1024x128 .bf16 :=
  truncf .bf16 (select k0_pay41 b (broadcast S1024x128 (Scalar.ofBits (F := Ideal) .f32 0x00000000#32))) bitsLt_bf16_f32

/-- The upper half kept, the lower cleared. -/
def keepHi (b : FVec Ideal S1024x128 .f32) : FVec Ideal S1024x128 .bf16 :=
  truncf .bf16 (select k0_pay41 (broadcast S1024x128 (Scalar.ofBits (F := Ideal) .f32 0x00000000#32)) b) bitsLt_bf16_f32

theorem blk_at : blk v O hs (ix2 r l) = v (ix2 r (⟨O + l.val, by omega⟩ : Fin 512)) := by
  pointwise [blk]

theorem blkR_at : blkR v O hs (ix2 r l) = v (ix2 r (⟨O + (l.val + 64) % 128, by omega⟩ : Fin 512)) := by
  have h : blkR v O hs (ix2 r l) = blk v O hs (ix2 r (⟨(l.val + 128 - 64) % 128, by omega⟩ : Fin 128)) := by
    pointwise [blkR]
  rw [h, blk_at _ v O hO]
  exact congrArg (fun e => v (ix2 r e)) (Fin.ext (by show O + (l.val + 128 - 64) % 128 = O + (l.val + 64) % 128; omega))

theorem keepLo_at (b : FVec Ideal S1024x128 .f32) : keepLo b (ix2 r l) = if l.val < 64 then b (ix2 r l) else 0 := by
  pointwise [keepLo]
  rw [low_at]
  by_cases h : l.val < 64
  · rw [decide_eq_true h, if_pos h]; rfl
  · rw [decide_eq_false h, if_neg h]; rfl

theorem keepHi_at (b : FVec Ideal S1024x128 .f32) : keepHi b (ix2 r l) = if l.val < 64 then 0 else b (ix2 r l) := by
  pointwise [keepHi]
  rw [low_at]
  by_cases h : l.val < 64
  · rw [decide_eq_true h, if_pos h]; rfl
  · rw [decide_eq_false h, if_neg h]; rfl

end Cert.Kernel5Ideal.Hand

end
-- ==== Proof.AtPieces.lean ====
module

public import proofs.«01_k».proof.Proof.AtRunA
public import proofs.«01_k».proof.Proof.AtPay
public import Idealize.ShloMosaic.Lib.Pipeline.ReadBack
public import Idealize.ShloMosaic.Lib.Pipeline.ValueKit

/-! What the pieces one point of the attention's projection writes hold: the projected columns, the gate, the padded keys and values, and the new windows. -/

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable (x1 : Vec Ideal S1024x1024 .f32) (x2 : Vec Ideal S1x1024 .f32) (x3 : Vec Ideal S1024x4608 .bf16) (x6 : Vec Ideal S4x256x128 .f32) (x7 : Vec Ideal S4x256x128 .f32) (s18 : Vec Ideal S512x128 .f32)

/-- Column `j` of the projected block's row `r`. -/
def P (r : Fin 1024) (j : ℕ) : EReal :=
  if h : j < 4608 then InSpec.proj (fun k => x1 (ix2 r k)) (fun k => x2 (ix2 (0 : Fin 1) k)) (fun k => x3 (ix2 k ⟨j, h⟩)) else 0

/-- The queries. -/
def Gq : S1024x2048.Idx → EReal := fun y => P x1 x2 x3 (y 0) (0 + (y 1).val)

/-- The keys and values. -/
def Gkv : S1024x512.Idx → EReal := fun y => P x1 x2 x3 (y 0) (2048 + (y 1).val)

/-- The gate. -/
def Ggate : S1024x2048.Idx → EReal := fun y => InSpec.gateT (P x1 x2 x3 (y 0) (2560 + (y 1).val))

/-- The keys and values laid out for the next call: of each head its keys in the lower lanes, in the upper lanes, then its values likewise. -/
def Gpad : S1024x2048.Idx → EReal := fun y =>
  if (y 1).val % 128 / 64 = (y 1).val / 128 % 2 then
    P x1 x2 x3 (y 0) (2048 + (256 * ((y 1).val / 256 % 2) + 64 * ((y 1).val / 512) + (y 1).val % 64)) else 0

/-- The row of the sample arrays that sample `n` of point `i` reads. -/
def smp (i : grid0.Coords) (n : Fin 4) : Fin 128 := ⟨4 * (i 0).val + n.val, by have := (i 0).isLt; have : (i 0).val < 32 := this; omega⟩

/-- A point's new windows: every column one place to the left, the last from row `K` on of the sample's transposed keys and values. -/
def Gwin (K : ℕ) (hK : K + 256 ≤ 512) (x : Vec Ideal S4x256x128 .f32) (i : grid0.Coords) : S4x256x128.Idx → EReal := fun y =>
  if (y 2).val = 127 then s18 (ix2 (⟨K + (y 1).val, by have : (y 1).val < 256 := (y 1).isLt; omega⟩ : Fin 512) (smp i (y 0)))
  else x (ix3 (y 0) (y 1) (⟨((y 2).val + 1) % 128, by omega⟩ : Fin 128))

theorem dot_eq (r : Fin 1024) (C : ℕ) (inb : ∀ a, (![0, C] : Fin 2 → ℕ) a + S1024x512.size a ≤ S1024x4608.size a) (j : Fin 512) :
    dot (k0_pay5 x1 x2) (View.ld x3 (Rect.unit (s := S1024x4608) ![0, C] S1024x512.size inb)) r j = P x1 x2 x3 r (C + j.val) := by
  have hC : C + 512 ≤ 4608 := inb 1
  rw [P, dif_pos (by omega), dot, InSpec.proj]
  refine Finset.sum_congr rfl fun k _ => ?_
  rw [pay5_at]
  refine congrArg (_ * ·) (congrArg x3 ?_)
  funext a
  fin_cases a
  · exact Fin.ext (by show 0 + 1 * k.val = k.val; omega)
  · exact Fin.ext (by show C + 1 * j.val = C + j.val; omega)

theorem ix2_of {m n : ℕ} (z : (⟨2, ![m, n]⟩ : Shape).Idx) : ∃ (r : Fin m) (l : Fin n), z = ix2 r l :=
  ⟨z 0, z 1, by funext a; fin_cases a <;> rfl⟩

theorem ix3_of {n k : ℕ} (z : (⟨3, ![1, n, k]⟩ : Shape).Idx) : ∃ (f : Fin n) (w : Fin k), z = ix3 (0 : Fin 1) f w :=
  ⟨z 1, z 2, by funext a; fin_cases a; · exact Fin.ext (by have : (z 0).val < 1 := (z 0).isLt; show (z 0).val = 0; omega)
                · rfl
                · rfl⟩

theorem q_eq (O : ℕ) (inb : ∀ a, (![0, O] : Fin 2 → ℕ) a + S1024x512.size a ≤ S1024x4608.size a)
    (inb' : ∀ a, (![0, O] : Fin 2 → ℕ) a + S1024x512.size a ≤ S1024x2048.size a) (z : S1024x512.Idx) :
    k0_pay12 (k0_pay5 x1 x2) (View.ld x3 (Rect.unit (s := S1024x4608) ![0, O] S1024x512.size inb)) z
      = Gq x1 x2 x3 ((Rect.unit (s := S1024x2048) ![0, O] S1024x512.size inb').emb z) := by
  obtain ⟨r, l, rfl⟩ := ix2_of z
  have h0 : (Rect.unit (s := S1024x2048) ![0, O] S1024x512.size inb').emb (ix2 r l) 0 = r := Fin.ext (by show 0 + 1 * r.val = r.val; omega)
  have h1 : ((Rect.unit (s := S1024x2048) ![0, O] S1024x512.size inb').emb (ix2 r l) 1).val = O + l.val := by show O + 1 * l.val = _; omega
  rw [pay12_at, dot_eq, Gq, h0, h1, Nat.zero_add]

theorem gate_eq (C O : ℕ) (hC : C = 2560 + O) (inb : ∀ a, (![0, C] : Fin 2 → ℕ) a + S1024x512.size a ≤ S1024x4608.size a)
    (inb' : ∀ a, (![0, O] : Fin 2 → ℕ) a + S1024x512.size a ≤ S1024x2048.size a) (z : S1024x512.Idx) :
    k0_pay81 (k0_pay5 x1 x2) (View.ld x3 (Rect.unit (s := S1024x4608) ![0, C] S1024x512.size inb)) z
      = Ggate x1 x2 x3 ((Rect.unit (s := S1024x2048) ![0, O] S1024x512.size inb').emb z) := by
  obtain ⟨r, l, rfl⟩ := ix2_of z
  have h0 : (Rect.unit (s := S1024x2048) ![0, O] S1024x512.size inb').emb (ix2 r l) 0 = r := Fin.ext (by show 0 + 1 * r.val = r.val; omega)
  have h1 : ((Rect.unit (s := S1024x2048) ![0, O] S1024x512.size inb').emb (ix2 r l) 1).val = O + l.val := by show O + 1 * l.val = _; omega
  rw [pay81_at, dot_eq, Ggate, h0, h1, hC, Nat.add_assoc]

theorem kv_eq (inb : ∀ a, (![0, 2048] : Fin 2 → ℕ) a + S1024x512.size a ≤ S1024x4608.size a) :
    k0_pay40 (k0_pay5 x1 x2) (View.ld x3 (Rect.unit (s := S1024x4608) ![0, 2048] S1024x512.size inb)) = Gkv x1 x2 x3 := by
  funext z
  obtain ⟨r, l, rfl⟩ := ix2_of z
  exact (pay40_at _ _ r l).trans (dot_eq x1 x2 x3 r 2048 inb l)

variable (inb : ∀ a, (![0, 2048] : Fin 2 → ℕ) a + S1024x512.size a ≤ S1024x4608.size a)

/-- The projected keys and values of one block. -/
def kvb := k0_pay40 (k0_pay5 x1 x2) (View.ld x3 (Rect.unit (s := S1024x4608) ![0, 2048] S1024x512.size inb))

theorem pad_emb (O' : ℕ) (h1 : O' % 128 = 0) (inb' : ∀ a, (![0, O'] : Fin 2 → ℕ) a + S1024x128.size a ≤ S1024x2048.size a) (r : Fin 1024) (l : Fin 128) :
    Gpad x1 x2 x3 ((Rect.unit (s := S1024x2048) ![0, O'] S1024x128.size inb').emb (ix2 r l))
      = if l.val / 64 = O' / 128 % 2 then P x1 x2 x3 r (2048 + (256 * (O' / 256 % 2) + 64 * (O' / 512) + l.val % 64)) else 0 := by
  have h0 : (Rect.unit (s := S1024x2048) ![0, O'] S1024x128.size inb').emb (ix2 r l) 0 = r := Fin.ext (by show 0 + 1 * r.val = r.val; omega)
  have e : ((Rect.unit (s := S1024x2048) ![0, O'] S1024x128.size inb').emb (ix2 r l) 1).val = O' + l.val := by show O' + 1 * l.val = _; omega
  have hl := l.isLt
  rw [Gpad, h0, e, show (O' + l.val) % 128 = l.val by omega, show (O' + l.val) / 128 = O' / 128 by omega, show (O' + l.val) / 256 = O' / 256 by omega,
    show (O' + l.val) / 512 = O' / 512 by omega, show (O' + l.val) % 64 = l.val % 64 by omega]

theorem padA (O O' : ℕ) (hO : O + 128 ≤ 512) (h1 : O' % 128 = 0) (h2 : O' / 128 % 2 = 0) (h3 : 256 * (O' / 256 % 2) + 64 * (O' / 512) = O)
    (hs : S1024x512.Slices ![0, O] S1024x128) (inb' : ∀ a, (![0, O'] : Fin 2 → ℕ) a + S1024x128.size a ≤ S1024x2048.size a) (z : S1024x128.Idx) :
    keepLo (blk (kvb x1 x2 x3 inb) O hs) z = Gpad x1 x2 x3 ((Rect.unit (s := S1024x2048) ![0, O'] S1024x128.size inb').emb z) := by
  obtain ⟨r, l, rfl⟩ := ix2_of z
  have hl' := l.isLt
  rw [pad_emb x1 x2 x3 O' h1 inb', keepLo_at, h2, h3]
  by_cases hl : l.val < 64
  · rw [if_pos hl, if_pos (by omega), blk_at _ _ _ hO, kvb, pay40_at, dot_eq]
    exact congrArg (P x1 x2 x3 r) (by show 2048 + (O + l.val) = _; omega)
  · rw [if_neg hl, if_neg (by omega)]

theorem padB (O O' : ℕ) (hO : O + 128 ≤ 512) (h1 : O' % 128 = 0) (h2 : O' / 128 % 2 = 1) (h3 : 256 * (O' / 256 % 2) + 64 * (O' / 512) = O)
    (hs : S1024x512.Slices ![0, O] S1024x128) (inb' : ∀ a, (![0, O'] : Fin 2 → ℕ) a + S1024x128.size a ≤ S1024x2048.size a) (z : S1024x128.Idx) :
    keepHi (blkR (kvb x1 x2 x3 inb) O hs) z = Gpad x1 x2 x3 ((Rect.unit (s := S1024x2048) ![0, O'] S1024x128.size inb').emb z) := by
  obtain ⟨r, l, rfl⟩ := ix2_of z
  have hl' := l.isLt
  rw [pad_emb x1 x2 x3 O' h1 inb', keepHi_at, h2, h3]
  by_cases hl : l.val < 64
  · rw [if_pos hl, if_neg (by omega)]
  · rw [if_neg hl, if_pos (by omega), blkR_at _ _ _ hO, kvb, pay40_at, dot_eq]
    exact congrArg (P x1 x2 x3 r) (by show 2048 + (O + (l.val + 64) % 128) = _; omega)

theorem padC (O O' : ℕ) (hO : O + 128 ≤ 512) (h1 : O' % 128 = 0) (h2 : O' / 128 % 2 = 0) (h3 : 256 * (O' / 256 % 2) + 64 * (O' / 512) = O + 64)
    (hs : S1024x512.Slices ![0, O] S1024x128) (inb' : ∀ a, (![0, O'] : Fin 2 → ℕ) a + S1024x128.size a ≤ S1024x2048.size a) (z : S1024x128.Idx) :
    keepLo (blkR (kvb x1 x2 x3 inb) O hs) z = Gpad x1 x2 x3 ((Rect.unit (s := S1024x2048) ![0, O'] S1024x128.size inb').emb z) := by
  obtain ⟨r, l, rfl⟩ := ix2_of z
  have hl' := l.isLt
  rw [pad_emb x1 x2 x3 O' h1 inb', keepLo_at, h2, h3]
  by_cases hl : l.val < 64
  · rw [if_pos hl, if_pos (by omega), blkR_at _ _ _ hO, kvb, pay40_at, dot_eq]
    exact congrArg (P x1 x2 x3 r) (by show 2048 + (O + (l.val + 64) % 128) = _; omega)
  · rw [if_neg hl, if_neg (by omega)]

theorem padD (O O' : ℕ) (hO : O + 128 ≤ 512) (h1 : O' % 128 = 0) (h2 : O' / 128 % 2 = 1) (h3 : 256 * (O' / 256 % 2) + 64 * (O' / 512) = O + 64)
    (hs : S1024x512.Slices ![0, O] S1024x128) (inb' : ∀ a, (![0, O'] : Fin 2 → ℕ) a + S1024x128.size a ≤ S1024x2048.size a) (z : S1024x128.Idx) :
    keepHi (blk (kvb x1 x2 x3 inb) O hs) z = Gpad x1 x2 x3 ((Rect.unit (s := S1024x2048) ![0, O'] S1024x128.size inb').emb z) := by
  obtain ⟨r, l, rfl⟩ := ix2_of z
  have hl' := l.isLt
  rw [pad_emb x1 x2 x3 O' h1 inb', keepHi_at, h2, h3]
  by_cases hl : l.val < 64
  · rw [if_pos hl, if_neg (by omega)]
  · rw [if_neg hl, if_pos (by omega), blk_at _ _ _ hO, kvb, pay40_at, dot_eq]
    exact congrArg (P x1 x2 x3 r) (by show 2048 + (O + l.val) = _; omega)

theorem ld_win (x : Vec Ideal S4x256x128 .f32) (n : Fin 4) (inb : ∀ a, (![n.val, 0, 0] : Fin 3 → ℕ) a + S1x256x128.size a ≤ S4x256x128.size a)
    (f : Fin 256) (w : Fin 128) : View.ld x (Rect.unit (s := S4x256x128) ![n.val, 0, 0] S1x256x128.size inb) (ix3 (0 : Fin 1) f w) = x (ix3 n f w) := by
  refine congrArg x ?_
  funext a
  fin_cases a
  · exact Fin.ext (by show n.val + 1 * 0 = n.val; omega)
  · exact Fin.ext (by show 0 + 1 * f.val = f.val; omega)
  · exact Fin.ext (by show 0 + 1 * w.val = w.val; omega)

theorem win_emb (K : ℕ) (hK : K + 256 ≤ 512) (x : Vec Ideal S4x256x128 .f32) (i : grid0.Coords) (n : Fin 4)
    (inb : ∀ a, (![n.val, 0, 0] : Fin 3 → ℕ) a + S1x256x128.size a ≤ S4x256x128.size a) (f : Fin 256) (w : Fin 128) :
    Gwin s18 K hK x i ((Rect.unit (s := S4x256x128) ![n.val, 0, 0] S1x256x128.size inb).emb (ix3 (0 : Fin 1) f w))
      = if w.val = 127 then s18 (ix2 (⟨K + f.val, by omega⟩ : Fin 512) (smp i n)) else x (ix3 n f (⟨(w.val + 1) % 128, by omega⟩ : Fin 128)) := by
  have e : (Rect.unit (s := S4x256x128) ![n.val, 0, 0] S1x256x128.size inb).emb (ix3 (0 : Fin 1) f w) = ix3 n f w := by
    funext a
    fin_cases a
    · exact Fin.ext (by show n.val + 1 * 0 = n.val; omega)
    · exact Fin.ext (by show 0 + 1 * f.val = f.val; omega)
    · exact Fin.ext (by show 0 + 1 * w.val = w.val; omega)
  rw [e]
  rfl

theorem winK_eq (x : Vec Ideal S4x256x128 .f32) (i : grid0.Coords) (n : Fin 4)
    (inb : ∀ a, (![n.val, 0, 0] : Fin 3 → ℕ) a + S1x256x128.size a ≤ S4x256x128.size a) (z : S1x256x128.Idx) :
    updK i (BitVec.ofNat 32 n.val) s18 (View.ld x (Rect.unit (s := S4x256x128) ![n.val, 0, 0] S1x256x128.size inb)) z
      = Gwin s18 0 (by omega) x i ((Rect.unit (s := S4x256x128) ![n.val, 0, 0] S1x256x128.size inb).emb z) := by
  obtain ⟨f, w, rfl⟩ := ix3_of z
  rw [updK_at i n (smp i n) rfl, ld_win, win_emb]
  simp only [Nat.zero_add]

theorem winV_eq (x : Vec Ideal S4x256x128 .f32) (i : grid0.Coords) (n : Fin 4)
    (inb : ∀ a, (![n.val, 0, 0] : Fin 3 → ℕ) a + S1x256x128.size a ≤ S4x256x128.size a) (z : S1x256x128.Idx) :
    updV i (BitVec.ofNat 32 n.val) s18 (View.ld x (Rect.unit (s := S4x256x128) ![n.val, 0, 0] S1x256x128.size inb)) z
      = Gwin s18 256 (by omega) x i ((Rect.unit (s := S4x256x128) ![n.val, 0, 0] S1x256x128.size inb).emb z) := by
  obtain ⟨f, w, rfl⟩ := ix3_of z
  rw [updV_at i n (smp i n) rfl, ld_win, win_emb]

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S128x16x128 .f32) (harg4 : arg4.IsWhole) (arg5 : Memref sig .tc .vmem S128x512 .f32) (harg5 : arg5.IsWhole) (arg6 : Memref sig .tc .vmem S4x256x128 .f32) (harg6 : arg6.IsWhole) (arg7 : Memref sig .tc .vmem S4x256x128 .f32) (harg7 : arg7.IsWhole) (arg8 : Memref sig .tc .vmem S128x16x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S1024x2048 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S128x16x128 .f32) (harg15 : arg15.IsWhole) (arg16 : Memref sig .tc .vmem S4x256x128 .f32) (harg16 : arg16.IsWhole) (arg17 : Memref sig .tc .vmem S4x256x128 .f32) (harg17 : arg17.IsWhole) (arg18 : Memref sig .tc .vmem S512x128 .f32) (harg18 : arg18.IsWhole)
  (x4 : Vec Ideal S128x16x128 .f32) (x5 : Vec Ideal S128x512 .f32) (x8 : Vec Ideal S128x16x128 .f32) (x9 : Vec Ideal S32x128 .f32) (x10 : Vec Ideal S32x128 .f32)

set_option maxHeartbeats 4000000 in
theorem later11 (hc0 : ¬firstStep i) : View.PiecesOf (Gq x1 x2 x3) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).1 := by
  frame_out
  exact ⟨fun z => q_eq x1 x2 x3 1536 inb_S1024x4608_S1024x512_0_1536 inb_S1024x2048_S1024x512_0_1536 z,
    fun z => q_eq x1 x2 x3 1024 inb_S1024x4608_S1024x512_0_1024 inb_S1024x2048_S1024x512_0_1024 z,
    fun z => q_eq x1 x2 x3 512 inb_S1024x4608_S1024x512_0_512 inb_S1024x2048_S1024x512_0_512 z,
    fun z => q_eq x1 x2 x3 0 inb_S1024x4608_S1024x512_0_0 inb_S1024x2048_S1024x512_0_0 z,
    trivial⟩

set_option maxHeartbeats 4000000 in
theorem later13 (hc0 : ¬firstStep i) : View.PiecesOf (Ggate x1 x2 x3) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.2.1 := by
  frame_out
  exact ⟨fun z => gate_eq x1 x2 x3 4096 1536 rfl inb_S1024x4608_S1024x512_0_4096 inb_S1024x2048_S1024x512_0_1536 z,
    fun z => gate_eq x1 x2 x3 3584 1024 rfl inb_S1024x4608_S1024x512_0_3584 inb_S1024x2048_S1024x512_0_1024 z,
    fun z => gate_eq x1 x2 x3 3072 512 rfl inb_S1024x4608_S1024x512_0_3072 inb_S1024x2048_S1024x512_0_512 z,
    fun z => gate_eq x1 x2 x3 2560 0 rfl inb_S1024x4608_S1024x512_0_2560 inb_S1024x2048_S1024x512_0_0 z,
    trivial⟩

set_option maxHeartbeats 4000000 in
theorem later14 (hc0 : ¬firstStep i) : View.PiecesOf (Gpad x1 x2 x3) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.2.2.1 := by
  frame_out
  exact ⟨fun z => padD x1 x2 x3 inb_S1024x4608_S1024x512_0_2048 384 1920 (by omega) rfl rfl rfl slices_S1024x512_o0_384_S1024x128 inb_S1024x2048_S1024x128_0_1920 z,
    fun z => padC x1 x2 x3 inb_S1024x4608_S1024x512_0_2048 384 1792 (by omega) rfl rfl rfl slices_S1024x512_o0_384_S1024x128 inb_S1024x2048_S1024x128_0_1792 z,
    fun z => padB x1 x2 x3 inb_S1024x4608_S1024x512_0_2048 384 1408 (by omega) rfl rfl rfl slices_S1024x512_o0_384_S1024x128 inb_S1024x2048_S1024x128_0_1408 z,
    fun z => padA x1 x2 x3 inb_S1024x4608_S1024x512_0_2048 384 1280 (by omega) rfl rfl rfl slices_S1024x512_o0_384_S1024x128 inb_S1024x2048_S1024x128_0_1280 z,
    fun z => padD x1 x2 x3 inb_S1024x4608_S1024x512_0_2048 128 1664 (by omega) rfl rfl rfl slices_S1024x512_o0_128_S1024x128 inb_S1024x2048_S1024x128_0_1664 z,
    fun z => padC x1 x2 x3 inb_S1024x4608_S1024x512_0_2048 128 1536 (by omega) rfl rfl rfl slices_S1024x512_o0_128_S1024x128 inb_S1024x2048_S1024x128_0_1536 z,
    fun z => padB x1 x2 x3 inb_S1024x4608_S1024x512_0_2048 128 1152 (by omega) rfl rfl rfl slices_S1024x512_o0_128_S1024x128 inb_S1024x2048_S1024x128_0_1152 z,
    fun z => padA x1 x2 x3 inb_S1024x4608_S1024x512_0_2048 128 1024 (by omega) rfl rfl rfl slices_S1024x512_o0_128_S1024x128 inb_S1024x2048_S1024x128_0_1024 z,
    fun z => padD x1 x2 x3 inb_S1024x4608_S1024x512_0_2048 256 896 (by omega) rfl rfl rfl slices_S1024x512_o0_256_S1024x128 inb_S1024x2048_S1024x128_0_896 z,
    fun z => padC x1 x2 x3 inb_S1024x4608_S1024x512_0_2048 256 768 (by omega) rfl rfl rfl slices_S1024x512_o0_256_S1024x128 inb_S1024x2048_S1024x128_0_768 z,
    fun z => padB x1 x2 x3 inb_S1024x4608_S1024x512_0_2048 256 384 (by omega) rfl rfl rfl slices_S1024x512_o0_256_S1024x128 inb_S1024x2048_S1024x128_0_384 z,
    fun z => padA x1 x2 x3 inb_S1024x4608_S1024x512_0_2048 256 256 (by omega) rfl rfl rfl slices_S1024x512_o0_256_S1024x128 inb_S1024x2048_S1024x128_0_256 z,
    fun z => padD x1 x2 x3 inb_S1024x4608_S1024x512_0_2048 0 640 (by omega) rfl rfl rfl slices_S1024x512_o0_0_S1024x128 inb_S1024x2048_S1024x128_0_640 z,
    fun z => padC x1 x2 x3 inb_S1024x4608_S1024x512_0_2048 0 512 (by omega) rfl rfl rfl slices_S1024x512_o0_0_S1024x128 inb_S1024x2048_S1024x128_0_512 z,
    fun z => padB x1 x2 x3 inb_S1024x4608_S1024x512_0_2048 0 128 (by omega) rfl rfl rfl slices_S1024x512_o0_0_S1024x128 inb_S1024x2048_S1024x128_0_128 z,
    fun z => padA x1 x2 x3 inb_S1024x4608_S1024x512_0_2048 0 0 (by omega) rfl rfl rfl slices_S1024x512_o0_0_S1024x128 inb_S1024x2048_S1024x128_0_0 z,
    trivial⟩

set_option maxHeartbeats 4000000 in
theorem later16 (hc0 : ¬firstStep i) : View.PiecesOf (Gwin s18 0 (by omega) x6 i) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.2.2.2.1 := by
  frame_out
  exact ⟨fun z => winK_eq s18 x6 i 3 inb_S4x256x128_S1x256x128_3_0_0 z,
    fun z => winK_eq s18 x6 i 2 inb_S4x256x128_S1x256x128_2_0_0 z,
    fun z => winK_eq s18 x6 i 1 inb_S4x256x128_S1x256x128_1_0_0 z,
    fun z => winK_eq s18 x6 i 0 inb_S4x256x128_S1x256x128_0_0_0 z,
    trivial⟩

set_option maxHeartbeats 4000000 in
theorem later17 (hc0 : ¬firstStep i) : View.PiecesOf (Gwin s18 256 (by omega) x7 i) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.2.2.2.2.1 := by
  frame_out
  exact ⟨fun z => winV_eq s18 x7 i 3 inb_S4x256x128_S1x256x128_3_0_0 z,
    fun z => winV_eq s18 x7 i 2 inb_S4x256x128_S1x256x128_2_0_0 z,
    fun z => winV_eq s18 x7 i 1 inb_S4x256x128_S1x256x128_1_0_0 z,
    fun z => winV_eq s18 x7 i 0 inb_S4x256x128_S1x256x128_0_0_0 z,
    trivial⟩

set_option maxHeartbeats 4000000 in
theorem first11 (hc0 : firstStep i) : View.PiecesOf (Gq x1 x2 x3) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).1 := by
  frame_open
  simp (disch := decide) only [↓ View.readCov_skip, ↓ View.readCov_cons_toLoadRect, ↓ View.readCov_fill]
  frame_out
  exact ⟨fun z => q_eq x1 x2 x3 1536 inb_S1024x4608_S1024x512_0_1536 inb_S1024x2048_S1024x512_0_1536 z,
    fun z => q_eq x1 x2 x3 1024 inb_S1024x4608_S1024x512_0_1024 inb_S1024x2048_S1024x512_0_1024 z,
    fun z => q_eq x1 x2 x3 512 inb_S1024x4608_S1024x512_0_512 inb_S1024x2048_S1024x512_0_512 z,
    fun z => q_eq x1 x2 x3 0 inb_S1024x4608_S1024x512_0_0 inb_S1024x2048_S1024x512_0_0 z,
    trivial⟩

set_option maxHeartbeats 4000000 in
theorem first13 (hc0 : firstStep i) : View.PiecesOf (Ggate x1 x2 x3) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.1 := by
  frame_open
  simp (disch := decide) only [↓ View.readCov_skip, ↓ View.readCov_cons_toLoadRect, ↓ View.readCov_fill]
  frame_out
  exact ⟨fun z => gate_eq x1 x2 x3 4096 1536 rfl inb_S1024x4608_S1024x512_0_4096 inb_S1024x2048_S1024x512_0_1536 z,
    fun z => gate_eq x1 x2 x3 3584 1024 rfl inb_S1024x4608_S1024x512_0_3584 inb_S1024x2048_S1024x512_0_1024 z,
    fun z => gate_eq x1 x2 x3 3072 512 rfl inb_S1024x4608_S1024x512_0_3072 inb_S1024x2048_S1024x512_0_512 z,
    fun z => gate_eq x1 x2 x3 2560 0 rfl inb_S1024x4608_S1024x512_0_2560 inb_S1024x2048_S1024x512_0_0 z,
    trivial⟩

set_option maxHeartbeats 4000000 in
theorem first14 (hc0 : firstStep i) : View.PiecesOf (Gpad x1 x2 x3) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.2.1 := by
  frame_open
  simp (disch := decide) only [↓ View.readCov_skip, ↓ View.readCov_cons_toLoadRect, ↓ View.readCov_fill]
  frame_out
  exact ⟨fun z => padD x1 x2 x3 inb_S1024x4608_S1024x512_0_2048 384 1920 (by omega) rfl rfl rfl slices_S1024x512_o0_384_S1024x128 inb_S1024x2048_S1024x128_0_1920 z,
    fun z => padC x1 x2 x3 inb_S1024x4608_S1024x512_0_2048 384 1792 (by omega) rfl rfl rfl slices_S1024x512_o0_384_S1024x128 inb_S1024x2048_S1024x128_0_1792 z,
    fun z => padB x1 x2 x3 inb_S1024x4608_S1024x512_0_2048 384 1408 (by omega) rfl rfl rfl slices_S1024x512_o0_384_S1024x128 inb_S1024x2048_S1024x128_0_1408 z,
    fun z => padA x1 x2 x3 inb_S1024x4608_S1024x512_0_2048 384 1280 (by omega) rfl rfl rfl slices_S1024x512_o0_384_S1024x128 inb_S1024x2048_S1024x128_0_1280 z,
    fun z => padD x1 x2 x3 inb_S1024x4608_S1024x512_0_2048 128 1664 (by omega) rfl rfl rfl slices_S1024x512_o0_128_S1024x128 inb_S1024x2048_S1024x128_0_1664 z,
    fun z => padC x1 x2 x3 inb_S1024x4608_S1024x512_0_2048 128 1536 (by omega) rfl rfl rfl slices_S1024x512_o0_128_S1024x128 inb_S1024x2048_S1024x128_0_1536 z,
    fun z => padB x1 x2 x3 inb_S1024x4608_S1024x512_0_2048 128 1152 (by omega) rfl rfl rfl slices_S1024x512_o0_128_S1024x128 inb_S1024x2048_S1024x128_0_1152 z,
    fun z => padA x1 x2 x3 inb_S1024x4608_S1024x512_0_2048 128 1024 (by omega) rfl rfl rfl slices_S1024x512_o0_128_S1024x128 inb_S1024x2048_S1024x128_0_1024 z,
    fun z => padD x1 x2 x3 inb_S1024x4608_S1024x512_0_2048 256 896 (by omega) rfl rfl rfl slices_S1024x512_o0_256_S1024x128 inb_S1024x2048_S1024x128_0_896 z,
    fun z => padC x1 x2 x3 inb_S1024x4608_S1024x512_0_2048 256 768 (by omega) rfl rfl rfl slices_S1024x512_o0_256_S1024x128 inb_S1024x2048_S1024x128_0_768 z,
    fun z => padB x1 x2 x3 inb_S1024x4608_S1024x512_0_2048 256 384 (by omega) rfl rfl rfl slices_S1024x512_o0_256_S1024x128 inb_S1024x2048_S1024x128_0_384 z,
    fun z => padA x1 x2 x3 inb_S1024x4608_S1024x512_0_2048 256 256 (by omega) rfl rfl rfl slices_S1024x512_o0_256_S1024x128 inb_S1024x2048_S1024x128_0_256 z,
    fun z => padD x1 x2 x3 inb_S1024x4608_S1024x512_0_2048 0 640 (by omega) rfl rfl rfl slices_S1024x512_o0_0_S1024x128 inb_S1024x2048_S1024x128_0_640 z,
    fun z => padC x1 x2 x3 inb_S1024x4608_S1024x512_0_2048 0 512 (by omega) rfl rfl rfl slices_S1024x512_o0_0_S1024x128 inb_S1024x2048_S1024x128_0_512 z,
    fun z => padB x1 x2 x3 inb_S1024x4608_S1024x512_0_2048 0 128 (by omega) rfl rfl rfl slices_S1024x512_o0_0_S1024x128 inb_S1024x2048_S1024x128_0_128 z,
    fun z => padA x1 x2 x3 inb_S1024x4608_S1024x512_0_2048 0 0 (by omega) rfl rfl rfl slices_S1024x512_o0_0_S1024x128 inb_S1024x2048_S1024x128_0_0 z,
    trivial⟩

set_option maxHeartbeats 4000000 in
theorem first16 (hc0 : firstStep i) : View.PiecesOf (Gwin (k0_pay2 x5) 0 (by omega) x6 i) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.2.2.1 := by
  frame_open
  simp (disch := decide) only [↓ View.readCov_skip, ↓ View.readCov_cons_toLoadRect, ↓ View.readCov_fill]
  frame_out
  exact ⟨fun z => winK_eq (k0_pay2 x5) x6 i 3 inb_S4x256x128_S1x256x128_3_0_0 z,
    fun z => winK_eq (k0_pay2 x5) x6 i 2 inb_S4x256x128_S1x256x128_2_0_0 z,
    fun z => winK_eq (k0_pay2 x5) x6 i 1 inb_S4x256x128_S1x256x128_1_0_0 z,
    fun z => winK_eq (k0_pay2 x5) x6 i 0 inb_S4x256x128_S1x256x128_0_0_0 z,
    trivial⟩

set_option maxHeartbeats 4000000 in
theorem first17 (hc0 : firstStep i) : View.PiecesOf (Gwin (k0_pay2 x5) 256 (by omega) x7 i) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.2.2.2.1 := by
  frame_open
  simp (disch := decide) only [↓ View.readCov_skip, ↓ View.readCov_cons_toLoadRect, ↓ View.readCov_fill]
  frame_out
  exact ⟨fun z => winV_eq (k0_pay2 x5) x7 i 3 inb_S4x256x128_S1x256x128_3_0_0 z,
    fun z => winV_eq (k0_pay2 x5) x7 i 2 inb_S4x256x128_S1x256x128_2_0_0 z,
    fun z => winV_eq (k0_pay2 x5) x7 i 1 inb_S4x256x128_S1x256x128_1_0_0 z,
    fun z => winV_eq (k0_pay2 x5) x7 i 0 inb_S4x256x128_S1x256x128_0_0_0 z,
    trivial⟩

end Cert.Kernel5Ideal.Hand

end
-- ==== Proof.AtCover.lean ====
module

public import proofs.«01_k».proof.Proof.AtPieces
public import Idealize.ShloMosaic.Lib.Pipeline.ReadBack
public import Idealize.ShloMosaic.Lib.Pipeline.ValueKit
public import Idealize.ShloMosaic.Lib.VecWindow

/-! What each output block but the sample's attention reads once a point has written its pieces. -/

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S128x16x128 .f32) (harg4 : arg4.IsWhole) (arg5 : Memref sig .tc .vmem S128x512 .f32) (harg5 : arg5.IsWhole) (arg6 : Memref sig .tc .vmem S4x256x128 .f32) (harg6 : arg6.IsWhole) (arg7 : Memref sig .tc .vmem S4x256x128 .f32) (harg7 : arg7.IsWhole) (arg8 : Memref sig .tc .vmem S128x16x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S1024x2048 .bf16) (harg11 : arg11.IsWhole) (arg12 : Memref sig .tc .vmem S1024x512 .f32) (harg12 : arg12.IsWhole) (arg13 : Memref sig .tc .vmem S1024x2048 .bf16) (harg13 : arg13.IsWhole) (arg14 : Memref sig .tc .vmem S1024x2048 .bf16) (harg14 : arg14.IsWhole) (arg15 : Memref sig .tc .vmem S128x16x128 .f32) (harg15 : arg15.IsWhole) (arg16 : Memref sig .tc .vmem S4x256x128 .f32) (harg16 : arg16.IsWhole) (arg17 : Memref sig .tc .vmem S4x256x128 .f32) (harg17 : arg17.IsWhole) (arg18 : Memref sig .tc .vmem S512x128 .f32) (harg18 : arg18.IsWhole)
  (x1 : Vec Ideal S1024x1024 .f32) (x2 : Vec Ideal S1x1024 .f32) (x3 : Vec Ideal S1024x4608 .bf16) (x4 : Vec Ideal S128x16x128 .f32) (x5 : Vec Ideal S128x512 .f32) (x6 : Vec Ideal S4x256x128 .f32) (x7 : Vec Ideal S4x256x128 .f32) (x8 : Vec Ideal S128x16x128 .f32) (x9 : Vec Ideal S32x128 .f32) (x10 : Vec Ideal S32x128 .f32) (s18 : Vec Ideal S512x128 .f32)

theorem later11_reads (hc0 : ¬firstStep i) (v : View sig .tc .vmem S1024x2048 .bf16) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).1) = (Gq x1 x2 x3) := by
  funext y
  refine View.read_writes_apply_of_pieces v f (Gq x1 x2 x3) _ (View.PiecesOf.mem (by apply later11)) y ?_
  exact View.cover_of_tiledL _ ![1024, 512] (by sl_kernel_rfl) y

theorem later12_reads (hc0 : ¬firstStep i) (v : View sig .tc .vmem S1024x512 .f32) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.1) = (Gkv x1 x2 x3) := by
  frame_out
  exact (View.read_writes_full v f (off := ![0, 0]) inb_S1024x512_S1024x512_0_0 _ []).trans (kv_eq x1 x2 x3 inb_S1024x4608_S1024x512_0_2048)

theorem later13_reads (hc0 : ¬firstStep i) (v : View sig .tc .vmem S1024x2048 .bf16) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.2.1) = (Ggate x1 x2 x3) := by
  funext y
  refine View.read_writes_apply_of_pieces v f (Ggate x1 x2 x3) _ (View.PiecesOf.mem (by apply later13)) y ?_
  exact View.cover_of_tiledL _ ![1024, 512] (by sl_kernel_rfl) y

theorem later14_reads (hc0 : ¬firstStep i) (v : View sig .tc .vmem S1024x2048 .bf16) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.2.2.1) = (Gpad x1 x2 x3) := by
  funext y
  refine View.read_writes_apply_of_pieces v f (Gpad x1 x2 x3) _ (View.PiecesOf.mem (by apply later14)) y ?_
  exact View.cover_of_tiledL _ ![1024, 128] (by sl_kernel_rfl) y

theorem later16_reads (hc0 : ¬firstStep i) (v : View sig .tc .vmem S4x256x128 .f32) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.2.2.2.1) = (Gwin s18 0 (by omega) x6 i) := by
  funext y
  refine View.read_writes_apply_of_pieces v f (Gwin s18 0 (by omega) x6 i) _ (View.PiecesOf.mem (by apply later16)) y ?_
  exact View.cover_of_tiledL _ ![1, 256, 128] (by sl_kernel_rfl) y

theorem later17_reads (hc0 : ¬firstStep i) (v : View sig .tc .vmem S4x256x128 .f32) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10 s18).2.2.2.2.2.1) = (Gwin s18 256 (by omega) x7 i) := by
  funext y
  refine View.read_writes_apply_of_pieces v f (Gwin s18 256 (by omega) x7 i) _ (View.PiecesOf.mem (by apply later17)) y ?_
  exact View.cover_of_tiledL _ ![1, 256, 128] (by sl_kernel_rfl) y

theorem first11_reads (hc0 : firstStep i) (v : View sig .tc .vmem S1024x2048 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).1) = (Gq x1 x2 x3) := by
  funext y
  refine View.read_writes_apply_of_pieces v f (Gq x1 x2 x3) _ (View.PiecesOf.mem (by apply first11)) y ?_
  exact View.cover_of_tiledL _ ![1024, 512] (by sl_kernel_rfl) y

theorem first12_reads (hc0 : firstStep i) (v : View sig .tc .vmem S1024x512 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.1) = (Gkv x1 x2 x3) := by
  frame_open
  frame_out
  exact (View.read_writes_full v f (off := ![0, 0]) inb_S1024x512_S1024x512_0_0 _ []).trans (kv_eq x1 x2 x3 inb_S1024x4608_S1024x512_0_2048)

theorem first13_reads (hc0 : firstStep i) (v : View sig .tc .vmem S1024x2048 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.1) = (Ggate x1 x2 x3) := by
  funext y
  refine View.read_writes_apply_of_pieces v f (Ggate x1 x2 x3) _ (View.PiecesOf.mem (by apply first13)) y ?_
  exact View.cover_of_tiledL _ ![1024, 512] (by sl_kernel_rfl) y

theorem first14_reads (hc0 : firstStep i) (v : View sig .tc .vmem S1024x2048 .bf16) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.2.1) = (Gpad x1 x2 x3) := by
  funext y
  refine View.read_writes_apply_of_pieces v f (Gpad x1 x2 x3) _ (View.PiecesOf.mem (by apply first14)) y ?_
  exact View.cover_of_tiledL _ ![1024, 128] (by sl_kernel_rfl) y

theorem first16_reads (hc0 : firstStep i) (v : View sig .tc .vmem S4x256x128 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.2.2.1) = (Gwin (k0_pay2 x5) 0 (by omega) x6 i) := by
  funext y
  refine View.read_writes_apply_of_pieces v f (Gwin (k0_pay2 x5) 0 (by omega) x6 i) _ (View.PiecesOf.mem (by apply first16)) y ?_
  exact View.cover_of_tiledL _ ![1, 256, 128] (by sl_kernel_rfl) y

theorem first17_reads (hc0 : firstStep i) (v : View sig .tc .vmem S4x256x128 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.2.2.2.1) = (Gwin (k0_pay2 x5) 256 (by omega) x7 i) := by
  funext y
  refine View.read_writes_apply_of_pieces v f (Gwin (k0_pay2 x5) 256 (by omega) x7 i) _ (View.PiecesOf.mem (by apply first17)) y ?_
  exact View.cover_of_tiledL _ ![1, 256, 128] (by sl_kernel_rfl) y

theorem first18_reads (hc0 : firstStep i) (v : View sig .tc .vmem S512x128 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x1 x2 x3 x4 x5 x6 x7 x8 x9 x10).2.2.2.2.2.2.1) = k0_pay2 x5 := by
  frame_open
  frame_out
  refine View.read_writes_full v f (off := ![0, 0]) inb_S512x128_S512x128_0_0 _ []

end Cert.Kernel5Ideal.Hand

end
-- ==== Proof.AtBody.lean ====
module

public import proofs.«01_k».proof.Proof.AtCover
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

/-! What every point leaves: the projected blocks, the gate, the padded keys and values and the new windows exactly. -/

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

local notation "𝕄" => MT nD τ sig Unit (Elt Ideal) ℕ (UR sig nD τ) ℕ

variable (m : (ℓ : Loc nD τ sig) → Buf (Elt Ideal) ℓ) (ρ : Dev nD → PrngReg)

/-- The grid's first point. -/
def t₀ : Fin cfg0.N := ⟨0, by decide⟩

theorem coords_val : ∀ t : Fin cfg0.N, (grid0.coords t 0).val = t.val :=
  (by decide +kernel : ∀ t : Fin grid0.N, (grid0.coords t 0).val = t.val)

theorem first_iff : ∀ t : Fin cfg0.N, firstStep (grid0.coords t) ↔ t.val = 0 :=
  (by decide +kernel : ∀ t : Fin grid0.N, firstStep (grid0.coords t) ↔ t.val = 0)

/-- The sample's transposed keys and values that the first point leaves for the later ones. -/
def scr (c : Dev nD) : Vec Ideal S512x128 .f32 := k0_pay2 (iblk m c 4 t₀)

/-- The one window whose value is not followed: the sample's attention. -/
def fgt (w : Fin cfg0.W) : Bool := Nat.beq w.val 14

/-- Nothing is said of that window. -/
def Rl (_ : Dev nD) : (w : Fin cfg0.W) → Fin cfg0.N → ((cfg0.win w).block.Idx → Elt Ideal (cfg0.win w).elt) → Prop := fun _ _ _ => True

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Gq (iblk m c 0 t) (iblk m c 1 t) (iblk m c 2 t)
    | ⟨11, _⟩ => Gkv (iblk m c 0 t) (iblk m c 1 t) (iblk m c 2 t)
    | ⟨12, _⟩ => Ggate (iblk m c 0 t) (iblk m c 1 t) (iblk m c 2 t)
    | ⟨13, _⟩ => Gpad (iblk m c 0 t) (iblk m c 1 t) (iblk m c 2 t)
    | ⟨14, _⟩ => fun _ => (0 : EReal)
    | ⟨15, _⟩ => Gwin (scr m c) 0 (by omega) (iblk m c 5 t) (grid0.coords t)
    | ⟨16, _⟩ => Gwin (scr m c) 256 (by omega) (iblk m c 6 t) (grid0.coords t)
    | ⟨_ + 17, h⟩ => absurd h (Nat.not_lt.2 (Nat.le_add_left _ _))
  Φ t := if t.val = 0 then Pipeline.ΦA spec0 c else
    iprop(owns (c : Thread nD τ) (Memref.whole cc0_scratch0) fullShare (scr m c) ∗ (∃ g, prngReg c g))
  q _ := fullShare
  owed _ := 0

theorem A_eq (c : Dev nD) (w : Fin cfg0.W) : (dats m 0 c).A w = V m c (Pipeline.arrRef spec0 w) := by
  dsimp only [dats]

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x4608 .bf16 := win0_2.stage (cfg0.slots t 2)
abbrev ms3 (t : Fin cfg0.N) : Memref sig .tc .vmem S128x16x128 .f32 := win0_3.stage (cfg0.slots t 3)
abbrev ms4 (t : Fin cfg0.N) : Memref sig .tc .vmem S128x512 .f32 := win0_4.stage (cfg0.slots t 4)
abbrev ms5 (t : Fin cfg0.N) : Memref sig .tc .vmem S4x256x128 .f32 := win0_5.stage (cfg0.slots t 5)
abbrev ms6 (t : Fin cfg0.N) : Memref sig .tc .vmem S4x256x128 .f32 := win0_6.stage (cfg0.slots t 6)
abbrev ms7 (t : Fin cfg0.N) : Memref sig .tc .vmem S128x16x128 .f32 := win0_7.stage (cfg0.slots t 7)
abbrev ms8 (t : Fin cfg0.N) : Memref sig .tc .vmem S32x128 .f32 := win0_8.stage (cfg0.slots t 8)
abbrev ms9 (t : Fin cfg0.N) : Memref sig .tc .vmem S32x128 .f32 := win0_9.stage (cfg0.slots t 9)
abbrev ms10 (t : Fin cfg0.N) : Memref sig .tc .vmem S1024x2048 .bf16 := win0_10.stage (cfg0.slots t 10)
abbrev ms11 (t : Fin cfg0.N) : Memref sig .tc .vmem S1024x512 .f32 := win0_11.stage (cfg0.slots t 11)
abbrev ms12 (t : Fin cfg0.N) : Memref sig .tc .vmem S1024x2048 .bf16 := win0_12.stage (cfg0.slots t 12)
abbrev ms13 (t : Fin cfg0.N) : Memref sig .tc .vmem S1024x2048 .bf16 := win0_13.stage (cfg0.slots t 13)
abbrev ms14 (t : Fin cfg0.N) : Memref sig .tc .vmem S128x16x128 .f32 := win0_14.stage (cfg0.slots t 14)
abbrev ms15 (t : Fin cfg0.N) : Memref sig .tc .vmem S4x256x128 .f32 := win0_15.stage (cfg0.slots t 15)
abbrev ms16 (t : Fin cfg0.N) : Memref sig .tc .vmem S4x256x128 .f32 := win0_16.stage (cfg0.slots t 16)

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d
theorem before9 (c : Dev nD) (t : Fin cfg0.N) (d) : (dats m 0 c).before 9 t d = iblk m c 9 t :=
  before0_9_of m (dats m 0 c) (A_eq m c 9) (fun _ => by dsimp only [dats]) t d

/-- The buffer the pipeline leaves to the body, spelled as the body takes it, and the generator register. -/
theorem phi_eq (c : Dev nD) : (Pipeline.ΦA spec0 c : sProp 𝕄)
    = iprop((∃ d : Vec Ideal S512x128 .f32, owns (c : Thread nD τ) (Memref.whole cc0_scratch0) fullShare d) ∗ (∃ g, prngReg c g)) := by
  unfold Pipeline.ΦA; rw [scopedRest0_eq]; simp only [owns_whole]; try rfl

theorem phi_first (c : Dev nD) (t : Fin (cfg0.N + 1)) (h : t.val = 0) : (dats m 0 c).Φ t = Pipeline.ΦA spec0 c := by
  dsimp only [dats]; rw [if_pos h]

theorem phi_later (c : Dev nD) (t : Fin (cfg0.N + 1)) (h : t.val ≠ 0) : (dats m 0 c).Φ t =
    iprop(owns (c : Thread nD τ) (Memref.whole cc0_scratch0) fullShare (scr m c) ∗ (∃ g, prngReg c g)) := by
  dsimp only [dats]; rw [if_neg h]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ Y, ⌜((dats m 0 c).toRRel fgt (Rl c)).Finds 14 t Y⌝ ∗ owns (c : Thread nD τ) (ms14 t) fullShare Y) ∗ (∃ d, owns (c : Thread nD τ) (ms15 t) fullShare ((dats m 0 c).before 15 t d)) ∗ (∃ d, owns (c : Thread nD τ) (ms16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t) ∗ (∃ X, ⌜Rl c 14 t X⌝ ∗ owns (c : Thread nD τ) (ms14 t) fullShare X) ∗ owns (c : Thread nD τ) (ms15 t) fullShare ((dats m 0 c).after 15 t) ∗ owns (c : Thread nD τ) (ms16 t) fullShare ((dats m 0 c).after 16 t))

set_option maxHeartbeats 4000000 in
theorem sound_later (c : Dev nD) (t : Fin cfg0.N) (ht : t.val ≠ 0) :
    bodyPre m c t ⊢ wp frame (wpE (defs₀ (F := Ideal)) Variants.none c none) Set.univ (bodyAt0 t) (fun _ => bodyPost m c t) := by
  have hc0 : ¬firstStep (grid0.coords t) := fun h => ht ((first_iff t).1 h)
  unfold bodyPre bodyPost bodyAt0
  simp only [before0, before1, before2, before3, before4, before5, before6, before7, before8, before9]
  rw [show (dats m 0 c).owesAt () t.succ = (dats m 0 c).owesAt () t.castSucc from rfl]
  rw [phi_later m c t.castSucc ht, phi_later m c t.succ (Nat.succ_ne_zero _)]
  dsimp only [dats]
  iintro ⟨⟨H18, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, H11, H12, H13, H14, ⟨%Y, %hY, H15⟩, H16, H17⟩
  iapply ((runLater (F := Ideal) c (grid0.coords t) _ _ _ _ _ _ _ _ _ _ _ _ _ _ _ _ _ _ _ _ _ _ _ _ _ _ _ _ _ _ _ _ _ _ _ _  hc0 (iblk m c 0 t) (iblk m c 1 t) (iblk m c 2 t) (iblk m c 3 t) (iblk m c 4 t) (iblk m c 5 t) (iblk m c 6 t) (iblk m c 7 t) (iblk m c 8 t) (iblk m c 9 t) (scr m c)).2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · icases H11 with ⟨%e, H11⟩; iexists _; iexact H11
  isplitl [H12]; · icases H12 with ⟨%e, H12⟩; iexists _; iexact H12
  isplitl [H13]; · icases H13 with ⟨%e, H13⟩; iexists _; iexact H13
  isplitl [H14]; · icases H14 with ⟨%e, H14⟩; iexists _; iexact H14
  isplitl [H15]; · iexists _; iexact H15
  isplitl [H16]; · icases H16 with ⟨%e, H16⟩; iexists _; iexact H16
  isplitl [H17]; · icases H17 with ⟨%e, H17⟩; iexists _; iexact H17
  isplitl [H18]; · iexact H18
  iintro ⟨H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, H18⟩
  isplitl [H18 Hg]
  · isplitl [H18]
    · iexact H18
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; apply later11_reads
  isplitl [H12]
  · unfold owns; iexists _; isplitr
    swap; · iexact H12
    ipureintro; apply later12_reads
  isplitl [H13]
  · unfold owns; iexists _; isplitr
    swap; · iexact H13
    ipureintro; apply later13_reads
  isplitl [H14]
  · unfold owns; iexists _; isplitr
    swap; · iexact H14
    ipureintro; apply later14_reads
  isplitl [H15]
  · iexists _; isplitr
    swap
    · unfold owns; iexists _; isplitr
      swap; · iexact H15
      ipureintro; rfl
    ipureintro; trivial
  isplitl [H16]
  · unfold owns; iexists _; isplitr
    swap; · iexact H16
    ipureintro; apply later16_reads
  unfold owns; iexists _; isplitr
  swap; · iexact H17
  ipureintro; apply later17_reads

set_option maxHeartbeats 4000000 in
theorem sound_first (c : Dev nD) (t : Fin cfg0.N) (ht : t.val = 0) :
    bodyPre m c t ⊢ wp frame (wpE (defs₀ (F := Ideal)) Variants.none c none) Set.univ (bodyAt0 t) (fun _ => bodyPost m c t) := by
  have hc0 : firstStep (grid0.coords t) := (first_iff t).2 ht
  obtain rfl : t = t₀ := Fin.ext ht
  unfold bodyPre bodyPost bodyAt0
  simp only [before0, before1, before2, before3, before4, before5, before6, before7, before8, before9]
  rw [show (dats m 0 c).owesAt () t₀.succ = (dats m 0 c).owesAt () t₀.castSucc from rfl]
  rw [phi_first m c t₀.castSucc ht, phi_later m c t₀.succ (Nat.succ_ne_zero _), phi_eq]
  dsimp only [dats]
  iintro ⟨⟨H18, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, H11, H12, H13, H14, ⟨%Y, %hY, H15⟩, H16, H17⟩
  iapply ((runFirst (F := Ideal) c (grid0.coords t₀) _ _ _ _ _ _ _ _ _ _ _ _ _ _ _ _ _ _ _ _ _ _ _ _ _ _ _ _ _ _ _ _ _ _ _ _  hc0 (iblk m c 0 t₀) (iblk m c 1 t₀) (iblk m c 2 t₀) (iblk m c 3 t₀) (iblk m c 4 t₀) (iblk m c 5 t₀) (iblk m c 6 t₀) (iblk m c 7 t₀) (iblk m c 8 t₀) (iblk m c 9 t₀)).2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · icases H11 with ⟨%e, H11⟩; iexists _; iexact H11
  isplitl [H12]; · icases H12 with ⟨%e, H12⟩; iexists _; iexact H12
  isplitl [H13]; · icases H13 with ⟨%e, H13⟩; iexists _; iexact H13
  isplitl [H14]; · icases H14 with ⟨%e, H14⟩; iexists _; iexact H14
  isplitl [H15]; · iexists _; iexact H15
  isplitl [H16]; · icases H16 with ⟨%e, H16⟩; iexists _; iexact H16
  isplitl [H17]; · icases H17 with ⟨%e, H17⟩; iexists _; iexact H17
  isplitl [H18]; · iexact H18
  iintro ⟨H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩⟩
  isplitl [H18 Hg]
  · isplitl [H18]
    · unfold owns; iexists _; isplitr
      swap; · iexact H18
      ipureintro; apply first18_reads
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; apply first11_reads
  isplitl [H12]
  · unfold owns; iexists _; isplitr
    swap; · iexact H12
    ipureintro; apply first12_reads
  isplitl [H13]
  · unfold owns; iexists _; isplitr
    swap; · iexact H13
    ipureintro; apply first13_reads
  isplitl [H14]
  · unfold owns; iexists _; isplitr
    swap; · iexact H14
    ipureintro; apply first14_reads
  isplitl [H15]
  · iexists _; isplitr
    swap
    · unfold owns; iexists _; isplitr
      swap; · iexact H15
      ipureintro; rfl
    ipureintro; trivial
  isplitl [H16]
  · unfold owns; iexists _; isplitr
    swap; · iexact H16
    ipureintro; apply first16_reads
  unfold owns; iexists _; isplitr
  swap; · iexact H17
  ipureintro; apply first17_reads

theorem sound_body (c : Dev nD) (t : Fin cfg0.N) :
    bodyPre m c t ⊢ wp frame (wpE (defs₀ (F := Ideal)) Variants.none c none) Set.univ (bodyAt0 t) (fun _ => bodyPost m c t) := by
  by_cases ht : t.val = 0
  · exact sound_first m c t ht
  · exact sound_later m c t ht

theorem row (t : Fin cfg0.N) : defs₀ (F := Ideal) .tc cfg0.body (cfg0.bodyArgs t (cfg0.slots t)) = bodyAt0 t := by
  unfold defs₀; rw [Defs.onTc_tc]

theorem body_obligation (c : Dev nD) : Pipeline.BodyObligationRel (dats m 0 c) (defs₀ (F := Ideal)) Variants.none () Set.univ fgt (Rl c) := fun t => by
  rw [bigSep_W0, bigSep_W0, row]
  exact triple_restated (sound_body m c t) rfl .rfl fun _ => .rfl

theorem phi_out (c : Dev nD) : (dats m 0 c).Φ (Fin.last cfg0.N) ⊢ Pipeline.ΦA spec0 c := by
  rw [phi_later m c (Fin.last cfg0.N) (by decide), phi_eq]
  iintro ⟨H18, Hg⟩
  isplitl [H18]
  · iexists _; iexact H18
  iexact Hg

set_option backward.isDefEq.respectTransparency.types false in
theorem run_main : θ_run defs (onTc (τ := τ) (main (F := Ideal))) (s₀ m ρ)
    (fun r => Pipeline.RDat.FramePost cfg0 (fun c => (dats m 0 c).toRRel fgt (Rl c)) (V m) r ∧ r.2.sem = fun _ => 0) :=
  Pipeline.RDat.θ_run_frame_track (Q' := _) cfgs (0 : Fin 1) launch0 defs₀ Variants.none (fun c => (dats m 0 c).toRRel fgt (Rl c)) m ρ main
    (hbody := fun c => (body_obligation m c).toRRel) (hshare := fun c => (dats m 0 c).share_full fun _ => rfl)
    (howed := fun _ _ => rfl) (V := V m) (hmain := hmain m Variants.none) (hA := A_eq m)
    (hin := fun c => by rw [Pipeline.Dat.toRRel_Φ, phi_first m c 0 rfl]) (hout := phi_out m) (hQ' := fun _ h => h)

/-- The argument arrays end as they were. -/
theorem kept {r : PUnit × MemSt nD τ sig (Elt Ideal)} (h : Pipeline.RDat.FramePost cfg0 (fun c => (dats m 0 c).toRRel fgt (Rl c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 4 rfl).trans ((A_eq m c 4).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    (h.arr_in c 8 rfl).trans ((A_eq m c 8).trans (V_main_arg8 m c)),
    ((h c).2 main_arg9 (Pipeline.mem_restRefs_of main_arg9 (by decide) (by decide))).trans (V_main_arg9 m c)⟩

/-- The frame: the argument arrays end as they were and every counter is zero. -/
theorem frame : θ_run defs (onTc (τ := τ) (main (F := Ideal))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨kept m h.1, h.2⟩) (run_main m ρ)

end Cert.Kernel5Ideal.Hand

end
-- ==== Proof.AtSpec.lean ====
module

public import proofs.«01_k».proof.Proof.InMath
public import Idealize.ShloMosaic.Lib.Pointwise

/-! What the attention layer's projection leaves, entry by entry. -/

@[expose] public section

noncomputable section

namespace Cert.AtSpec

open Idealize.ShloMosaic Idealize.ShloMosaic.TcCoe

/-- The entries of the arguments, on one device. -/
structure Inp where
  x : Fin 16 → Fin 2048 → Fin 1024 → EReal
  g : Fin 1024 → EReal
  w : Fin 1024 → Fin 4608 → EReal
  kv : Fin 128 → Fin 512 → EReal
  ck : Fin 128 → Fin 128 → Fin 4 → Fin 64 → EReal
  cv : Fin 128 → Fin 128 → Fin 4 → Fin 64 → EReal

variable (I : Inp)

/-- Column `j` of the projected row `r`, rows numbered through the batch. -/
def Inp.pr (r : Fin 32768) (j : ℕ) : EReal :=
  if h : j < 4608 then InSpec.proj (I.x ⟨r / 2048, by omega⟩ ⟨r % 2048, by omega⟩) I.g (fun k => I.w k ⟨j, h⟩) else 0

/-- The queries, the keys and values, and the gates. -/
def Inp.qA (y : (⟨2, ![32768, 2048]⟩ : Shape).Idx) : EReal := I.pr (y 0) (y 1).val
def Inp.kvA (y : (⟨2, ![32768, 512]⟩ : Shape).Idx) : EReal := I.pr (y 0) (2048 + (y 1).val)
def Inp.gateA (y : (⟨2, ![32768, 2048]⟩ : Shape).Idx) : EReal := InSpec.gateT (I.pr (y 0) (2560 + (y 1).val))

/-- The keys and values laid out for the next call: of each head its keys in the lower lanes, in the upper lanes, then its values likewise. -/
def Inp.padA (y : (⟨2, ![32768, 2048]⟩ : Shape).Idx) : EReal :=
  if (y 1).val % 128 / 64 = (y 1).val / 128 % 2 then
    I.pr (y 0) (2048 + (256 * ((y 1).val / 256 % 2) + 64 * ((y 1).val / 512) + (y 1).val % 64)) else 0

/-- A sample's window of keys or values moved on by one position, the newest from column `K` on of the sample's row. -/
def Inp.winA (K : ℕ) (hK : K + 256 ≤ 512) (cache : Fin 128 → Fin 128 → Fin 4 → Fin 64 → EReal) (y : (⟨3, ![128, 256, 128]⟩ : Shape).Idx) : EReal :=
  if (y 2).val = 127 then I.kv (y 0) ⟨K + (y 1).val, by have : (y 1).val < 256 := (y 1).isLt; omega⟩
  else cache (y 0) ⟨((y 2).val + 1) % 128, by omega⟩ ⟨(y 1).val / 64, by have : (y 1).val < 256 := (y 1).isLt; omega⟩
    ⟨(y 1).val % 64, by omega⟩

theorem ofBits_1024 : Ideal.ofBits .f32 1149239296#32 = ((1024 : ℝ) : EReal) := by
  simp [Ideal.ofBits, Ideal.ieee, -EReal.coe_mul]; norm_num

theorem ofBits_eps : Ideal.ofBits .f32 897988541#32 = ((8796093 / 8796093022208 : ℝ) : EReal) := by
  simp [Ideal.ofBits, Ideal.ieee, -EReal.coe_mul]; norm_num

/-- A sum of squares is no real only when it is infinite, and then the row normalised by its root mean square is zero. -/
theorem rms_real (x : Fin 1024 → EReal) (k : Fin 1024) : ∃ r : ℝ, Spec.rms x k = (r : EReal) := by
  have hε : (0 : ℝ) < 8796093 / 8796093022208 := by norm_num
  generalize hv : (8796093 / 8796093022208 : ℝ) = ε at hε
  have e2 : Ideal.ofBits .f32 897988541#32 = (ε : EReal) := by rw [← hv]; exact ofBits_eps
  have h0 (i : Fin 1024) : 0 ≤ x i * x i := by
    induction x i using EReal.rec with
    | bot => simp
    | top => simp
    | coe a => rw [← EReal.coe_mul]; exact_mod_cast mul_self_nonneg a
  rw [Spec.rms, ofBits_1024, e2, Ideal.div_coe (by norm_num)]
  by_cases ht : ∑ i, x i * x i = ⊤
  · refine ⟨0, ?_⟩
    rw [ht, EReal.top_mul_coe_of_pos (by norm_num), EReal.top_add_coe, Ideal.rsqrt_top, mul_zero, EReal.coe_zero]
  · have hx (i : Fin 1024) : ∃ a : ℝ, x i = (a : EReal) := by
      have hi : x i * x i < ⊤ := lt_of_le_of_lt (Finset.single_le_sum (fun i _ => h0 i) (Finset.mem_univ i)) (lt_top_iff_ne_top.2 ht)
      induction hxi : x i using EReal.rec with
      | bot => rw [hxi] at hi; simp at hi
      | top => rw [hxi] at hi; simp at hi
      | coe a => exact ⟨a, rfl⟩
    choose a ha using hx
    have hs : ∑ i, x i * x i = ((∑ i, a i * a i : ℝ) : EReal) := by
      rw [← Model.sum_coe]
      exact Finset.sum_congr rfl fun i _ => by rw [ha i, ← EReal.coe_mul]
    have hp : 0 < (∑ i, a i * a i) * (1 / 1024) + ε := by
      have : 0 ≤ ∑ i, a i * a i := Finset.sum_nonneg fun i _ => mul_self_nonneg _
      positivity
    rw [hs, ha k, ← EReal.coe_mul, ← EReal.coe_add, Ideal.rsqrt_coe, if_neg (not_lt.2 hp.le), if_neg hp.ne', ← EReal.coe_mul]
    exact ⟨_, rfl⟩

theorem proj_real (x : Fin 1024 → EReal) {g w : Fin 1024 → EReal} (hg : ∀ k, g k = ((g k).toReal : EReal))
    (hw : ∀ k, w k = ((w k).toReal : EReal)) : ∃ r : ℝ, InSpec.proj x g w = (r : EReal) := by
  choose a ha using rms_real x
  refine ⟨∑ k, a k * (g k).toReal * (w k).toReal, ?_⟩
  rw [InSpec.proj, ← Model.sum_coe]
  refine Finset.sum_congr rfl fun k _ => ?_
  rw [ha k, hg k, hw k, ← EReal.coe_mul, ← EReal.coe_mul]
  rfl

/-- With finite gains and weights the projection is a real number. -/
theorem pr_real (hg : ∀ k, I.g k = ((I.g k).toReal : EReal)) (hw : ∀ k j, I.w k j = ((I.w k j).toReal : EReal)) (r : Fin 32768) (n : ℕ) :
    ∃ a : ℝ, I.pr r n = (a : EReal) := by
  rw [Inp.pr]
  split_ifs with h
  · exact proj_real _ hg fun k => hw k _
  · exact ⟨0, rfl⟩

theorem gate_of {p : EReal} (h : ∃ a : ℝ, p = (a : EReal)) : p * Ideal.div 1 (1 + Ideal.exp (-p)) = InSpec.gateT p := by
  obtain ⟨a, rfl⟩ := h
  exact (InSpec.gateT_coe a).symm

end Cert.AtSpec

end
-- ==== Proof.AtHost.lean ====
module

public import proofs.«01_k».proof.Proof.Gen.Kernel5Ideal.Frame
public import proofs.«01_k».proof.Proof.AtSpec
public import Idealize.ShloMosaic.Lib.Pipeline.ValueKit
public import Idealize.ShloMosaic.Lib.Pointwise
public import Idealize.ShloMosaic.Lib.StableHlo.RunRead

/-! The arrays that the host part of the attention projection's program prepares, entry by entry. -/

@[expose] public section

set_option maxRecDepth 16384

noncomputable section

namespace Cert.Kernel5Ideal.Host

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The arguments' entries on a device. -/
def inp : AtSpec.Inp where
  x b t j := m ((c.tc : Thread nD τ).loc main_arg0) (ix3 b t j)
  g j := m ((c.tc : Thread nD τ).loc main_arg1) (ix1 j)
  w i j := m ((c.tc : Thread nD τ).loc main_arg2) (ix2 i j)
  kv b j := m ((c.tc : Thread nD τ).loc main_arg4) (ix2 b j)
  ck b t h d := m ((c.tc : Thread nD τ).loc main_arg5) (ix4 b t h d)
  cv b t h d := m ((c.tc : Thread nD τ).loc main_arg6) (ix4 b t h d)

theorem x_entry (r : Fin 32768) (j : Fin 1024) : (V m c main_v0 : Vec Ideal S32768x1024 .f32) (ix2 r j)
    = (inp m c).x ⟨r / 2048, by omega⟩ ⟨r % 2048, by omega⟩ j := by
  simp only [V, hostOps0, List.flatten_cons, List.flatten_nil, List.append_nil, List.cons_append, List.nil_append]
  after_reads_simp
  pointwise
  rfl

theorem g_entry (j : Fin 1024) : (V m c main_v1 : Vec Ideal S1x1024 .f32) (ix2 0 j) = (inp m c).g j := by
  simp only [V, hostOps0, List.flatten_cons, List.flatten_nil, List.append_nil, List.cons_append, List.nil_append]
  after_reads_simp
  pointwise
  rfl

theorem w_entry (i : Fin 1024) (j : Fin 4608) : (V m c main_v2 : Vec Ideal S1024x4608 .bf16) (ix2 i j) = (inp m c).w i j := by
  simp only [V, hostOps0, List.flatten_cons, List.flatten_nil, List.append_nil, List.cons_append, List.nil_append]
  after_reads_simp
  pointwise
  rfl

theorem ck_entry (b : Fin 128) (f : Fin 256) (t : Fin 128) : (V m c main_v5 : Vec Ideal S128x256x128 .f32) (ix3 b f t)
    = (inp m c).ck b t ⟨f / 64, by omega⟩ ⟨f % 64, by omega⟩ := by
  simp only [V, hostOps0, List.flatten_cons, List.flatten_nil, List.append_nil, List.cons_append, List.nil_append]
  after_reads_simp
  pointwise
  rfl

theorem cv_entry (b : Fin 128) (f : Fin 256) (t : Fin 128) : (V m c main_v7 : Vec Ideal S128x256x128 .f32) (ix3 b f t)
    = (inp m c).cv b t ⟨f / 64, by omega⟩ ⟨f % 64, by omega⟩ := by
  simp only [V, hostOps0, List.flatten_cons, List.flatten_nil, List.append_nil, List.cons_append, List.nil_append]
  after_reads_simp
  pointwise
  rfl

end Cert.Kernel5Ideal.Host

end
-- ==== Proof.AtVal.lean ====
module

public import proofs.«01_k».proof.Proof.AtBody
public import proofs.«01_k».proof.Proof.AtHost
public import Idealize.ShloMosaic.Lib.Pipeline.ValueKit
public import Idealize.ShloMosaic.Lib.Pipeline.ArrRel

/-! The six arrays of the attention projection's program whose values are claimed, of the arguments' entries. -/

@[expose] public section

set_option maxRecDepth 16384

noncomputable section

namespace Cert.Kernel5Ideal.Hand

open Cert.Kernel5Ideal Cert.Kernel5Ideal.Gen Cert.Kernel5Ideal.Host Idealize.ShloMosaic Idealize.ShloMosaic.TcCoe Idealize.SL.Sem

section pieces

variable {I : AtSpec.Inp}

/-- A row of the projection is the specification's row. -/
theorem P_of {x1 : Vec Ideal S1024x1024 .f32} {x2 : Vec Ideal S1x1024 .f32} {x3 : Vec Ideal S1024x4608 .bf16} {R : Fin 32768} {r : Fin 1024}
    (h1 : ∀ k, x1 (ix2 r k) = I.x ⟨R / 2048, by omega⟩ ⟨R % 2048, by omega⟩ k) (h2 : ∀ k, x2 (ix2 0 k) = I.g k)
    (h3 : ∀ k j, x3 (ix2 k j) = I.w k j) (n : ℕ) : P x1 x2 x3 r n = I.pr R n := by
  rw [P, AtSpec.Inp.pr, funext h1, funext h2]
  simp only [h3]

/-- A new window is the specification's. -/
theorem Gwin_of {s18 : Vec Ideal S512x128 .f32} {K : ℕ} {hK : K + 256 ≤ 512} {x : Vec Ideal S4x256x128 .f32} {i : grid0.Coords}
    {cache : Fin 128 → Fin 128 → Fin 4 → Fin 64 → EReal} {s : Fin 4} {b : Fin 128} (hb : smp i s = b) (h18 : ∀ j, s18 (ix2 j b) = I.kv b j)
    (hx : ∀ (f : Fin 256) (t : Fin 128), x (ix3 s f t) = cache b t ⟨f / 64, by omega⟩ ⟨f % 64, by omega⟩) (f : Fin 256) (w : Fin 128) :
    Gwin s18 K hK x i (ix3 s f w) = I.winA K hK cache (ix3 b f w) := by
  subst hb
  show (if w.val = 127 then s18 (ix2 (⟨K + f.val, by omega⟩ : Fin 512) (smp i s)) else x (ix3 s f (⟨(w.val + 1) % 128, by omega⟩ : Fin 128)))
    = if w.val = 127 then I.kv (smp i s) ⟨K + f.val, by omega⟩ else cache (smp i s) ⟨(w.val + 1) % 128, by omega⟩ ⟨f / 64, by omega⟩ ⟨f % 64, by omega⟩
  rw [h18, hx]

end pieces

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_4.index t = ![0, 0] ∧ win0_5.index t = ![t.val, 0, 0] ∧ win0_6.index t = ![t.val, 0, 0] ∧ win0_10.index t = ![t.val, 0]
    ∧ win0_11.index t = ![t.val, 0] ∧ win0_12.index t = ![t.val, 0] ∧ win0_13.index t = ![t.val, 0] ∧ win0_15.index t = ![t.val, 0, 0]
    ∧ win0_16.index t = ![t.val, 0, 0] :=
  (by decide +kernel : ∀ t : Fin grid0.N, _)

theorem tlt (t : Fin cfg0.N) : t.val < 32 := t.isLt

/-- Row `r` of point `t` among all rows, and sample `s` of point `t`. -/
def ptRow (t : Fin cfg0.N) (r : Fin 1024) : Fin 32768 := ⟨t.val * 1024 + r.val, by have := tlt t; omega⟩
def ptSmp (t : Fin cfg0.N) (s : Fin 4) : Fin 128 := ⟨t.val * 4 + s.val, by have := tlt t; omega⟩

variable (t : Fin cfg0.N)

theorem blk0 (r : Fin 1024) (j : Fin 1024) : iblk m c 0 t (ix2 r j) = (V m c main_v0 : Vec Ideal S32768x1024 .f32) (ix2 (ptRow t r) j) := by
  blk_ext [iblk, idx t, ptRow]
theorem blk1 (j : Fin 1024) : iblk m c 1 t (ix2 0 j) = (V m c main_v1 : Vec Ideal S1x1024 .f32) (ix2 0 j) := by
  blk_ext [iblk, idx t]
theorem blk2 (k : Fin 1024) (j : Fin 4608) : iblk m c 2 t (ix2 k j) = (V m c main_v2 : Vec Ideal S1024x4608 .bf16) (ix2 k j) := by
  blk_ext [iblk, idx t]
theorem blk4 (b : Fin 128) (j : Fin 512) : iblk m c 4 t (ix2 b j) = (V m c main_arg4 : Vec Ideal S128x512 .f32) (ix2 b j) := by
  blk_ext [iblk, idx t]
theorem blk5 (s : Fin 4) (f : Fin 256) (w : Fin 128) : iblk m c 5 t (ix3 s f w) = (V m c main_v5 : Vec Ideal S128x256x128 .f32) (ix3 (ptSmp t s) f w) := by
  blk_ext [iblk, idx t, ptSmp]
theorem blk6 (s : Fin 4) (f : Fin 256) (w : Fin 128) : iblk m c 6 t (ix3 s f w) = (V m c main_v7 : Vec Ideal S128x256x128 .f32) (ix3 (ptSmp t s) f w) := by
  blk_ext [iblk, idx t, ptSmp]
theorem emb10 (r : Fin 1024) (j : Fin 2048) : ((cfg0.win 10).blk t).view.emb (ix2 r j) = (ix2 (ptRow t r) j : S32768x2048.Idx) := by
  blk_ext [idx t, ptRow]
theorem emb11 (r : Fin 1024) (j : Fin 512) : ((cfg0.win 11).blk t).view.emb (ix2 r j) = (ix2 (ptRow t r) j : S32768x512.Idx) := by
  blk_ext [idx t, ptRow]
theorem emb12 (r : Fin 1024) (j : Fin 2048) : ((cfg0.win 12).blk t).view.emb (ix2 r j) = (ix2 (ptRow t r) j : S32768x2048.Idx) := by
  blk_ext [idx t, ptRow]
theorem emb13 (r : Fin 1024) (j : Fin 2048) : ((cfg0.win 13).blk t).view.emb (ix2 r j) = (ix2 (ptRow t r) j : S32768x2048.Idx) := by
  blk_ext [idx t, ptRow]
theorem emb15 (s : Fin 4) (f : Fin 256) (w : Fin 128) :
    ((cfg0.win 15).blk t).view.emb (ix3 s f w) = (ix3 (ptSmp t s) f w : S128x256x128.Idx) := by
  blk_ext [idx t, ptSmp]
theorem emb16 (s : Fin 4) (f : Fin 256) (w : Fin 128) :
    ((cfg0.win 16).blk t).view.emb (ix3 s f w) = (ix3 (ptSmp t s) f w : S128x256x128.Idx) := by
  blk_ext [idx t, ptSmp]

theorem smp_eq (s : Fin 4) : smp (grid0.coords t) s = ptSmp t s :=
  Fin.ext (by show 4 * (grid0.coords t 0).val + s.val = t.val * 4 + s.val; rw [coords_val]; omega)

theorem P_row (r : Fin 1024) (n : ℕ) : P (iblk m c 0 t) (iblk m c 1 t) (iblk m c 2 t) r n = (inp m c).pr (ptRow t r) n :=
  P_of (fun k => (blk0 m c t r k).trans (x_entry m c _ k)) (fun k => (blk1 m c t k).trans (g_entry m c k))
    (fun k j => (blk2 m c t k j).trans (w_entry m c k j)) n

theorem scr_at (j : Fin 512) (b : Fin 128) : scr m c (ix2 j b) = (inp m c).kv b j :=
  (pay2_at _ j b).trans ((blk4 m c t₀ b j).trans (congrFun (V_main_arg4 m c) _))

theorem final10 : (dats m 0 c).arrAt 10 cfg0.N = (inp m c).qA := by
  refine (dats m 0 c).arrAt_eq_of_covers 10 _ (by decide +kernel) fun t _ y => ?_
  blk_simp
  idx_vars y
  refine Eq.trans ?_ (congrArg (inp m c).qA (emb10 t y0 y1)).symm
  exact (P_row m c t y0 (0 + y1.val)).trans (congrArg ((inp m c).pr (ptRow t y0)) (Nat.zero_add _))

theorem final11 : (dats m 0 c).arrAt 11 cfg0.N = (inp m c).kvA := by
  refine (dats m 0 c).arrAt_eq_of_covers 11 _ (by decide +kernel) fun t _ y => ?_
  blk_simp
  idx_vars y
  refine Eq.trans ?_ (congrArg (inp m c).kvA (emb11 t y0 y1)).symm
  exact P_row m c t y0 (2048 + y1.val)

theorem final12 : (dats m 0 c).arrAt 12 cfg0.N = (inp m c).gateA := by
  refine (dats m 0 c).arrAt_eq_of_covers 12 _ (by decide +kernel) fun t _ y => ?_
  blk_simp
  idx_vars y
  refine Eq.trans ?_ (congrArg (inp m c).gateA (emb12 t y0 y1)).symm
  exact congrArg InSpec.gateT (P_row m c t y0 (2560 + y1.val))

/-- A padded row of a point is the specification's. -/
theorem Gpad_row (r : Fin 1024) (j : Fin 2048) : Gpad (iblk m c 0 t) (iblk m c 1 t) (iblk m c 2 t) (ix2 r j) = (inp m c).padA (ix2 (ptRow t r) j) :=
  congrArg (fun p => if j.val % 128 / 64 = j.val / 128 % 2 then p else 0) (P_row m c t r _)

theorem final13 : (dats m 0 c).arrAt 13 cfg0.N = (inp m c).padA := by
  refine (dats m 0 c).arrAt_eq_of_covers 13 _ (by decide +kernel) fun t _ y => ?_
  blk_simp
  idx_vars y
  refine Eq.trans ?_ (congrArg (inp m c).padA (emb13 t y0 y1)).symm
  exact Gpad_row m c t y0 y1

theorem final15 : (dats m 0 c).arrAt 15 cfg0.N = (inp m c).winA 0 (by omega) (inp m c).ck := by
  refine (dats m 0 c).arrAt_eq_of_covers 15 _ (by decide +kernel) fun t _ y => ?_
  blk_simp
  idx_vars y
  refine Eq.trans ?_ (congrArg ((inp m c).winA 0 (by omega) (inp m c).ck) (emb15 t y0 y1 y2)).symm
  exact Gwin_of (smp_eq t y0) (fun j => scr_at m c j _) (fun f w => (blk5 m c t y0 f w).trans (ck_entry m c _ f w)) y1 y2

theorem final16 : (dats m 0 c).arrAt 16 cfg0.N = (inp m c).winA 256 (by omega) (inp m c).cv := by
  refine (dats m 0 c).arrAt_eq_of_covers 16 _ (by decide +kernel) fun t _ y => ?_
  blk_simp
  idx_vars y
  refine Eq.trans ?_ (congrArg ((inp m c).winA 256 (by omega) (inp m c).cv) (emb16 t y0 y1 y2)).symm
  exact Gwin_of (smp_eq t y0) (fun j => scr_at m c j _) (fun f w => (blk6 m c t y0 f w).trans (cv_entry m c _ f w)) y1 y2

variable (ρ : Dev nD → PrngReg)

/-- What the whole program leaves. -/
theorem run_value : θ_run defs (onTc (τ := τ) (main (F := Ideal))) ⟨m, fun _ => 0, ρ⟩ (fun r => ∀ c : Dev nD,
    r.2.mem ((c.tc : Thread nD τ).loc main_v11_0) = (inp m c).qA
      ∧ r.2.mem ((c.tc : Thread nD τ).loc main_v11_1) = (inp m c).kvA
      ∧ r.2.mem ((c.tc : Thread nD τ).loc main_v11_2) = (inp m c).gateA
      ∧ r.2.mem ((c.tc : Thread nD τ).loc main_v11_3) = (inp m c).padA
      ∧ r.2.mem ((c.tc : Thread nD τ).loc main_v11_5) = (inp m c).winA 0 (by omega) (inp m c).ck
      ∧ r.2.mem ((c.tc : Thread nD τ).loc main_v11_6) = (inp m c).winA 256 (by omega) (inp m c).cv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (run_main m ρ)
  have e (w : Fin cfg0.W) (hf : fgt w = false) : r.2.mem ((cfg0.spec w).arr.view.loc (c.tc : Thread nD τ)) = (dats m 0 c).arrAt w cfg0.N :=
    ((dats m 0 c).toR_arrAt_iff w _ _).mp (((dats m 0 c).toR.override_arrAt (by simp only [hf]) _ _).mp ((h.1 c).1 w))
  exact ⟨(e 10 rfl).trans (final10 m c), (e 11 rfl).trans (final11 m c), (e 12 rfl).trans (final12 m c), (e 13 rfl).trans (final13 m c),
    (e 15 rfl).trans (final15 m c), (e 16 rfl).trans (final16 m c), kept m h.1 c⟩

end Cert.Kernel5Ideal.Hand

end
-- ==== Proof.AtRef.lean ====
module

public import proofs.«01_k».proof.Proof.Gen.Reference5Ideal.Run
public import proofs.«01_k».proof.Proof.AtSpec
public import Idealize.ShloMosaic.Lib.Pointwise

/-! What the reference of the attention layer's projection leaves, entry by entry. -/

@[expose] public section

set_option maxRecDepth 16384

noncomputable section

namespace Cert.Reference5Ideal.Ent

open Cert.Reference5Ideal Cert.Reference5Ideal.Gen Cert.Reference5Ideal.Value Idealize.ShloMosaic Idealize.ShloMosaic.TcCoe Idealize.SL.Sem

variable (m : (ℓ : Loc nD τ sig) → Buf (Elt Ideal) ℓ) (c : Dev nD)

/-- The arguments' entries. -/
def inp : AtSpec.Inp where
  x b t j := m ((c.tc : Thread nD τ).loc main_arg0) (ix3 b t j)
  g j := m ((c.tc : Thread nD τ).loc main_arg1) (ix1 j)
  w i j := m ((c.tc : Thread nD τ).loc main_arg2) (ix2 i j)
  kv b j := m ((c.tc : Thread nD τ).loc main_arg4) (ix2 b j)
  ck b t h d := m ((c.tc : Thread nD τ).loc main_arg5) (ix4 b t h d)
  cv b t h d := m ((c.tc : Thread nD τ).loc main_arg6) (ix4 b t h d)

/-- The row that the projection makes, as the specification names it. -/
theorem pr_of (r : Fin 32768) (a : Fin 4608) (n : ℕ) (hn : n = a.val) :
    InSpec.proj ((inp m c).x ⟨r / 2048, by omega⟩ ⟨r % 2048, by omega⟩) (inp m c).g (fun k => (inp m c).w k a) = (inp m c).pr r n := by
  subst hn
  rw [AtSpec.Inp.pr, dif_pos a.isLt]

/-- A window moved on by one position, as the reference writes it. -/
theorem win_of (I : AtSpec.Inp) (K : ℕ) (hK : K + 256 ≤ 512) (cache : Fin 128 → Fin 128 → Fin 4 → Fin 64 → EReal) (b : Fin 128) (f : Fin 256)
    (w : Fin 128) (h1 : f.val / 64 < 4) (h2 : f.val % 64 < 64) (a : Fin 512) (ha : a.val = K + f.val) :
    (if h : 1 + w.val < 128 then cache b ⟨1 + w.val, h⟩ ⟨f.val / 64, h1⟩ ⟨f.val % 64, h2⟩ else I.kv b a)
      = I.winA K hK cache (ix3 b f w) := by
  have hf : K + f.val < 512 := by have := f.isLt; clear ha; omega
  show _ = if w.val = 127 then I.kv b ⟨K + f.val, hf⟩ else cache b ⟨(w.val + 1) % 128, by omega⟩ ⟨f.val / 64, h1⟩ ⟨f.val % 64, h2⟩
  obtain rfl : a = ⟨K + f.val, hf⟩ := Fin.ext ha
  by_cases hw : w.val = 127
  · rw [dif_neg (by omega), if_pos hw]
  · have e : (⟨(w.val + 1) % 128, by omega⟩ : Fin 128) = ⟨1 + w.val, by omega⟩ := Fin.ext (by simp only; omega)
    rw [dif_pos (by omega), if_neg hw, e]

/-- The padded layout, as the reference writes it: of each head eight pieces of 64 lanes. -/
theorem pad_of (I : AtSpec.Inp) (r : Fin 32768) (j : Fin 2048) (f1 : j.val % 512 < 64 → EReal)
    (f4 : ¬j.val % 512 < 64 → ¬j.val % 512 - 64 < 64 → ¬j.val % 512 - 64 - 64 < 64 → j.val % 512 - 64 - 64 - 64 < 64 → EReal)
    (f5 : ¬j.val % 512 < 64 → ¬j.val % 512 - 64 < 64 → ¬j.val % 512 - 64 - 64 < 64 → ¬j.val % 512 - 64 - 64 - 64 < 64 → j.val % 512 - 64 - 64 - 64 - 64 < 64 → EReal)
    (f8 : ¬j.val % 512 < 64 → ¬j.val % 512 - 64 < 64 → ¬j.val % 512 - 64 - 64 < 64 → ¬j.val % 512 - 64 - 64 - 64 < 64 → ¬j.val % 512 - 64 - 64 - 64 - 64 < 64 → ¬j.val % 512 - 64 - 64 - 64 - 64 - 64 < 64 → ¬j.val % 512 - 64 - 64 - 64 - 64 - 64 - 64 < 64 → EReal)
    (h1 : ∀ a, f1 a = I.pr r (2048 + (j.val / 512 * 64 + j.val % 512)))
    (h4 : ∀ a b c d, f4 a b c d = I.pr r (2048 + (j.val / 512 * 64 + (j.val % 512 - 64 - 64 - 64))))
    (h5 : ∀ a b c d e, f5 a b c d e = I.pr r (2304 + (j.val / 512 * 64 + (j.val % 512 - 64 - 64 - 64 - 64))))
    (h8 : ∀ a b c d e f g, f8 a b c d e f g = I.pr r (2304 + (j.val / 512 * 64 + (j.val % 512 - 64 - 64 - 64 - 64 - 64 - 64 - 64)))) :
    (if a : j.val % 512 < 64 then f1 a else if b : j.val % 512 - 64 < 64 then 0 else if c : j.val % 512 - 64 - 64 < 64 then 0
      else if d : j.val % 512 - 64 - 64 - 64 < 64 then f4 a b c d else if e : j.val % 512 - 64 - 64 - 64 - 64 < 64 then f5 a b c d e
      else if f : j.val % 512 - 64 - 64 - 64 - 64 - 64 < 64 then 0 else if g : j.val % 512 - 64 - 64 - 64 - 64 - 64 - 64 < 64 then 0 else f8 a b c d e f g)
      = I.padA (ix2 r j) := by
  show _ = if j.val % 128 / 64 = j.val / 128 % 2 then I.pr r (2048 + (256 * (j.val / 256 % 2) + 64 * (j.val / 512) + j.val % 64)) else 0
  simp only [h1, h4, h5, h8]
  split_ifs <;> first | rfl | (exfalso; omega) | exact congrArg (I.pr r) (by omega)

variable (ρ : Dev nD → PrngReg)

theorem run_value (hg : ∀ c k, (inp m c).g k = (((inp m c).g k).toReal : EReal)) (hw : ∀ c k j, (inp m c).w k j = (((inp m c).w k j).toReal : EReal)) :
    θ_run defs (onTc (τ := τ) (main (F := Ideal))) ⟨m, fun _ => 0, ρ⟩ fun r => ∀ c : Dev nD,
      r.2.mem ((c.tc : Thread nD τ).loc main_v30) = (inp m c).qA
      ∧ r.2.mem ((c.tc : Thread nD τ).loc main_v33) = (inp m c).kvA
      ∧ r.2.mem ((c.tc : Thread nD τ).loc main_v36) = (inp m c).gateA
      ∧ r.2.mem ((c.tc : Thread nD τ).loc main_v37) = (inp m c).padA
      ∧ r.2.mem ((c.tc : Thread nD τ).loc main_v40) = (inp m c).winA 0 (by omega) (inp m c).ck
      ∧ r.2.mem ((c.tc : Thread nD τ).loc main_v43) = (inp m c).winA 256 (by omega) (inp m c).cv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h0, h1, h2, h3, h4, h5, ha⟩ := h c
  refine ⟨h0.trans (funext fun z => ?_), h1.trans (funext fun z => ?_), h2.trans (funext fun z => ?_), h3.trans (funext fun z => ?_),
    h4.trans (funext fun z => ?_), h5.trans (funext fun z => ?_), ha⟩
  · obtain ⟨r, j, rfl⟩ : ∃ (r : Fin 32768) (j : Fin 2048), z = ix2 r j := ⟨z 0, z 1, by funext a; fin_cases a <;> rfl⟩
    pointwise
    exact pr_of m c r _ _ rfl
  · obtain ⟨r, j, rfl⟩ : ∃ (r : Fin 32768) (j : Fin 512), z = ix2 r j := ⟨z 0, z 1, by funext a; fin_cases a <;> rfl⟩
    pointwise
    clear h0 h1 h2 h3 h4 h5 ha
    show _ = (inp m c).pr r (2048 + j.val)
    split_ifs
    · exact pr_of m c r _ _ rfl
    · exact pr_of m c r _ _ (by simp only; omega)
    · exact absurd rfl ‹¬_›
  · obtain ⟨r, j, rfl⟩ : ∃ (r : Fin 32768) (j : Fin 2048), z = ix2 r j := ⟨z 0, z 1, by funext a; fin_cases a <;> rfl⟩
    pointwise
    have hp := pr_of m c r ⟨2560 + j.val, by omega⟩ _ rfl
    exact (congrArg (fun p => p * Ideal.div 1 (1 + Ideal.exp (-p))) hp).trans (AtSpec.gate_of (AtSpec.pr_real _ (hg c) (hw c) _ _))
  · obtain ⟨r, j, rfl⟩ : ∃ (r : Fin 32768) (j : Fin 2048), z = ix2 r j := ⟨z 0, z 1, by funext a; fin_cases a <;> rfl⟩
    pointwise [res_main_v37]
    exact pad_of _ _ _ _ _ _ _ (fun _ => pr_of m c r _ _ rfl) (fun _ _ _ _ => pr_of m c r _ _ rfl) (fun _ _ _ _ _ => pr_of m c r _ _ rfl)
      (fun _ _ _ _ _ _ _ => pr_of m c r _ _ rfl)
  · obtain ⟨b, f, w, rfl⟩ : ∃ (b : Fin 128) (f : Fin 256) (w : Fin 128), z = ix3 b f w := ⟨z 0, z 1, z 2, by funext a; fin_cases a <;> rfl⟩
    pointwise
    exact win_of (inp m c) 0 (by omega) (inp m c).ck b f w (by omega) (by omega) _ (by simp only; omega)
  · obtain ⟨b, f, w, rfl⟩ : ∃ (b : Fin 128) (f : Fin 256) (w : Fin 128), z = ix3 b f w := ⟨z 0, z 1, z 2, by funext a; fin_cases a <;> rfl⟩
    pointwise
    exact win_of (inp m c) 256 (by omega) (inp m c).cv b f w (by omega) (by omega) _ rfl

end Cert.Reference5Ideal.Ent

end
-- ==== Proof.AtAlg.lean ====
module

public import proofs.«01_k».proof.Defs
public import proofs.«01_k».proof.Proof.Real
public import proofs.«01_k».proof.Proof.AtVal
public import proofs.«01_k».proof.Proof.AtRef

/-! The attention layer's projection: both programs leave the same six arrays. -/

@[expose] public section

noncomputable section

namespace Cert.AtAlg

open Idealize.ShloMosaic Idealize.SL.Sem Idealize.ShloMosaic.StableHlo

instance facts : Cert.Pre_finite_gw.Facts where
  bcast_S_S1024 := by decide
  bcast_S_S1024x4608 := by decide

/-- The norm's gains and the weights are real numbers. -/
theorem g_finite (m : (ℓ : Loc Cert.Kernel5Ideal.nD Cert.Kernel5Ideal.τ Cert.Kernel5Ideal.sig) → Buf (Elt Ideal) ℓ)
    (h : Cert.Pre_Kernel5Ideal_finite_gw m) (c : Dev Cert.Kernel5Ideal.nD) (k : Fin 1024) :
    (Cert.Kernel5Ideal.Host.inp m c).g k = (((Cert.Kernel5Ideal.Host.inp m c).g k).toReal : EReal) :=
  Cert.Real.coe_of_lt (congrFun (h c).1 (ix1 k))

theorem w_finite (m : (ℓ : Loc Cert.Kernel5Ideal.nD Cert.Kernel5Ideal.τ Cert.Kernel5Ideal.sig) → Buf (Elt Ideal) ℓ)
    (h : Cert.Pre_Kernel5Ideal_finite_gw m) (c : Dev Cert.Kernel5Ideal.nD) (k : Fin 1024) (j : Fin 4608) :
    (Cert.Kernel5Ideal.Host.inp m c).w k j = (((Cert.Kernel5Ideal.Host.inp m c).w k j).toReal : EReal) :=
  Cert.Real.coe_of_lt (congrFun (h c).2 (ix2 k j))

/-- Memories that agree on the arguments give the specification the same inputs. -/
theorem inp_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (h6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) :
    Cert.Reference5Ideal.Ent.inp m' c = Cert.Kernel5Ideal.Host.inp m c := by
  rw [Cert.Reference5Ideal.Ent.inp, Cert.Kernel5Ideal.Host.inp, Cert.AtSpec.Inp.mk.injEq]
  exact ⟨funext fun b => funext fun t => funext fun j => congrFun h0 (ix3 b t j), funext fun j => congrFun h1 (ix1 j),
    funext fun i => funext fun j => congrFun h2 (ix2 i j), funext fun b => funext fun j => congrFun h4 (ix2 b j),
    funext fun b => funext fun t => funext fun h => funext fun d => congrFun h5 (ix4 b t h d),
    funext fun b => funext fun t => funext fun h => funext fun d => congrFun h6 (ix4 b t h d)⟩

/-- From memories that agree on the arguments, both programs leave the specification's six arrays. -/
theorem algebraic : Cert.algebraic_Kernel5Ideal_Reference5Ideal_pre_finite_gw (hKernel5Ideal := Cert.Kernel5Ideal.Gen.facts)
    (hReference5Ideal := Cert.Reference5Ideal.Gen.facts) (hPre_finite_gw := facts) := fun m g m' g' hpre hag => by
  have hi : ∀ c, Cert.Reference5Ideal.Ent.inp m' c = Cert.Kernel5Ideal.Host.inp m c := fun c =>
    inp_eq m m' c (hag c).1 (hag c).2.1 (hag c).2.2.1 (hag c).2.2.2.2.1 (hag c).2.2.2.2.2.1 (hag c).2.2.2.2.2.2.1
  refine ⟨fun c => (Cert.Kernel5Ideal.Host.inp m c).qA, fun c => (Cert.Kernel5Ideal.Host.inp m c).kvA,
    fun c => (Cert.Kernel5Ideal.Host.inp m c).gateA, fun c => (Cert.Kernel5Ideal.Host.inp m c).padA,
    fun c => (Cert.Kernel5Ideal.Host.inp m c).winA 0 (by omega) (Cert.Kernel5Ideal.Host.inp m c).ck,
    fun c => (Cert.Kernel5Ideal.Host.inp m c).winA 256 (by omega) (Cert.Kernel5Ideal.Host.inp m c).cv, Cert.Kernel5Ideal.Hand.run_value m g,
    (θ_run _ _ _).mono (fun r h c => ?_) (Cert.Reference5Ideal.Ent.run_value m' g'
      (fun c k => by rw [hi c]; exact g_finite m hpre c k) (fun c k j => by rw [hi c]; exact w_finite m hpre c k j))⟩
  obtain ⟨h0, h1, h2, h3, h4, h5, ha⟩ := h c
  exact ⟨h0.trans (congrArg (fun I => I.qA) (hi c)), h1.trans (congrArg (fun I => I.kvA) (hi c)), h2.trans (congrArg (fun I => I.gateA) (hi c)),
    h3.trans (congrArg (fun I => I.padA) (hi c)), h4.trans (congrArg (fun I => I.winA 0 (by omega) I.ck) (hi c)),
    h5.trans (congrArg (fun I => I.winA 256 (by omega) I.cv) (hi c)), ha⟩

end Cert.AtAlg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Arr
public import proofs.«01_k».proof.Proof.Loop
public import proofs.«01_k».proof.Proof.Real
public import proofs.«01_k».proof.Proof.Out
public import proofs.«01_k».proof.Proof.OutNorm
public import proofs.«01_k».proof.Proof.InFrame
public import proofs.«01_k».proof.Proof.InAlg
public import proofs.«01_k».proof.Proof.AtFrame
public import proofs.«01_k».proof.Proof.AtAlg
public import Idealize.ShloMosaic.Adequacy
public import Idealize.ShloMosaic.Init

@[expose] public section

noncomputable section

namespace Cert.Proof

open Idealize.ShloMosaic Idealize.SL.Sem Cert.Kernel

/-- The reference keeps its arguments, and it has no semaphore. -/
theorem reference_frame : Cert.quiescent_ReferenceIdeal (hReferenceIdeal := Cert.ReferenceIdeal.Gen.facts) := fun m g _ =>
  (θ_run _ _ _).mono (fun r h => ⟨fun c => (h c).2.2, Idealize.ShloMosaic.sem_eq_zero_of_no_sems (by decide) r.2⟩)
    (Cert.ReferenceIdeal.Value.run m g)

/-- From memories that agree on the arguments, both programs leave the specification's two results. -/
theorem algebraic : Cert.algebraic_KernelIdeal_ReferenceIdeal_pre_finite_qkvg (hKernelIdeal := Cert.KernelIdeal.Gen.facts)
    (hReferenceIdeal := Cert.ReferenceIdeal.Gen.facts) (hPre_finite_qkvg := Cert.Real.facts) := fun m g m' g' hpre hag => by
  have hI := Cert.Real.finite m hpre
  have hi : ∀ c, Cert.ReferenceIdeal.Loop.inp m' c = Cert.KernelIdeal.Host.inp m c := fun c => by
    obtain ⟨h0, h1, h2, h3, h4, h5, h6⟩ := hag c
    rw [Cert.ReferenceIdeal.Loop.inp, Cert.KernelIdeal.Host.inp, Cert.Spec.Inp.mk.injEq]
    exact ⟨funext fun b => funext fun t => funext fun h => funext fun d => congrFun h0 (ix4 b t h d),
      funext fun b => funext fun t => funext fun h => funext fun d => congrFun h1 (ix4 b t h d),
      funext fun b => funext fun t => funext fun h => funext fun e => congrFun h2 (ix4 b t h e),
      funext fun b => funext fun t => funext fun j => congrFun h3 (ix3 b t j),
      funext fun b => funext fun t => funext fun j => congrFun h4 (ix3 b t j),
      funext fun i => funext fun j => congrFun h5 (ix2 i j), funext fun j => congrFun h6 (ix1 j)⟩
  refine ⟨fun c => Cert.KernelIdeal.Arr.yArr m c, fun c => Cert.KernelIdeal.Arr.stArr m c,
    (θ_run _ _ _).mono (fun r h c => ⟨(h c).1.trans (Cert.KernelIdeal.Arr.y_final m (hI c)),
      (h c).2.1.trans (Cert.KernelIdeal.Arr.st_final m (hI c)), (h c).2.2⟩) (Cert.KernelIdeal.Value.run_blocks m g),
    (θ_run _ _ _).mono (fun r h c => ⟨(h c).1.trans ?_, (h c).2.1.trans ?_, (h c).2.2⟩) (Cert.ReferenceIdeal.Value.run m' g')⟩
  · funext z
    obtain ⟨r, j, rfl⟩ : ∃ r j, z = ix2 r j := ⟨z 0, z 1, by funext a; fin_cases a <;> rfl⟩
    refine (Cert.ReferenceIdeal.Loop.y_final m' c (hi c ▸ hI c) r j).trans ?_
    rw [hi c]
    rfl
  · funext z
    obtain ⟨b, h, d, e, rfl⟩ : ∃ b h d e, z = ix4 b h d e := ⟨z 0, z 1, z 2, z 3, by funext a; fin_cases a <;> rfl⟩
    refine (Cert.ReferenceIdeal.Loop.st_final m' c (hi c ▸ hI c) b h d e).trans ?_
    rw [hi c]
    rfl

/-- The reference keeps its arguments, and it has no semaphore. -/
theorem reference2_frame : Cert.quiescent_Reference2Ideal (hReference2Ideal := Cert.Reference2Ideal.Gen.facts) := fun m g _ =>
  (θ_run _ _ _).mono (fun r h => ⟨fun c => (h c).2, Idealize.ShloMosaic.sem_eq_zero_of_no_sems (by decide) r.2⟩)
    (Cert.Reference2Ideal.Value.run m g)

/-- The reference keeps its arguments, and it has no semaphore. -/
theorem reference3_frame : Cert.quiescent_Reference3Ideal (hReference3Ideal := Cert.Reference3Ideal.Gen.facts) := fun m g _ =>
  (θ_run _ _ _).mono (fun r h => ⟨fun c => (h c).2, Idealize.ShloMosaic.sem_eq_zero_of_no_sems (by decide) r.2⟩)
    (Cert.Reference3Ideal.Value.run m g)

/-- The reference keeps its arguments, and it has no semaphore. -/
theorem reference4_frame : Cert.quiescent_Reference4Ideal (hReference4Ideal := Cert.Reference4Ideal.Gen.facts) := fun m g _ =>
  (θ_run _ _ _).mono (fun r h => ⟨fun c => (h c).2.2.2.2.2.2, Idealize.ShloMosaic.sem_eq_zero_of_no_sems (by decide) r.2⟩)
    (Cert.Reference4Ideal.Value.run m g)

/-- The reference keeps its arguments, and it has no semaphore. -/
theorem reference5_frame : Cert.quiescent_Reference5Ideal (hReference5Ideal := Cert.Reference5Ideal.Gen.facts) := fun m g _ =>
  (θ_run _ _ _).mono (fun r h => ⟨fun c => (h c).2.2.2.2.2.2, Idealize.ShloMosaic.sem_eq_zero_of_no_sems (by decide) r.2⟩)
    (Cert.Reference5Ideal.Value.run m g)

/-- From memories that agree on the arguments, both programs leave the projected rows. -/
theorem algebraic2 : Cert.algebraic_Kernel2Ideal_Reference2Ideal (hKernel2Ideal := Cert.Kernel2Ideal.Gen.facts)
    (hReference2Ideal := Cert.Reference2Ideal.Gen.facts) := fun m g m' g' _ hag =>
  ⟨fun c => (Cert.Kernel2Ideal.Gen.dats m 0 c).arrAt 3 Cert.Kernel2Ideal.cfg0.N, Cert.Kernel2Ideal.Value.run_blocks m g,
    (θ_run _ _ _).mono (fun r h c => ⟨(h c).1.trans ((Cert.Out.reference_term _ _ _).trans (by
      rw [(hag c).1, (hag c).2.1, (hag c).2.2]
      exact (Cert.Out.kernel_final m c).symm)), (h c).2⟩) (Cert.Reference2Ideal.Value.run m' g')⟩

/-- From memories that agree on the arguments, both programs leave the normalised rows. -/
theorem algebraic3 : Cert.algebraic_Kernel3Ideal_Reference3Ideal (hKernel3Ideal := Cert.Kernel3Ideal.Gen.facts)
    (hReference3Ideal := Cert.Reference3Ideal.Gen.facts) := fun m g m' g' _ hag =>
  ⟨fun c => (Cert.Kernel3Ideal.Gen.dats m 0 c).arrAt 4 Cert.Kernel3Ideal.cfg0.N, Cert.Kernel3Ideal.Value.run_blocks m g,
    (θ_run _ _ _).mono (fun r h c => ⟨(h c).1.trans ((Cert.OutNorm.reference_term _ _ _ _ _ rfl).trans (by
      rw [(hag c).1, (hag c).2.1, (hag c).2.2.1, (hag c).2.2.2]
      exact (Cert.OutNorm.kernel_final m c).symm)), (h c).2⟩) (Cert.Reference3Ideal.Value.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Real.facts, Cert.InAlg.facts, Cert.AtAlg.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Hand.frame m g, fun m g _ => Cert.Kernel4Ideal.Hand.frame m g, fun m g _ => Cert.Kernel4Ideal.Hand.frame m g,
  reference4_frame, fun m g _ => reference4_frame m g trivial,
  fun m g _ => Cert.Kernel5.Hand.frame m g, fun m g _ => Cert.Kernel5Ideal.Hand.frame m g, fun m g _ => Cert.Kernel5Ideal.Hand.frame m g,
  reference5_frame, fun m g _ => reference5_frame m g trivial,
  trivial, algebraic, trivial, algebraic2, trivial, algebraic3, trivial, Cert.InAlg.algebraic, trivial, Cert.AtAlg.algebraic⟩

end Cert.Proof

end
